-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def preserves_Attn_AttnIdeal : Prop :=
  IdealRules.named_const.Statement Cert.AttnIdeal.κ "s" .f32 0x3DB504F3#32 (((Real.sqrt 128)⁻¹ : ℝ) : EReal)
  ∧ IdealRules.named_const.Statement Cert.AttnIdeal.κ "mask" .f32 0xF149F2CA#32 ⊥

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v13_0)) (v1 : (c : Dev Cert.AttnIdeal.nD) → Buf (Elt Ideal) ((c.tc : Thread Cert.AttnIdeal.nD Cert.AttnIdeal.τ).loc Cert.AttnIdeal.main_v13_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v13_0) = v0 c
          ∧ r.2.mem ((c.tc : Thread Cert.AttnIdeal.nD Cert.AttnIdeal.τ).loc Cert.AttnIdeal.main_v13_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v131) = v0 c
          ∧ r.2.mem ((c.tc : Thread Cert.AttnRefIdeal.nD Cert.AttnRefIdeal.τ).loc Cert.AttnRefIdeal.main_v133) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v4_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v4_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v37) = v0 c
          ∧ r.2.mem ((c.tc : Thread Cert.FfnRefIdeal.nD Cert.FfnRefIdeal.τ).loc Cert.FfnRefIdeal.main_v38) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v15) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v24) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v11) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hGlu : Cert.Glu.Facts) (hGluIdeal : Cert.GluIdeal.Facts) (hGluRefIdeal : Cert.GluRefIdeal.Facts) (hMerge : Cert.Merge.Facts) (hMergeIdeal : Cert.MergeIdeal.Facts) (hMergeRefIdeal : Cert.MergeRefIdeal.Facts) (hQkv : Cert.Qkv.Facts) (hQkvIdeal : Cert.QkvIdeal.Facts) (hQkvRefIdeal : Cert.QkvRefIdeal.Facts),
    quiescent_Attn (hAttn := hAttn)
    ∧ quiescent_AttnIdeal (hAttnIdeal := hAttnIdeal)
    ∧ quiescent_AttnRefIdeal (hAttnRefIdeal := hAttnRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Glu (hGlu := hGlu)
    ∧ quiescent_GluIdeal (hGluIdeal := hGluIdeal)
    ∧ quiescent_GluRefIdeal (hGluRefIdeal := hGluRefIdeal)
    ∧ quiescent_Merge (hMerge := hMerge)
    ∧ quiescent_MergeIdeal (hMergeIdeal := hMergeIdeal)
    ∧ quiescent_MergeRefIdeal (hMergeRefIdeal := hMergeRefIdeal)
    ∧ quiescent_Qkv (hQkv := hQkv)
    ∧ quiescent_QkvIdeal (hQkvIdeal := hQkvIdeal)
    ∧ quiescent_QkvRefIdeal (hQkvRefIdeal := hQkvRefIdeal)
    ∧ preserves_Attn_AttnIdeal
    ∧ algebraic_AttnIdeal_AttnRefIdeal (hAttnIdeal := hAttnIdeal) (hAttnRefIdeal := hAttnRefIdeal)
    ∧ preserves_Ffn_FfnIdeal
    ∧ algebraic_FfnIdeal_FfnRefIdeal (hFfnIdeal := hFfnIdeal) (hFfnRefIdeal := hFfnRefIdeal)
    ∧ preserves_Glu_GluIdeal
    ∧ algebraic_GluIdeal_GluRefIdeal (hGluIdeal := hGluIdeal) (hGluRefIdeal := hGluRefIdeal)
    ∧ preserves_Merge_MergeIdeal
    ∧ algebraic_MergeIdeal_MergeRefIdeal (hMergeIdeal := hMergeIdeal) (hMergeRefIdeal := hMergeRefIdeal)
    ∧ preserves_Qkv_QkvIdeal
    ∧ algebraic_QkvIdeal_QkvRefIdeal (hQkvIdeal := hQkvIdeal) (hQkvRefIdeal := hQkvRefIdeal)
-- ==== Attn.lean ====
abbrev S2x4x2048x3072 : Shape := ⟨4, ![2, 4, 2048, 3072]⟩
abbrev S32x24 : Shape := ⟨2, ![32, 24]⟩
abbrev S128x256 : Shape := ⟨2, ![128, 256]⟩
abbrev S1x128x256 : Shape := ⟨3, ![1, 128, 256]⟩
abbrev S32x8 : Shape := ⟨2, ![32, 8]⟩
abbrev S1x128x256x1 : Shape := ⟨4, ![1, 128, 256, 1]⟩
abbrev S32 : Shape := ⟨1, ![32]⟩
abbrev S1x1x1x32 : Shape := ⟨4, ![1, 1, 1, 32]⟩
abbrev S1x128x256x32 : Shape := ⟨4, ![1, 128, 256, 32]⟩
abbrev S8x32 : Shape := ⟨2, ![8, 32]⟩
abbrev S8x1x1x32 : Shape := ⟨4, ![8, 1, 1, 32]⟩
abbrev S_ : Shape := ⟨0, ![]⟩
abbrev S8x128x256x32 : Shape := ⟨4, ![8, 128, 256, 32]⟩
abbrev S8x128x256 : Shape := ⟨3, ![8, 128, 256]⟩
abbrev S2x4x2048x1024 : Shape := ⟨4, ![2, 4, 2048, 1024]⟩
abbrev S2x4x2048x128 : Shape := ⟨4, ![2, 4, 2048, 128]⟩
abbrev S1x1x1024x1024 : Shape := ⟨4, ![1, 1, 1024, 1024]⟩
abbrev S1x1x64x1024 : Shape := ⟨4, ![1, 1, 64, 1024]⟩
abbrev S1x1x1024x128 : Shape := ⟨4, ![1, 1, 1024, 128]⟩
abbrev S1x1152x1024 : Shape := ⟨3, ![1, 1152, 1024]⟩
abbrev S64x1024 : Shape := ⟨2, ![64, 1024]⟩
abbrev S1x64x1024 : Shape := ⟨3, ![1, 64, 1024]⟩
abbrev S1024x1024 : Shape := ⟨2, ![1024, 1024]⟩
abbrev S1x1024x1024 : Shape := ⟨3, ![1, 1024, 1024]⟩
abbrev S1x256 : Shape := ⟨2, ![1, 256]⟩
abbrev S128x128 : Shape := ⟨2, ![128, 128]⟩
abbrev S1x1x128x128 : Shape := ⟨4, ![1, 1, 128, 128]⟩
abbrev S1x256x128 : Shape := ⟨3, ![1, 256, 128]⟩
abbrev S256x128 : Shape := ⟨2, ![256, 128]⟩
abbrev S128 : Shape := ⟨1, ![128]⟩
abbrev S128x1 : Shape := ⟨2, ![128, 1]⟩

abbrev nBuf : Space → Nat
  | .hbm => 29
  | .vmem => 21
  | .smem => 0
  | _ => 0

abbrev bufTy : (tb : Table) → Fin (tcTables nBuf tb) → BufTy
  | .hbm, ⟨0, _⟩ => ⟨S2x4x2048x3072, .bf16⟩
  | .hbm, ⟨1, _⟩ => ⟨S32x24, .f32⟩
  | .hbm, ⟨2, _⟩ => ⟨S128x256, .i32⟩
  | .hbm, ⟨3, _⟩ => ⟨S128x256, .i1⟩
  | .hbm, ⟨4, _⟩ => ⟨S1x128x256, .i1⟩
  | .hbm, ⟨5, _⟩ => ⟨S32x8, .f32⟩
  | .hbm, ⟨6, _⟩ => ⟨S1x128x256x1, .i32⟩
  | .hbm, ⟨7, _⟩ => ⟨S32, .i32⟩
  | .hbm, ⟨8, _⟩ => ⟨S1x1x1x32, .i32⟩
  | .hbm, ⟨9, _⟩ => ⟨S1x128x256x32, .i32⟩
  | .hbm, ⟨10, _⟩ => ⟨S1x128x256x32, .i32⟩
  | .hbm, ⟨11, _⟩ => ⟨S1x128x256x32, .i1⟩
  | .hbm, ⟨12, _⟩ => ⟨S8x32, .f32⟩
  | .hbm, ⟨13, _⟩ => ⟨S8x1x1x32, .f32⟩
  | .hbm, ⟨14, _⟩ => ⟨S_, .f32⟩
  | .hbm, ⟨15, _⟩ => ⟨S_, .f32⟩
  | .hbm, ⟨16, _⟩ => ⟨S8x128x256x32, .i1⟩
  | .hbm, ⟨17, _⟩ => ⟨S8x128x256x32, .f32⟩
  | .hbm, ⟨18, _⟩ => ⟨S8x128x256x32, .f32⟩
  | .hbm, ⟨19, _⟩ => ⟨S8x128x256x32, .f32⟩
  | .hbm, ⟨20, _⟩ => ⟨S_, .f32⟩
  | .hbm, ⟨21, _⟩ => ⟨S8x128x256, .f32⟩
  | .hbm, ⟨22, _⟩ => ⟨S_, .f32⟩
  | .hbm, ⟨23, _⟩ => ⟨S_, .f32⟩
  | .hbm, ⟨24, _⟩ => ⟨S8x128x256, .i1⟩
  | .hbm, ⟨25, _⟩ => ⟨S8x128x256, .f32⟩
  | .hbm, ⟨26, _⟩ => ⟨S8x128x256, .f32⟩
  | .hbm, ⟨27, _⟩ => ⟨S2x4x2048x1024, .f32⟩
  | .hbm, ⟨28, _⟩ => ⟨S2x4x2048x128, .f32⟩
  | .local _ .vmem, ⟨0, _⟩ => ⟨S1x1x1024x1024, .bf16⟩
  | .local _ .vmem, ⟨1, _⟩ => ⟨S1x1x1024x1024, .bf16⟩
  | .local _ .vmem, ⟨2, _⟩ => ⟨S1x1x64x1024, .bf16⟩
  | .local _ .vmem, ⟨3, _⟩ => ⟨S1x1x64x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1x1x64x1024, .bf16⟩
  | .local _ .vmem, ⟨7, _⟩ => ⟨S1x1x64x1024, .bf16⟩
  | .local _ .vmem, ⟨8, _⟩ => ⟨S1x1x64x1024, .bf16⟩
  | .local _ .vmem, ⟨9, _⟩ => ⟨S1x1x64x1024, .bf16⟩
  | .local _ .vmem, ⟨10, _⟩ => ⟨S1x1x1024x1024, .bf16⟩
  | .local _ .vmem, ⟨11, _⟩ => ⟨S1x1x1024x1024, .bf16⟩
  | .local _ .vmem, ⟨12, _⟩ => ⟨S1x1x64x1024, .bf16⟩
  | .local _ .vmem, ⟨13, _⟩ => ⟨S1x1x64x1024, .bf16⟩
  | .local _ .vmem, ⟨14, _⟩ => ⟨S8x128x256, .f32⟩
  | .local _ .vmem, ⟨15, _⟩ => ⟨S1x1x1024x1024, .f32⟩
  | .local _ .vmem, ⟨16, _⟩ => ⟨S1x1x1024x1024, .f32⟩
  | .local _ .vmem, ⟨17, _⟩ => ⟨S1x1x1024x128, .f32⟩
  | .local _ .vmem, ⟨18, _⟩ => ⟨S1x1x1024x128, .f32⟩
  | .local _ .vmem, ⟨19, _⟩ => ⟨S1x1152x1024, .bf16⟩
  | .local _ .vmem, ⟨20, _⟩ => ⟨S1x1152x1024, .bf16⟩
  | _, _ => ⟨S2x4x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![2, 4, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg2 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, arg1.toNat, v2.toNat, c1_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c16_i32 : BitVec 32 := 16#32
  let v1 : BitVec 32 := Scalar.muli v0 c16_i32
  let c31_i32 : BitVec 32 := 31#32
  let v2 : BitVec 32 := Scalar.minsi v1 c31_i32
  let c1_i32_0 : BitVec 32 := 1#32
  let c0_i32 : BitVec 32 := 0#32
  ![arg0.toNat, arg1.toNat, v2.toNat, c1_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg2 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, arg1.toNat, v2.toNat, c2_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c16_i32 : BitVec 32 := 16#32
  let v1 : BitVec 32 := Scalar.muli v0 c16_i32
  let c31_i32 : BitVec 32 := 31#32
  let v2 : BitVec 32 := Scalar.minsi v1 c31_i32
  let c2_i32 : BitVec 32 := 2#32
  let c0_i32 : BitVec 32 := 0#32
  ![arg0.toNat, arg1.toNat, v2.toNat, c2_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S8x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== AttnIdeal.lean ====
variable {F : FTy → Type} [FloatOps F] [Named F]
def κ : String → Option EReal := fun
  | "mask" => some ⊥
  | "s" => some (((Real.sqrt 128)⁻¹ : ℝ) : EReal)
  | _ => none
-- ==== AttnRefIdeal.lean ====
abbrev S2x4x2048x3072 : Shape := ⟨4, ![2, 4, 2048, 3072]⟩
abbrev S32x24 : Shape := ⟨2, ![32, 24]⟩
abbrev S2x2048x4x3072 : Shape := ⟨4, ![2, 2048, 4, 3072]⟩
abbrev S2x2048x4x3x8x128 : Shape := ⟨6, ![2, 2048, 4, 3, 8, 128]⟩
abbrev S2x2048x4x1x8x128 : Shape := ⟨6, ![2, 2048, 4, 1, 8, 128]⟩
abbrev S2x2048x4x8x128 : Shape := ⟨5, ![2, 2048, 4, 8, 128]⟩
abbrev S32x8 : Shape := ⟨2, ![32, 8]⟩
abbrev S2x32x64x4x8x128 : Shape := ⟨6, ![2, 32, 64, 4, 8, 128]⟩
abbrev S_ : Shape := ⟨0, ![]⟩
abbrev S2x2176x4x8x128 : Shape := ⟨5, ![2, 2176, 4, 8, 128]⟩
abbrev S2x34x64x4x8x128 : Shape := ⟨6, ![2, 34, 64, 4, 8, 128]⟩
abbrev S2x32x192x4x8x128 : Shape := ⟨6, ![2, 32, 192, 4, 8, 128]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S32 : Shape := ⟨1, ![32]⟩
abbrev S32x1x1 : Shape := ⟨3, ![32, 1, 1]⟩
abbrev S1x1x192 : Shape := ⟨3, ![1, 1, 192]⟩
abbrev S32x1x192 : Shape := ⟨3, ![32, 1, 192]⟩
abbrev S1x64x192 : Shape := ⟨3, ![1, 64, 192]⟩
abbrev S32x64x192 : Shape := ⟨3, ![32, 64, 192]⟩
abbrev S64x192x1 : Shape := ⟨3, ![64, 192, 1]⟩
abbrev S64x192x8 : Shape := ⟨3, ![64, 192, 8]⟩
abbrev S8x64x192 : Shape := ⟨3, ![8, 64, 192]⟩
abbrev S2x32x4x8x64x192 : Shape := ⟨6, ![2, 32, 4, 8, 64, 192]⟩
abbrev S1x32x1x1x64x192 : Shape := ⟨6, ![1, 32, 1, 1, 64, 192]⟩
abbrev S1x1x1x8x64x192 : Shape := ⟨6, ![1, 1, 1, 8, 64, 192]⟩
abbrev S2x32x4x8x64 : Shape := ⟨5, ![2, 32, 4, 8, 64]⟩
abbrev S2x32x4x8x64x1 : Shape := ⟨6, ![2, 32, 4, 8, 64, 1]⟩
abbrev S2x32x4x8x128x64 : Shape := ⟨6, ![2, 32, 4, 8, 128, 64]⟩
abbrev S2x2048x4x1024 : Shape := ⟨4, ![2, 2048, 4, 1024]⟩
abbrev S2x32x64x4x8 : Shape := ⟨5, ![2, 32, 64, 4, 8]⟩
abbrev S2x2048x4x8 : Shape := ⟨4, ![2, 2048, 4, 8]⟩
abbrev S2x4x2048x1024 : Shape := ⟨4, ![2, 4, 2048, 1024]⟩
abbrev S2x4x2048x8 : Shape := ⟨4, ![2, 4, 2048, 8]⟩
abbrev S2x4x2048x128 : Shape := ⟨4, ![2, 4, 2048, 128]⟩

abbrev nBuf : Space → Nat
  | .hbm => 170
  | .vmem => 0
  | .smem => 0
  | _ => 0

abbrev hbmTy0_0 (i : Nat) : BufTy := match i % 128 with
  | 0 => ⟨S2x4x2048x3072, .bf16⟩
  | 1 => ⟨S32x24, .f32⟩
  | 2 => ⟨S2x4x2048x3072, .f32⟩
  | 3 => ⟨S2x2048x4x3072, .f32⟩
  | 4 => ⟨S2x2048x4x3x8x128, .f32⟩
  | 5 => ⟨S2x2048x4x1x8x128, .f32⟩
  | 6 => ⟨S2x2048x4x8x128, .f32⟩
  | 7 => ⟨S2x2048x4x1x8x128, .f32⟩
  | 8 => ⟨S2x2048x4x8x128, .f32⟩
  | 9 => ⟨S2x2048x4x1x8x128, .f32⟩
  | 10 => ⟨S2x2048x4x8x128, .f32⟩
  | 11 => ⟨S32x8, .f32⟩
  | 12 => ⟨S2x32x64x4x8x128, .f32⟩
  | 13 => ⟨S_, .i32⟩
  | 14 => ⟨S_, .f32⟩
  | 15 => ⟨S2x2176x4x8x128, .f32⟩
  | 16 => ⟨S2x34x64x4x8x128, .f32⟩
  | 17 => ⟨S2x32x64x4x8x128, .f32⟩
  | 18 => ⟨S2x32x64x4x8x128, .f32⟩
  | 19 => ⟨S2x32x64x4x8x128, .f32⟩
  | 20 => ⟨S2x32x192x4x8x128, .f32⟩
  | 21 => ⟨S_, .i32⟩
  | 22 => ⟨S_, .f32⟩
  | 23 => ⟨S2x2176x4x8x128, .f32⟩
  | 24 => ⟨S2x34x64x4x8x128, .f32⟩
  | 25 => ⟨S2x32x64x4x8x128, .f32⟩
  | 26 => ⟨S2x32x64x4x8x128, .f32⟩
  | 27 => ⟨S2x32x64x4x8x128, .f32⟩
  | 28 => ⟨S2x32x192x4x8x128, .f32⟩
  | 29 => ⟨S64, .i32⟩
  | 30 => ⟨S64x1, .i32⟩
  | 31 => ⟨S192, .i32⟩
  | 32 => ⟨S1x192, .i32⟩
  | 33 => ⟨S_, .i32⟩
  | 34 => ⟨S1x192, .i32⟩
  | 35 => ⟨S1x192, .i32⟩
  | 36 => ⟨S64x192, .i32⟩
  | 37 => ⟨S64x192, .i32⟩
  | 38 => ⟨S64x192, .i32⟩
  | 39 => ⟨S32, .i32⟩
  | 40 => ⟨S32x1x1, .i32⟩
  | 41 => ⟨S_, .i32⟩
  | 42 => ⟨S32x1x1, .i32⟩
  | 43 => ⟨S32x1x1, .i32⟩
  | 44 => ⟨S1x1x192, .i32⟩
  | 45 => ⟨S32x1x192, .i32⟩
  | 46 => ⟨S32x1x192, .i32⟩
  | 47 => ⟨S32x1x192, .i32⟩
  | 48 => ⟨S_, .i32⟩
  | 49 => ⟨S32x1x192, .i32⟩
  | 50 => ⟨S32x1x192, .i32⟩
  | 51 => ⟨S64x192, .i32⟩
  | 52 => ⟨S1x64x192, .i32⟩
  | 53 => ⟨S_, .i32⟩
  | 54 => ⟨S1x64x192, .i32⟩
  | 55 => ⟨S1x64x192, .i1⟩
  | 56 => ⟨S_, .i32⟩
  | 57 => ⟨S32x1x192, .i32⟩
  | 58 => ⟨S32x1x192, .i1⟩
  | 59 => ⟨S32x64x192, .i1⟩
  | 60 => ⟨S32x64x192, .i1⟩
  | 61 => ⟨S32x64x192, .i1⟩
  | 62 => ⟨S_, .i32⟩
  | 63 => ⟨S32x1x192, .i32⟩
  | 64 => ⟨S32x1x192, .i1⟩
  | 65 => ⟨S32x64x192, .i1⟩
  | 66 => ⟨S32x64x192, .i1⟩
  | 67 => ⟨S_, .i32⟩
  | 68 => ⟨S64x192, .i32⟩
  | 69 => ⟨S64x192, .i32⟩
  | 70 => ⟨S_, .i32⟩
  | 71 => ⟨S64x192, .i32⟩
  | 72 => ⟨S64x192, .i1⟩
  | 73 => ⟨S64x192, .i32⟩
  | 74 => ⟨S_, .i32⟩
  | 75 => ⟨S64x192, .i32⟩
  | 76 => ⟨S64x192, .i32⟩
  | 77 => ⟨S64x192, .i32⟩
  | 78 => ⟨S_, .i32⟩
  | 79 => ⟨S64x192, .i32⟩
  | 80 => ⟨S64x192, .i1⟩
  | 81 => ⟨S64x192, .i32⟩
  | 82 => ⟨S_, .i32⟩
  | 83 => ⟨S64x192, .i32⟩
  | 84 => ⟨S64x192, .i32⟩
  | 85 => ⟨S_, .i32⟩
  | 86 => ⟨S64x192, .i32⟩
  | 87 => ⟨S64x192, .i1⟩
  | 88 => ⟨S64x192, .i32⟩
  | 89 => ⟨S64x192, .i32⟩
  | 90 => ⟨S_, .i32⟩
  | 91 => ⟨S64x192, .i32⟩
  | 92 => ⟨S64x192, .i1⟩
  | 93 => ⟨S64x192, .i32⟩
  | 94 => ⟨S64x192, .i32⟩
  | 95 => ⟨S_, .i32⟩
  | 96 => ⟨S64x192, .i32⟩
  | 97 => ⟨S64x192, .i1⟩
  | 98 => ⟨S64x192, .i32⟩
  | 99 => ⟨S64x192, .i32⟩
  | 100 => ⟨S_, .i32⟩
  | 101 => ⟨S64x192, .i32⟩
  | 102 => ⟨S64x192, .i1⟩
  | 103 => ⟨S64x192, .i32⟩
  | 104 => ⟨S64x192, .i32⟩
  | 105 => ⟨S_, .i32⟩
  | 106 => ⟨S64x192, .i32⟩
  | 107 => ⟨S64x192, .i1⟩
  | 108 => ⟨S64x192, .i32⟩
  | 109 => ⟨S64x192, .i32⟩
  | 110 => ⟨S_, .i32⟩
  | 111 => ⟨S64x192, .i32⟩
  | 112 => ⟨S64x192, .i1⟩
  | 113 => ⟨S64x192, .i32⟩
  | 114 => ⟨S64x192, .i32⟩
  | 115 => ⟨S_, .i32⟩
  | 116 => ⟨S64x192, .i32⟩
  | 117 => ⟨S64x192, .i1⟩
  | 118 => ⟨S64x192, .i32⟩
  | 119 => ⟨S64x192, .i32⟩
  | 120 => ⟨S_, .i32⟩
  | 121 => ⟨S64x192, .i32⟩
  | 122 => ⟨S64x192, .i1⟩
  | 123 => ⟨S_, .i32⟩
  | 124 => ⟨S64x192, .i32⟩
  | 125 => ⟨S64x192, .i32⟩
  | 126 => ⟨S64x192, .i32⟩
  | 127 => ⟨S64x192x1, .i32⟩
  | _ => ⟨S2x4x2048x3072, .bf16⟩

abbrev hbmTy0_1 (i : Nat) : BufTy := match i % 128 with
  | 0 => ⟨S64x192x8, .f32⟩
  | 1 => ⟨S8x64x192, .f32⟩
  | 2 => ⟨S2x32x4x8x64x192, .f32⟩
  | 3 => ⟨S_, .f32⟩
  | 4 => ⟨S_, .f32⟩
  | 5 => ⟨S2x32x4x8x64x192, .f32⟩
  | 6 => ⟨S2x32x4x8x64x192, .f32⟩
  | 7 => ⟨S1x32x1x1x64x192, .i1⟩
  | 8 => ⟨S1x1x1x8x64x192, .f32⟩
  | 9 => ⟨S2x32x4x8x64x192, .f32⟩
  | 10 => ⟨S2x32x4x8x64x192, .f32⟩
  | 11 => ⟨S_, .f32⟩
  | 12 => ⟨S_, .f32⟩
  | 13 => ⟨S2x32x4x8x64x192, .i1⟩
  | 14 => ⟨S2x32x4x8x64x192, .f32⟩
  | 15 => ⟨S2x32x4x8x64x192, .f32⟩
  | 16 => ⟨S_, .f32⟩
  | 17 => ⟨S2x32x4x8x64, .f32⟩
  | 18 => ⟨S2x32x4x8x64x1, .f32⟩
  | 19 => ⟨S2x32x4x8x64x192, .f32⟩
  | 20 => ⟨S2x32x4x8x64x192, .f32⟩
  | 21 => ⟨S2x32x4x8x64x192, .f32⟩
  | 22 => ⟨S_, .f32⟩
  | 23 => ⟨S2x32x4x8x64, .f32⟩
  | 24 => ⟨S2x32x4x8x64, .f32⟩
  | 25 => ⟨S2x32x4x8x64, .f32⟩
  | 26 => ⟨S2x32x4x8x64x1, .f32⟩
  | 27 => ⟨S_, .f32⟩
  | 28 => ⟨S2x32x4x8x64x1, .f32⟩
  | 29 => ⟨S2x32x4x8x64x1, .f32⟩
  | 30 => ⟨S2x32x4x8x64x192, .f32⟩
  | 31 => ⟨S2x32x4x8x64x192, .f32⟩
  | 32 => ⟨S2x32x4x8x128x64, .f32⟩
  | 33 => ⟨S2x32x64x4x8x128, .f32⟩
  | 34 => ⟨S2x2048x4x1024, .f32⟩
  | 35 => ⟨S2x32x64x4x8, .f32⟩
  | 36 => ⟨S2x2048x4x8, .f32⟩
  | 37 => ⟨S2x4x2048x1024, .f32⟩
  | 38 => ⟨S2x4x2048x8, .f32⟩
  | 39 => ⟨S_, .i32⟩
  | 40 => ⟨S_, .f32⟩
  | 41 => ⟨S2x4x2048x128, .f32⟩
  | _ => ⟨S2x4x2048x3072, .bf16⟩

abbrev hbmTy (i : Nat) : BufTy := match i / 128 with
  | 0 => hbmTy0_0 i
  | 1 => hbmTy0_1 i
  | _ => ⟨S2x4x2048x3072, .bf16⟩

abbrev bufTy : (tb : Table) → Fin (tcTables nBuf tb) → BufTy
  | .hbm, ⟨i, _⟩ => hbmTy i
  | _, _ => ⟨S2x4x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_call1_v0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_c_4 : Ref sig .tc := ⟨.hbm, 53, rfl⟩
abbrev main_v44 : Ref sig .tc := ⟨.hbm, 54, rfl⟩
abbrev main_v45 : Ref sig .tc := ⟨.hbm, 55, rfl⟩
abbrev main_c_5 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_c_7 : Ref sig .tc := ⟨.hbm, 67, rfl⟩
abbrev main_v55 : Ref sig .tc := ⟨.hbm, 68, rfl⟩
abbrev main_v56 : Ref sig .tc := ⟨.hbm, 69, rfl⟩
abbrev main_c_8 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_c_9 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_c_10 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c_11 : Ref sig .tc := ⟨.hbm, 82, rfl⟩
abbrev main_v66 : Ref sig .tc := ⟨.hbm, 83, rfl⟩
abbrev main_v67 : Ref sig .tc := ⟨.hbm, 84, rfl⟩
abbrev main_c_12 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_c_13 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_c_14 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_c_15 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_c_16 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_c_17 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_c_18 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_c_19 : Ref sig .tc := ⟨.hbm, 120, rfl⟩
abbrev main_v96 : Ref sig .tc := ⟨.hbm, 121, rfl⟩
abbrev main_v97 : Ref sig .tc := ⟨.hbm, 122, rfl⟩
abbrev main_c_20 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_21 : Ref sig .tc := ⟨.hbm, 139, rfl⟩
abbrev main_call3_v0 : Ref sig .tc := ⟨.hbm, 140, rfl⟩
abbrev main_call3_v1 : Ref sig .tc := ⟨.hbm, 141, rfl⟩
abbrev main_call3_v2 : Ref sig .tc := ⟨.hbm, 142, rfl⟩
abbrev main_v112 : Ref sig .tc := ⟨.hbm, 143, rfl⟩
abbrev main_cst_22 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_23 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_24 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_c_25 : Ref sig .tc := ⟨.hbm, 167, rfl⟩
abbrev main_call4_v0 : Ref sig .tc := ⟨.hbm, 168, rfl⟩
abbrev main_v133 : Ref sig .tc := ⟨.hbm, 169, rfl⟩

abbrev nD : Nat := 1
abbrev τ : Topo := Topo.v7x

variable {F : FTy → Type} [FloatOps F]
-- ==== Ffn.lean ====
abbrev S16384x4096 : Shape := ⟨2, ![16384, 4096]⟩
abbrev S4096x11008 : Shape := ⟨2, ![4096, 11008]⟩
abbrev S11008x4096 : Shape := ⟨2, ![11008, 4096]⟩
abbrev S1x4096 : Shape := ⟨2, ![1, 4096]⟩
abbrev S1024x4096 : Shape := ⟨2, ![1024, 4096]⟩
abbrev S4096x256 : Shape := ⟨2, ![4096, 256]⟩
abbrev S256x4096 : Shape := ⟨2, ![256, 4096]⟩
abbrev S64x4096 : Shape := ⟨2, ![64, 4096]⟩
abbrev S1024x256 : Shape := ⟨2, ![1024, 256]⟩
abbrev S256x512 : Shape := ⟨2, ![256, 512]⟩
abbrev S1024x512 : Shape := ⟨2, ![1024, 512]⟩
abbrev S64x512 : Shape := ⟨2, ![64, 512]⟩
abbrev S64 : Shape := ⟨1, ![64]⟩
abbrev S64x1 : Shape := ⟨2, ![64, 1]⟩
abbrev S1x512 : Shape := ⟨2, ![1, 512]⟩

abbrev nBuf : Space → Nat
  | .hbm => 12
  | .vmem => 22
  | .smem => 0
  | _ => 0

abbrev bufTy : (tb : Table) → Fin (tcTables nBuf tb) → BufTy
  | .hbm, ⟨0, _⟩ => ⟨S16384x4096, .f32⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S1x4096, .f32⟩
  | .hbm, ⟨5, _⟩ => ⟨S1x4096, .f32⟩
  | .hbm, ⟨6, _⟩ => ⟨S16384x4096, .bf16⟩
  | .hbm, ⟨7, _⟩ => ⟨S4096x11008, .bf16⟩
  | .hbm, ⟨8, _⟩ => ⟨S4096x11008, .bf16⟩
  | .hbm, ⟨9, _⟩ => ⟨S11008x4096, .bf16⟩
  | .hbm, ⟨10, _⟩ => ⟨S16384x4096, .f32⟩
  | .hbm, ⟨11, _⟩ => ⟨S16384x4096, .bf16⟩
  | .local _ .vmem, ⟨0, _⟩ => ⟨S1024x4096, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S256x4096, .bf16⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S64x4096, .f32⟩
  | .local _ .vmem, ⟨14, _⟩ => ⟨S64x4096, .f32⟩
  | .local _ .vmem, ⟨15, _⟩ => ⟨S1x4096, .f32⟩
  | .local _ .vmem, ⟨16, _⟩ => ⟨S1x4096, .f32⟩
  | .local _ .vmem, ⟨17, _⟩ => ⟨S64x4096, .f32⟩
  | .local _ .vmem, ⟨18, _⟩ => ⟨S64x4096, .f32⟩
  | .local _ .vmem, ⟨19, _⟩ => ⟨S64x4096, .bf16⟩
  | .local _ .vmem, ⟨20, _⟩ => ⟨S64x4096, .bf16⟩
  | .local _ .vmem, ⟨21, _⟩ => ⟨S1024x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![16, 38], ![false, false]⟩

def k0_cond4 (i : grid0.Coords) : BitVec 1 :=
  let arg1 : BitVec 32 := BitVec.ofNat 32 (i 1).val
  let c16_i32 : BitVec 32 := 16#32
  let v11 : BitVec 1 := Scalar.cmpi .slt arg1 c16_i32
  let v12 : BitVec 32 := Scalar.extui v11
  let c0_i32_5 : BitVec 32 := 0#32
  let v13 : BitVec 1 := Scalar.cmpi .ne v12 c0_i32_5
  v13

def k0_mult1 : BitVec 32 :=
  let c0_i32_7 : BitVec 32 := 0#32
  let c64_i32_8 : BitVec 32 := 64#32
  let v18 : BitVec 32 := Scalar.muli c0_i32_7 c64_i32_8
  v18
def k0_mult2 (i : grid0.Coords) : BitVec 32 :=
  let arg1 : BitVec 32 := BitVec.ofNat 32 (i 1).val
  let c64_i32 : BitVec 32 := 64#32
  let v17 : BitVec 32 := Scalar.muli arg1 c64_i32
  let c0_i32_7 : BitVec 32 := 0#32
  let c64_i32_8 : BitVec 32 := 64#32
  let v18 : BitVec 32 := Scalar.muli c0_i32_7 c64_i32_8
  let v19 : BitVec 32 := v18
  let v20 : BitVec 32 := Scalar.addi v17 v19
  v20
def k0_off1 (i : grid0.Coords) : Fin 2 → Nat :=
  let arg1 : BitVec 32 := BitVec.ofNat 32 (i 1).val
  let c64_i32 : BitVec 32 := 64#32
  let v17 : BitVec 32 := Scalar.muli arg1 c64_i32
  let c0_i32_7 : BitVec 32 := 0#32
  let c64_i32_8 : BitVec 32 := 64#32
  let v18 : BitVec 32 := Scalar.muli c0_i32_7 c64_i32_8
  let v19 : BitVec 32 := v18
  let v20 : BitVec 32 := Scalar.addi v17 v19
  let v21 : BitVec 32 := v20
  let v22 : Index := Scalar.indexCast v21
  let c0 : Index := 0#32
  ![v22.toNat, 0]
def k0_off2 : Fin 2 → Nat :=
  let c0_i32_7 : BitVec 32 := 0#32
  let c64_i32_8 : BitVec 32 := 64#32
  let v18 : BitVec 32 := Scalar.muli c0_i32_7 c64_i32_8
  let v19 : BitVec 32 := v18
  let v24 : Index := Scalar.indexCast v19
  let c0_9 : Index := 0#32
  ![v24.toNat, 0]
def k0_cond5 (i : grid0.Coords) : BitVec 1 :=
  let arg1 : BitVec 32 := BitVec.ofNat 32 (i 1).val
  let c22_i32 : BitVec 32 := 22#32
  let v14 : BitVec 1 := Scalar.cmpi .sge arg1 c22_i32
  let v15 : BitVec 32 := Scalar.extui v14
  let c0_i32_6 : BitVec 32 := 0#32
  let v16 : BitVec 1 := Scalar.cmpi .ne v15 c0_i32_6
  v16

def k0_mult3 : BitVec 32 :=
  let c0_i32_8 : BitVec 32 := 0#32
  let c64_i32_9 : BitVec 32 := 64#32
  let v19 : BitVec 32 := Scalar.muli c0_i32_8 c64_i32_9
  v19
def k0_mult4 (i : grid0.Coords) : BitVec 32 :=
  let arg1 : BitVec 32 := BitVec.ofNat 32 (i 1).val
  let c22_i32_7 : BitVec 32 := 22#32
  let v17 : BitVec 32 := Scalar.subi arg1 c22_i32_7
  let c64_i32 : BitVec 32 := 64#32
  let v18 : BitVec 32 := Scalar.muli v17 c64_i32
  let c0_i32_8 : BitVec 32 := 0#32
  let c64_i32_9 : BitVec 32 := 64#32
  let v19 : BitVec 32 := Scalar.muli c0_i32_8 c64_i32_9
  let v20 : BitVec 32 := v19
  let v21 : BitVec 32 := Scalar.addi v18 v20
  v21
def k0_off3 (i : grid0.Coords) : Fin 2 → Nat :=
  let arg1 : BitVec 32 := BitVec.ofNat 32 (i 1).val
  let c22_i32_7 : BitVec 32 := 22#32
  let v17 : BitVec 32 := Scalar.subi arg1 c22_i32_7
  let c64_i32 : BitVec 32 := 64#32
  let v18 : BitVec 32 := Scalar.muli v17 c64_i32
  let c0_i32_8 : BitVec 32 := 0#32
  let c64_i32_9 : BitVec 32 := 64#32
  let v19 : BitVec 32 := Scalar.muli c0_i32_8 c64_i32_9
  let v20 : BitVec 32 := v19
  let v21 : BitVec 32 := Scalar.addi v18 v20
  let v22 : BitVec 32 := v21
  let v23 : Index := Scalar.indexCast v22
  let c0 : Index := 0#32
  ![v23.toNat, 0]
def k0_off4 (i : grid0.Coords) : Fin 2 → Nat :=
  let arg1 : BitVec 32 := BitVec.ofNat 32 (i 1).val
  let c22_i32_7 : BitVec 32 := 22#32
  let v17 : BitVec 32 := Scalar.subi arg1 c22_i32_7
  let c64_i32 : BitVec 32 := 64#32
  let v18 : BitVec 32 := Scalar.muli v17 c64_i32
  let c0_i32_8 : BitVec 32 := 0#32
  let c64_i32_9 : BitVec 32 := 64#32
  let v19 : BitVec 32 := Scalar.muli c0_i32_8 c64_i32_9
  let v20 : BitVec 32 := v19
  let v21 : BitVec 32 := Scalar.addi v18 v20
  let v22 : BitVec 32 := v21
  let v27 : Index := Scalar.indexCast v22
  let c512 : Index := 512#32
  ![v27.toNat, 512]
def k0_off5 (i : grid0.Coords) : Fin 2 → Nat :=
  let arg1 : BitVec 32 := BitVec.ofNat 32 (i 1).val
  let c22_i32_7 : BitVec 32 := 22#32
  let v17 : BitVec 32 := Scalar.subi arg1 c22_i32_7
  let c64_i32 : BitVec 32 := 64#32
  let v18 : BitVec 32 := Scalar.muli v17 c64_i32
  let c0_i32_8 : BitVec 32 := 0#32
  let c64_i32_9 : BitVec 32 := 64#32
  let v19 : BitVec 32 := Scalar.muli c0_i32_8 c64_i32_9
  let v20 : BitVec 32 := v19
  let v21 : BitVec 32 := Scalar.addi v18 v20
  let v22 : BitVec 32 := v21
  let v31 : Index := Scalar.indexCast v22
  let c1024 : Index := 1024#32
  ![v31.toNat, 1024]
def k0_off6 (i : grid0.Coords) : Fin 2 → Nat :=
  let arg1 : BitVec 32 := BitVec.ofNat 32 (i 1).val
  let c22_i32_7 : BitVec 32 := 22#32
  let v17 : BitVec 32 := Scalar.subi arg1 c22_i32_7
  let c64_i32 : BitVec 32 := 64#32
  let v18 : BitVec 32 := Scalar.muli v17 c64_i32
  let c0_i32_8 : BitVec 32 := 0#32
  let c64_i32_9 : BitVec 32 := 64#32
  let v19 : BitVec 32 := Scalar.muli c0_i32_8 c64_i32_9
  let v20 : BitVec 32 := v19
  let v21 : BitVec 32 := Scalar.addi v18 v20
  let v22 : BitVec 32 := v21
  let v35 : Index := Scalar.indexCast v22
  let c1536 : Index := 1536#32
  ![v35.toNat, 1536]
def k0_off7 (i : grid0.Coords) : Fin 2 → Nat :=
  let arg1 : BitVec 32 := BitVec.ofNat 32 (i 1).val
  let c22_i32_7 : BitVec 32 := 22#32
  let v17 : BitVec 32 := Scalar.subi arg1 c22_i32_7
  let c64_i32 : BitVec 32 := 64#32
  let v18 : BitVec 32 := Scalar.muli v17 c64_i32
  let c0_i32_8 : BitVec 32 := 0#32
  let c64_i32_9 : BitVec 32 := 64#32
  let v19 : BitVec 32 := Scalar.muli c0_i32_8 c64_i32_9
  let v20 : BitVec 32 := v19
  let v21 : BitVec 32 := Scalar.addi v18 v20
  let v22 : BitVec 32 := v21
  let v39 : Index := Scalar.indexCast v22
  let c2048 : Index := 2048#32
  ![v39.toNat, 2048]
def k0_off8 (i : grid0.Coords) : Fin 2 → Nat :=
  let arg1 : BitVec 32 := BitVec.ofNat 32 (i 1).val
  let c22_i32_7 : BitVec 32 := 22#32
  let v17 : BitVec 32 := Scalar.subi arg1 c22_i32_7
  let c64_i32 : BitVec 32 := 64#32
  let v18 : BitVec 32 := Scalar.muli v17 c64_i32
  let c0_i32_8 : BitVec 32 := 0#32
  let c64_i32_9 : BitVec 32 := 64#32
  let v19 : BitVec 32 := Scalar.muli c0_i32_8 c64_i32_9
  let v20 : BitVec 32 := v19
  let v21 : BitVec 32 := Scalar.addi v18 v20
  let v22 : BitVec 32 := v21
  let v43 : Index := Scalar.indexCast v22
  let c2560 : Index := 2560#32
  ![v43.toNat, 2560]
def k0_off9 (i : grid0.Coords) : Fin 2 → Nat :=
  let arg1 : BitVec 32 := BitVec.ofNat 32 (i 1).val
  let c22_i32_7 : BitVec 32 := 22#32
  let v17 : BitVec 32 := Scalar.subi arg1 c22_i32_7
  let c64_i32 : BitVec 32 := 64#32
  let v18 : BitVec 32 := Scalar.muli v17 c64_i32
  let c0_i32_8 : BitVec 32 := 0#32
  let c64_i32_9 : BitVec 32 := 64#32
  let v19 : BitVec 32 := Scalar.muli c0_i32_8 c64_i32_9
  let v20 : BitVec 32 := v19
  let v21 : BitVec 32 := Scalar.addi v18 v20
  let v22 : BitVec 32 := v21
  let v47 : Index := Scalar.indexCast v22
  let c3072 : Index := 3072#32
  ![v47.toNat, 3072]
def k0_off10 (i : grid0.Coords) : Fin 2 → Nat :=
  let arg1 : BitVec 32 := BitVec.ofNat 32 (i 1).val
  let c22_i32_7 : BitVec 32 := 22#32
  let v17 : BitVec 32 := Scalar.subi arg1 c22_i32_7
  let c64_i32 : BitVec 32 := 64#32
  let v18 : BitVec 32 := Scalar.muli v17 c64_i32
  let c0_i32_8 : BitVec 32 := 0#32
  let c64_i32_9 : BitVec 32 := 64#32
  let v19 : BitVec 32 := Scalar.muli c0_i32_8 c64_i32_9
  let v20 : BitVec 32 := v19
  let v21 : BitVec 32 := Scalar.addi v18 v20
  let v22 : BitVec 32 := v21
  let v51 : Index := Scalar.indexCast v22
  let c3584 : Index := 3584#32
  ![v51.toNat, 3584]
def k0_off11 : Fin 2 → Nat :=
  let c0_i32_8 : BitVec 32 := 0#32
  let c64_i32_9 : BitVec 32 := 64#32
  let v19 : BitVec 32 := Scalar.muli c0_i32_8 c64_i32_9
  let v20 : BitVec 32 := v19
  let v150 : Index := Scalar.indexCast v20
  let c0_44 : Index := 0#32
  ![v150.toNat, 0]
def k0_off12 : Fin 2 → Nat :=
  let c0_i32_8 : BitVec 32 := 0#32
  let c64_i32_9 : BitVec 32 := 64#32
  let v19 : BitVec 32 := Scalar.muli c0_i32_8 c64_i32_9
  let v20 : BitVec 32 := v19
  let v169 : Index := Scalar.indexCast v20
  let c512_52 : Index := 512#32
  ![v169.toNat, 512]
def k0_off13 : Fin 2 → Nat :=
  let c0_i32_8 : BitVec 32 := 0#32
  let c64_i32_9 : BitVec 32 := 64#32
  let v19 : BitVec 32 := Scalar.muli c0_i32_8 c64_i32_9
  let v20 : BitVec 32 := v19
  let v188 : Index := Scalar.indexCast v20
  let c1024_60 : Index := 1024#32
  ![v188.toNat, 1024]
def k0_off14 : Fin 2 → Nat :=
  let c0_i32_8 : BitVec 32 := 0#32
  let c64_i32_9 : BitVec 32 := 64#32
  let v19 : BitVec 32 := Scalar.muli c0_i32_8 c64_i32_9
  let v20 : BitVec 32 := v19
  let v207 : Index := Scalar.indexCast v20
  let c1536_68 : Index := 1536#32
  ![v207.toNat, 1536]
def k0_off15 : Fin 2 → Nat :=
  let c0_i32_8 : BitVec 32 := 0#32
  let c64_i32_9 : BitVec 32 := 64#32
  let v19 : BitVec 32 := Scalar.muli c0_i32_8 c64_i32_9
  let v20 : BitVec 32 := v19
  let v226 : Index := Scalar.indexCast v20
  let c2048_76 : Index := 2048#32
  ![v226.toNat, 2048]
def k0_off16 : Fin 2 → Nat :=
  let c0_i32_8 : BitVec 32 := 0#32
  let c64_i32_9 : BitVec 32 := 64#32
  let v19 : BitVec 32 := Scalar.muli c0_i32_8 c64_i32_9
  let v20 : BitVec 32 := v19
  let v245 : Index := Scalar.indexCast v20
  let c2560_84 : Index := 2560#32
  ![v245.toNat, 2560]
def k0_off17 : Fin 2 → Nat :=
  let c0_i32_8 : BitVec 32 := 0#32
  let c64_i32_9 : BitVec 32 := 64#32
  let v19 : BitVec 32 := Scalar.muli c0_i32_8 c64_i32_9
  let v20 : BitVec 32 := v19
  let v264 : Index := Scalar.indexCast v20
  let c3072_92 : Index := 3072#32
  ![v264.toNat, 3072]
def k0_off18 : Fin 2 → Nat :=
  let c0_i32_8 : BitVec 32 := 0#32
  let c64_i32_9 : BitVec 32 := 64#32
  let v19 : BitVec 32 := Scalar.muli c0_i32_8 c64_i32_9
  let v20 : BitVec 32 := v19
  let v283 : Index := Scalar.indexCast v20
  let c3584_100 : Index := 3584#32
  ![v283.toNat, 3584]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c42_i32 : BitVec 32 := 42#32
  let v2 : BitVec 32 := Scalar.minsi v1 c42_i32
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c42_i32 : BitVec 32 := 42#32
  let v2 : BitVec 32 := Scalar.minsi v1 c42_i32
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c42_i32 : BitVec 32 := 42#32
  let v2 : BitVec 32 := Scalar.minsi v1 c42_i32
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c42_i32 : BitVec 32 := 42#32
  let v2 : BitVec 32 := Scalar.minsi v1 c42_i32
  let c0_i32 : BitVec 32 := 0#32
  let c0_i32_0 : BitVec 32 := 0#32
  ![c0_i32.toNat, v2.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c42_i32 : BitVec 32 := 42#32
  let v2 : BitVec 32 := Scalar.minsi v1 c42_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c42_i32 : BitVec 32 := 42#32
  let v2 : BitVec 32 := Scalar.minsi v1 c42_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c22_i32 : BitVec 32 := 22#32
  let v1 : BitVec 32 := Scalar.subi arg1 c22_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c0_i32_0 : BitVec 32 := 0#32
  let c0_i32_1 : BitVec 32 := 0#32
  ![v4.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c22_i32 : BitVec 32 := 22#32
  let v1 : BitVec 32 := Scalar.subi arg1 c22_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c0_i32_0 : BitVec 32 := 0#32
  let c0_i32_1 : BitVec 32 := 0#32
  ![v4.toNat, c0_i32_0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S64x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FfnRefIdeal.lean ====
abbrev S16384x4096 : Shape := ⟨2, ![16384, 4096]⟩
abbrev S4096x11008 : Shape := ⟨2, ![4096, 11008]⟩
abbrev S11008x4096 : Shape := ⟨2, ![11008, 4096]⟩
abbrev S1x4096 : Shape := ⟨2, ![1, 4096]⟩
abbrev S16384x11008 : Shape := ⟨2, ![16384, 11008]⟩
abbrev S_ : Shape := ⟨0, ![]⟩
abbrev S16384 : Shape := ⟨1, ![16384]⟩
abbrev S16384x1 : Shape := ⟨2, ![16384, 1]⟩

abbrev nBuf : Space → Nat
  | .hbm => 54
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x11008, .f32⟩
  | .hbm, ⟨2, _⟩ => ⟨S4096x11008, .f32⟩
  | .hbm, ⟨3, _⟩ => ⟨S11008x4096, .f32⟩
  | .hbm, ⟨4, _⟩ => ⟨S1x4096, .f32⟩
  | .hbm, ⟨5, _⟩ => ⟨S1x4096, .f32⟩
  | .hbm, ⟨6, _⟩ => ⟨S16384x11008, .f32⟩
  | .hbm, ⟨7, _⟩ => ⟨S16384x11008, .f32⟩
  | .hbm, ⟨8, _⟩ => ⟨S16384x11008, .f32⟩
  | .hbm, ⟨9, _⟩ => ⟨S_, .f32⟩
  | .hbm, ⟨10, _⟩ => ⟨S16384x11008, .f32⟩
  | .hbm, ⟨11, _⟩ => ⟨S16384x11008, .f32⟩
  | .hbm, ⟨12, _⟩ => ⟨S_, .f32⟩
  | .hbm, ⟨13, _⟩ => ⟨S16384x11008, .f32⟩
  | .hbm, ⟨14, _⟩ => ⟨S16384x11008, .f32⟩
  | .hbm, ⟨15, _⟩ => ⟨S16384x11008, .f32⟩
  | .hbm, ⟨16, _⟩ => ⟨S16384x11008, .f32⟩
  | .hbm, ⟨17, _⟩ => ⟨S16384x11008, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x4096, .f32⟩
  | .hbm, ⟨33, _⟩ => ⟨S16384x4096, .f32⟩
  | .hbm, ⟨34, _⟩ => ⟨S16384x4096, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x4096, .f32⟩
  | .hbm, ⟨48, _⟩ => ⟨S16384x4096, .f32⟩
  | .hbm, ⟨49, _⟩ => ⟨S16384x4096, .f32⟩
  | .hbm, ⟨50, _⟩ => ⟨S16384x4096, .f32⟩
  | .hbm, ⟨51, _⟩ => ⟨S16384x4096, .f32⟩
  | .hbm, ⟨52, _⟩ => ⟨S16384x4096, .f32⟩
  | .hbm, ⟨53, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Glu.lean ====
abbrev S16384x4096 : Shape := ⟨2, ![16384, 4096]⟩
abbrev S4096x21504 : Shape := ⟨2, ![4096, 21504]⟩
abbrev S1x21504 : Shape := ⟨2, ![1, 21504]⟩
abbrev S16384x2048 : Shape := ⟨2, ![16384, 2048]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 4
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S4096x21504, .bf16⟩
  | .hbm, ⟨2, _⟩ => ⟨S1x21504, .f32⟩
  | .hbm, ⟨3, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluRefIdeal.lean ====
abbrev S16384x4096 : Shape := ⟨2, ![16384, 4096]⟩
abbrev S4096x21504 : Shape := ⟨2, ![4096, 21504]⟩
abbrev S1x21504 : Shape := ⟨2, ![1, 21504]⟩
abbrev S4096x4096 : Shape := ⟨2, ![4096, 4096]⟩
abbrev S1x4096 : Shape := ⟨2, ![1, 4096]⟩
abbrev S16384x2048 : Shape := ⟨2, ![16384, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x21504, .bf16⟩
  | .hbm, ⟨2, _⟩ => ⟨S1x21504, .f32⟩
  | .hbm, ⟨3, _⟩ => ⟨S16384x4096, .f32⟩
  | .hbm, ⟨4, _⟩ => ⟨S4096x21504, .f32⟩
  | .hbm, ⟨5, _⟩ => ⟨S4096x4096, .f32⟩
  | .hbm, ⟨6, _⟩ => ⟨S16384x4096, .f32⟩
  | .hbm, ⟨7, _⟩ => ⟨S1x4096, .f32⟩
  | .hbm, ⟨8, _⟩ => ⟨S16384x4096, .f32⟩
  | .hbm, ⟨9, _⟩ => ⟨S16384x4096, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Merge.lean ====
abbrev S16384x4096 : Shape := ⟨2, ![16384, 4096]⟩
abbrev S16384x2048 : Shape := ⟨2, ![16384, 2048]⟩
abbrev S16384x1024 : Shape := ⟨2, ![16384, 1024]⟩
abbrev S4096x21504 : Shape := ⟨2, ![4096, 21504]⟩
abbrev S1x21504 : Shape := ⟨2, ![1, 21504]⟩
abbrev S2048x4096 : Shape := ⟨2, ![2048, 4096]⟩
abbrev S1024x4096 : Shape := ⟨2, ![1024, 4096]⟩
abbrev S1024x2048 : Shape := ⟨2, ![1024, 2048]⟩
abbrev S1024x1024 : Shape := ⟨2, ![1024, 1024]⟩
abbrev S4096x256 : Shape := ⟨2, ![4096, 256]⟩
abbrev S2048x256 : Shape := ⟨2, ![2048, 256]⟩
abbrev S1024x256 : Shape := ⟨2, ![1024, 256]⟩
abbrev S1x256 : Shape := ⟨2, ![1, 256]⟩

abbrev nBuf : Space → Nat
  | .hbm => 8
  | .vmem => 20
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S16384x1024, .bf16⟩
  | .hbm, ⟨3, _⟩ => ⟨S4096x21504, .bf16⟩
  | .hbm, ⟨4, _⟩ => ⟨S1x21504, .f32⟩
  | .hbm, ⟨5, _⟩ => ⟨S2048x4096, .bf16⟩
  | .hbm, ⟨6, _⟩ => ⟨S1024x4096, .bf16⟩
  | .hbm, ⟨7, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S2048x256, .bf16⟩
  | .local _ .vmem, ⟨11, _⟩ => ⟨S2048x256, .bf16⟩
  | .local _ .vmem, ⟨12, _⟩ => ⟨S1024x256, .bf16⟩
  | .local _ .vmem, ⟨13, _⟩ => ⟨S1024x256, .bf16⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1024x256, .bf16⟩
  | .local _ .vmem, ⟨19, _⟩ => ⟨S1024x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c52_i32 : BitVec 32 := 52#32
  let v0 : BitVec 32 := Scalar.addi arg1 c52_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c68_i32 : BitVec 32 := 68#32
  let v0 : BitVec 32 := Scalar.addi arg1 c68_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c52_i32 : BitVec 32 := 52#32
  let v0 : BitVec 32 := Scalar.addi arg1 c52_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c68_i32 : BitVec 32 := 68#32
  let v0 : BitVec 32 := Scalar.addi arg1 c68_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S16384x4096 : Shape := ⟨2, ![16384, 4096]⟩
abbrev S16384x2048 : Shape := ⟨2, ![16384, 2048]⟩
abbrev S16384x1024 : Shape := ⟨2, ![16384, 1024]⟩
abbrev S4096x21504 : Shape := ⟨2, ![4096, 21504]⟩
abbrev S1x21504 : Shape := ⟨2, ![1, 21504]⟩
abbrev S2048x4096 : Shape := ⟨2, ![2048, 4096]⟩
abbrev S1024x4096 : Shape := ⟨2, ![1024, 4096]⟩
abbrev S4096x8192 : Shape := ⟨2, ![4096, 8192]⟩
abbrev S16384x8192 : Shape := ⟨2, ![16384, 8192]⟩
abbrev S1x8192 : Shape := ⟨2, ![1, 8192]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x2048, .bf16⟩
  | .hbm, ⟨2, _⟩ => ⟨S16384x1024, .bf16⟩
  | .hbm, ⟨3, _⟩ => ⟨S4096x21504, .bf16⟩
  | .hbm, ⟨4, _⟩ => ⟨S1x21504, .f32⟩
  | .hbm, ⟨5, _⟩ => ⟨S2048x4096, .bf16⟩
  | .hbm, ⟨6, _⟩ => ⟨S1024x4096, .bf16⟩
  | .hbm, ⟨7, _⟩ => ⟨S16384x4096, .f32⟩
  | .hbm, ⟨8, _⟩ => ⟨S16384x2048, .f32⟩
  | .hbm, ⟨9, _⟩ => ⟨S16384x1024, .f32⟩
  | .hbm, ⟨10, _⟩ => ⟨S4096x21504, .f32⟩
  | .hbm, ⟨11, _⟩ => ⟨S2048x4096, .f32⟩
  | .hbm, ⟨12, _⟩ => ⟨S1024x4096, .f32⟩
  | .hbm, ⟨13, _⟩ => ⟨S4096x8192, .f32⟩
  | .hbm, ⟨14, _⟩ => ⟨S16384x8192, .f32⟩
  | .hbm, ⟨15, _⟩ => ⟨S1x8192, .f32⟩
  | .hbm, ⟨16, _⟩ => ⟨S16384x8192, .f32⟩
  | .hbm, ⟨17, _⟩ => ⟨S16384x8192, .f32⟩
  | .hbm, ⟨18, _⟩ => ⟨S16384x8192, .f32⟩
  | .hbm, ⟨19, _⟩ => ⟨S16384x8192, .f32⟩
  | .hbm, ⟨20, _⟩ => ⟨S_, .f32⟩
  | .hbm, ⟨21, _⟩ => ⟨S16384x8192, .f32⟩
  | .hbm, ⟨22, _⟩ => ⟨S16384x8192, .f32⟩
  | .hbm, ⟨23, _⟩ => ⟨S_, .f32⟩
  | .hbm, ⟨24, _⟩ => ⟨S16384x8192, .f32⟩
  | .hbm, ⟨25, _⟩ => ⟨S16384x8192, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Qkv.lean ====
abbrev S16384x4096 : Shape := ⟨2, ![16384, 4096]⟩
abbrev S4096x21504 : Shape := ⟨2, ![4096, 21504]⟩
abbrev S1x21504 : Shape := ⟨2, ![1, 21504]⟩
abbrev S2x1x8192x3072 : Shape := ⟨4, ![2, 1, 8192, 3072]⟩
abbrev S1024x4096 : Shape := ⟨2, ![1024, 4096]⟩
abbrev S4096x1024 : Shape := ⟨2, ![4096, 1024]⟩
abbrev S1x1024 : Shape := ⟨2, ![1, 1024]⟩
abbrev S1x1x1024x1024 : Shape := ⟨4, ![1, 1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x21504, .bf16⟩
  | .hbm, ⟨2, _⟩ => ⟨S1x21504, .f32⟩
  | .hbm, ⟨3, _⟩ => ⟨S2x1x8192x3072, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1x1x1024x1024, .bf16⟩
  | .local _ .vmem, ⟨7, _⟩ => ⟨S1x1x1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3072_i32 : BitVec 32 := 3072#32
  let v17 : BitVec 32 := Scalar.muli v16 c3072_i32
  let c4096_i32 : BitVec 32 := 4096#32
  let v18 : BitVec 32 := Scalar.addi c4096_i32 v17
  let c0_i32_5 : BitVec 32 := 0#32
  let v19 : BitVec 32 := Scalar.addi v18 c0_i32_5
  let c1024_i32 : BitVec 32 := 1024#32
  let v20 : BitVec 32 := Scalar.divsi v19 c1024_i32
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c0_i32_8 : BitVec 32 := 0#32
  let v26 : BitVec 1 := Scalar.cmpi .sgt c1024_i32 c0_i32_8
  let v27 : BitVec 32 := Scalar.extui v26
  let c0_i32_9 : BitVec 32 := 0#32
  let v28 : BitVec 1 := Scalar.cmpi .slt c1024_i32 c0_i32_9
  let v29 : BitVec 32 := Scalar.extui v28
  let v30 : BitVec 32 := Scalar.subi v27 v29
  let v31 : BitVec 1 := Scalar.cmpi .ne v25 v30
  let v32 : BitVec 32 := Scalar.remsi v19 c1024_i32
  let c0_i32_10 : BitVec 32 := 0#32
  let v33 : BitVec 1 := Scalar.cmpi .ne v32 c0_i32_10
  let v34 : BitVec 1 := Scalar.andi v31 v33
  let c1_i32_11 : BitVec 32 := 1#32
  let v35 : BitVec 32 := Scalar.subi v20 c1_i32_11
  let v36 : BitVec 32 := Scalar.select v34 v35 v20
  let c1_i32_12 : BitVec 32 := 1#32
  let c0_i32_13 : BitVec 32 := 0#32
  let v37 : BitVec 1 := Scalar.cmpi .eq c1_i32_12 c0_i32_13
  let c1_i32_14 : BitVec 32 := 1#32
  let v38 : BitVec 32 := Scalar.select v37 c1_i32_14 c1_i32_12
  let v39 : BitVec 32 := Scalar.remsi arg1 v38
  let c0_i32_15 : BitVec 32 := 0#32
  let v40 : BitVec 1 := Scalar.cmpi .ne v39 c0_i32_15
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let v44 : BitVec 1 := Scalar.andi v43 v40
  let v45 : BitVec 32 := Scalar.addi v39 v38
  let v46 : BitVec 32 := Scalar.select v44 v45 v39
  let v47 : BitVec 32 := Scalar.addi v36 v46
  let c0_i32_18 : BitVec 32 := 0#32
  let c0_i32_19 : BitVec 32 := 0#32
  ![c0_i32_18.toNat, v47.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3072_i32 : BitVec 32 := 3072#32
  let v17 : BitVec 32 := Scalar.muli v16 c3072_i32
  let c4096_i32 : BitVec 32 := 4096#32
  let v18 : BitVec 32 := Scalar.addi c4096_i32 v17
  let c0_i32_5 : BitVec 32 := 0#32
  let v19 : BitVec 32 := Scalar.addi v18 c0_i32_5
  let c1024_i32 : BitVec 32 := 1024#32
  let v20 : BitVec 32 := Scalar.divsi v19 c1024_i32
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c0_i32_8 : BitVec 32 := 0#32
  let v26 : BitVec 1 := Scalar.cmpi .sgt c1024_i32 c0_i32_8
  let v27 : BitVec 32 := Scalar.extui v26
  let c0_i32_9 : BitVec 32 := 0#32
  let v28 : BitVec 1 := Scalar.cmpi .slt c1024_i32 c0_i32_9
  let v29 : BitVec 32 := Scalar.extui v28
  let v30 : BitVec 32 := Scalar.subi v27 v29
  let v31 : BitVec 1 := Scalar.cmpi .ne v25 v30
  let v32 : BitVec 32 := Scalar.remsi v19 c1024_i32
  let c0_i32_10 : BitVec 32 := 0#32
  let v33 : BitVec 1 := Scalar.cmpi .ne v32 c0_i32_10
  let v34 : BitVec 1 := Scalar.andi v31 v33
  let c1_i32_11 : BitVec 32 := 1#32
  let v35 : BitVec 32 := Scalar.subi v20 c1_i32_11
  let v36 : BitVec 32 := Scalar.select v34 v35 v20
  let c1_i32_12 : BitVec 32 := 1#32
  let c0_i32_13 : BitVec 32 := 0#32
  let v37 : BitVec 1 := Scalar.cmpi .eq c1_i32_12 c0_i32_13
  let c1_i32_14 : BitVec 32 := 1#32
  let v38 : BitVec 32 := Scalar.select v37 c1_i32_14 c1_i32_12
  let v39 : BitVec 32 := Scalar.remsi arg1 v38
  let c0_i32_15 : BitVec 32 := 0#32
  let v40 : BitVec 1 := Scalar.cmpi .ne v39 c0_i32_15
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let v44 : BitVec 1 := Scalar.andi v43 v40
  let v45 : BitVec 32 := Scalar.addi v39 v38
  let v46 : BitVec 32 := Scalar.select v44 v45 v39
  let v47 : BitVec 32 := Scalar.addi v36 v46
  let c0_i32_18 : BitVec 32 := 0#32
  let c0_i32_19 : BitVec 32 := 0#32
  ![c0_i32_18.toNat, v47.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvRefIdeal.lean ====
abbrev S16384x4096 : Shape := ⟨2, ![16384, 4096]⟩
abbrev S4096x21504 : Shape := ⟨2, ![4096, 21504]⟩
abbrev S1x21504 : Shape := ⟨2, ![1, 21504]⟩
abbrev S4096x9216 : Shape := ⟨2, ![4096, 9216]⟩
abbrev S16384x9216 : Shape := ⟨2, ![16384, 9216]⟩
abbrev S1x9216 : Shape := ⟨2, ![1, 9216]⟩
abbrev S2x8192x1x3x3072 : Shape := ⟨5, ![2, 8192, 1, 3, 3072]⟩
abbrev S2x8192x1x3x1024 : Shape := ⟨5, ![2, 8192, 1, 3, 1024]⟩
abbrev S2x1x8192x3x1024 : Shape := ⟨5, ![2, 1, 8192, 3, 1024]⟩
abbrev S2x1x8192x3072 : Shape := ⟨4, ![2, 1, 8192, 3072]⟩

abbrev nBuf : Space → Nat
  | .hbm => 15
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x21504, .bf16⟩
  | .hbm, ⟨2, _⟩ => ⟨S1x21504, .f32⟩
  | .hbm, ⟨3, _⟩ => ⟨S16384x4096, .f32⟩
  | .hbm, ⟨4, _⟩ => ⟨S4096x21504, .f32⟩
  | .hbm, ⟨5, _⟩ => ⟨S4096x9216, .f32⟩
  | .hbm, ⟨6, _⟩ => ⟨S16384x9216, .f32⟩
  | .hbm, ⟨7, _⟩ => ⟨S1x9216, .f32⟩
  | .hbm, ⟨8, _⟩ => ⟨S16384x9216, .f32⟩
  | .hbm, ⟨9, _⟩ => ⟨S16384x9216, .f32⟩
  | .hbm, ⟨10, _⟩ => ⟨S2x8192x1x3x3072, .f32⟩
  | .hbm, ⟨11, _⟩ => ⟨S2x8192x1x3x1024, .f32⟩
  | .hbm, ⟨12, _⟩ => ⟨S2x1x8192x3x1024, .f32⟩
  | .hbm, ⟨13, _⟩ => ⟨S2x1x8192x3072, .f32⟩
  | .hbm, ⟨14, _⟩ => ⟨S2x1x8192x3072, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Proof.FfnHeld.lean ====
module

public import proofs.«01_k».proof.Proof.Gen.FfnIdeal.Frame
public import proofs.«01_k».proof.Proof.Gen.FfnIdeal.Skeleton

@[expose] public section

set_option maxRecDepth 16384

noncomputable section

namespace Cert.FfnIdeal.Body

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The branch conditions of the feed-forward kernel's body, and what its ten inputs are held at. -/

/-- The first step of a row block: the accumulator is overwritten. -/
abbrev First (i : grid0.Coords) : Prop := (Scalar.cmpi .ne (Scalar.extui (Scalar.cmpi .eq (BitVec.ofNat 32 (i 1).val) 0#32)) 0#32) = 1#1
/-- A step that adds two chunks of the hidden axis. -/
abbrev Middle (i : grid0.Coords) : Prop := (Scalar.cmpi .ne (Scalar.extui (Scalar.andi (Scalar.cmpi .sgt (BitVec.ofNat 32 (i 1).val) 0#32) (Scalar.cmpi .slt (BitVec.ofNat 32 (i 1).val) 21#32))) 0#32) = 1#1
/-- The step that adds the last chunk alone. -/
abbrev Final (i : grid0.Coords) : Prop := (Scalar.cmpi .ne (Scalar.extui (Scalar.cmpi .eq (BitVec.ofNat 32 (i 1).val) 21#32)) 0#32) = 1#1
/-- A step that adds the residual to one slab of rows. -/
abbrev Residual (i : grid0.Coords) : Prop := k0_cond4 i = 1#1
/-- A step that normalises one slab of rows. -/
abbrev Norm (i : grid0.Coords) : Prop := k0_cond5 i = 1#1

theorem first_iff : ∀ t : Fin cfg0.N, First (grid0.coords t) ↔ t.val % 38 = 0 :=
  (by decide +kernel : ∀ t : Fin grid0.N, First (grid0.coords t) ↔ t.val % 38 = 0)
theorem middle_iff : ∀ t : Fin cfg0.N, Middle (grid0.coords t) ↔ 1 ≤ t.val % 38 ∧ t.val % 38 ≤ 20 :=
  (by decide +kernel : ∀ t : Fin grid0.N, Middle (grid0.coords t) ↔ 1 ≤ t.val % 38 ∧ t.val % 38 ≤ 20)
theorem final_iff : ∀ t : Fin cfg0.N, Final (grid0.coords t) ↔ t.val % 38 = 21 :=
  (by decide +kernel : ∀ t : Fin grid0.N, Final (grid0.coords t) ↔ t.val % 38 = 21)
theorem residual_iff : ∀ t : Fin cfg0.N, Residual (grid0.coords t) ↔ t.val % 38 ≤ 15 :=
  (by decide +kernel : ∀ t : Fin grid0.N, Residual (grid0.coords t) ↔ t.val % 38 ≤ 15)
theorem norm_iff : ∀ t : Fin cfg0.N, Norm (grid0.coords t) ↔ 22 ≤ t.val % 38 :=
  (by decide +kernel : ∀ t : Fin grid0.N, Norm (grid0.coords t) ↔ 22 ≤ t.val % 38)

/-! ## The two results' buffers are idle before the normalising steps -/

theorem idle10 : ∀ t : Fin cfg0.N, t.val % 38 ≤ 21 → cfg0.idle 10 (grid0.coords t) = true :=
  (by decide +kernel : ∀ t : Fin grid0.N, t.val % 38 ≤ 21 → cfg0.idle 10 (grid0.coords t) = true)
theorem idle11 : ∀ t : Fin cfg0.N, t.val % 38 ≤ 21 → cfg0.idle 11 (grid0.coords t) = true :=
  (by decide +kernel : ∀ t : Fin grid0.N, t.val % 38 ≤ 21 → cfg0.idle 11 (grid0.coords t) = true)
theorem live10 : ∀ t : Fin cfg0.N, 22 ≤ t.val % 38 → cfg0.idle 10 (grid0.coords t) = false :=
  (by decide +kernel : ∀ t : Fin grid0.N, 22 ≤ t.val % 38 → cfg0.idle 10 (grid0.coords t) = false)
theorem live11 : ∀ t : Fin cfg0.N, 22 ≤ t.val % 38 → cfg0.idle 11 (grid0.coords t) = false :=
  (by decide +kernel : ∀ t : Fin grid0.N, 22 ≤ t.val % 38 → cfg0.idle 11 (grid0.coords t) = false)
theorem still10 : ∀ t : Fin cfg0.N, t.val % 38 ≤ 21 → (cfg0.win 10).flush t = false :=
  (by decide +kernel : ∀ t : Fin cfg0.N, t.val % 38 ≤ 21 → (cfg0.win 10).flush t = false)
theorem still11 : ∀ t : Fin cfg0.N, t.val % 38 ≤ 21 → (cfg0.win 11).flush t = false :=
  (by decide +kernel : ∀ t : Fin cfg0.N, t.val % 38 ≤ 21 → (cfg0.win 11).flush t = false)

/-! ## The ten inputs' buffers -/

/-- The blocks the ten inputs' buffers hold. -/
structure Ins (F : FTy → Type) [FloatOps F] where
  x0 : Vec F S1024x4096 .bf16
  x1 : Vec F S4096x256 .bf16
  x2 : Vec F S4096x256 .bf16
  x3 : Vec F S4096x256 .bf16
  x4 : Vec F S4096x256 .bf16
  x5 : Vec F S256x4096 .bf16
  x6 : Vec F S256x4096 .bf16
  x7 : Vec F S64x4096 .f32
  x8 : Vec F S1x4096 .f32
  x9 : Vec F S1x4096 .f32

section
variable (c : Dev nD) (i : grid0.Coords)
  (arg2 : Memref sig .tc .vmem S1024x4096 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S4096x256 .bf16) (harg5 : arg5.IsWhole)
  (arg6 : Memref sig .tc .vmem S4096x256 .bf16) (harg6 : arg6.IsWhole) (arg7 : Memref sig .tc .vmem S256x4096 .bf16) (harg7 : arg7.IsWhole)
  (arg8 : Memref sig .tc .vmem S256x4096 .bf16) (harg8 : arg8.IsWhole) (arg9 : Memref sig .tc .vmem S64x4096 .f32) (harg9 : arg9.IsWhole)
  (arg10 : Memref sig .tc .vmem S1x4096 .f32) (harg10 : arg10.IsWhole) (arg11 : Memref sig .tc .vmem S1x4096 .f32) (harg11 : arg11.IsWhole)
  (arg12 : Memref sig .tc .vmem S64x4096 .f32) (harg12 : arg12.IsWhole) (arg13 : Memref sig .tc .vmem S64x4096 .bf16) (harg13 : arg13.IsWhole)
  (arg14 : Memref sig .tc .vmem S1024x4096 .f32) (harg14 : arg14.IsWhole)
  (X : Ins F)

/-- The ten inputs' buffers at the blocks `X`. -/
def Held : sProp 𝕄 :=
  iprop(owns (c : Thread nD τ) arg2 fullShare X.x0 ∗ owns (c : Thread nD τ) arg3 fullShare X.x1 ∗ owns (c : Thread nD τ) arg4 fullShare X.x2
    ∗ owns (c : Thread nD τ) arg5 fullShare X.x3 ∗ owns (c : Thread nD τ) arg6 fullShare X.x4 ∗ owns (c : Thread nD τ) arg7 fullShare X.x5
    ∗ owns (c : Thread nD τ) arg8 fullShare X.x6 ∗ owns (c : Thread nD τ) arg9 fullShare X.x7 ∗ owns (c : Thread nD τ) arg10 fullShare X.x8
    ∗ owns (c : Thread nD τ) arg11 fullShare X.x9)

/-- The body run from an accumulator at anything leaves the pieces `L` written on it, and the results' buffers as they were. -/
def Starts (L : List (View.Piece (Elt F) S1024x4096 .f32)) : Prop :=
  ∀ (xi10 : Vec F S64x4096 .f32) (xi11 : Vec F S64x4096 .bf16) (K : PUnit → sProp 𝕄),
    iprop(Held c arg2 arg3 arg4 arg5 arg6 arg7 arg8 arg9 arg10 arg11 X ∗ owns (c : Thread nD τ) arg12 fullShare xi10 ∗ owns (c : Thread nD τ) arg13 fullShare xi11
        ∗ (∃ d, owns (c : Thread nD τ) arg14 fullShare d)
        ∗ (iprop(Held c arg2 arg3 arg4 arg5 arg6 arg7 arg8 arg9 arg10 arg11 X ∗ owns (c : Thread nD τ) arg12 fullShare xi10 ∗ owns (c : Thread nD τ) arg13 fullShare xi11
            ∗ (∃ f, arg14.view.loc (c : Thread nD τ) ↦[arg14.view.set]{fullShare} arg14.view.writes (Elt F) f L)) -∗ K ⟨⟩))
      ⊢ wp frame (wpE (defs₀ (F := F)) Variants.none c none) Set.univ (cc0_ffn i arg2 harg2 arg3 harg3 arg4 harg4 arg5 harg5 arg6 harg6 arg7 harg7 arg8 harg8 arg9 harg9 arg10 harg10 arg11 harg11 arg12 harg12 arg13 harg13 arg14 harg14) K

/-- The body run from an accumulator at `xs` leaves the pieces `L` written on it, and the results' buffers as they were. -/
def Adds (xs : Vec F S1024x4096 .f32) (L : List (View.Piece (Elt F) S1024x4096 .f32)) : Prop :=
  ∀ (xi10 : Vec F S64x4096 .f32) (xi11 : Vec F S64x4096 .bf16) (K : PUnit → sProp 𝕄),
    iprop(Held c arg2 arg3 arg4 arg5 arg6 arg7 arg8 arg9 arg10 arg11 X ∗ owns (c : Thread nD τ) arg12 fullShare xi10 ∗ owns (c : Thread nD τ) arg13 fullShare xi11
        ∗ owns (c : Thread nD τ) arg14 fullShare xs
        ∗ (iprop(Held c arg2 arg3 arg4 arg5 arg6 arg7 arg8 arg9 arg10 arg11 X ∗ owns (c : Thread nD τ) arg12 fullShare xi10 ∗ owns (c : Thread nD τ) arg13 fullShare xi11
            ∗ (∃ f, arg14.view.loc (c : Thread nD τ) ↦[arg14.view.set]{fullShare} arg14.view.writes (Elt F) f L)) -∗ K ⟨⟩))
      ⊢ wp frame (wpE (defs₀ (F := F)) Variants.none c none) Set.univ (cc0_ffn i arg2 harg2 arg3 harg3 arg4 harg4 arg5 harg5 arg6 harg6 arg7 harg7 arg8 harg8 arg9 harg9 arg10 harg10 arg11 harg11 arg12 harg12 arg13 harg13 arg14 harg14) K

/-- The body run from an accumulator at `xs` leaves it so, and the pieces `L10` and `L11` written on the results' buffers. -/
def Norms (xs : Vec F S1024x4096 .f32) (L10 : List (View.Piece (Elt F) S64x4096 .f32)) (L11 : List (View.Piece (Elt F) S64x4096 .bf16)) : Prop :=
  ∀ (K : PUnit → sProp 𝕄),
    iprop(Held c arg2 arg3 arg4 arg5 arg6 arg7 arg8 arg9 arg10 arg11 X ∗ (∃ d, owns (c : Thread nD τ) arg12 fullShare d) ∗ (∃ d, owns (c : Thread nD τ) arg13 fullShare d)
        ∗ owns (c : Thread nD τ) arg14 fullShare xs
        ∗ (iprop(Held c arg2 arg3 arg4 arg5 arg6 arg7 arg8 arg9 arg10 arg11 X
            ∗ (∃ f, arg12.view.loc (c : Thread nD τ) ↦[arg12.view.set]{fullShare} arg12.view.writes (Elt F) f L10)
            ∗ (∃ f, arg13.view.loc (c : Thread nD τ) ↦[arg13.view.set]{fullShare} arg13.view.writes (Elt F) f L11)
            ∗ owns (c : Thread nD τ) arg14 fullShare xs) -∗ K ⟨⟩))
      ⊢ wp frame (wpE (defs₀ (F := F)) Variants.none c none) Set.univ (cc0_ffn i arg2 harg2 arg3 harg3 arg4 harg4 arg5 harg5 arg6 harg6 arg7 harg7 arg8 harg8 arg9 harg9 arg10 harg10 arg11 harg11 arg12 harg12 arg13 harg13 arg14 harg14) K

/-- A whole buffer at what reads as `x` is owned at `x`. -/
theorem owns_of_unread {s : Shape} {e : EltTy} (a : Memref sig .tc .vmem s e) (ha : a.IsWhole) (x : Vec F s e) :
    (a.view.loc (c : Thread nD τ) ↦[a.view.set]{fullShare} ha.unread x : sProp 𝕄)
      ⊢ iprop(∃ f, ⌜a.view.read (Elt F) f = x⌝ ∗ a.view.loc (c : Thread nD τ) ↦[a.view.set]{fullShare} f) := by
  iintro H; iexists _; isplitr; · ipureintro; exact ha.read_unread _
  iexact H

end

end Cert.FfnIdeal.Body

end
-- ==== Proof.FfnStart.lean ====
module

public import proofs.«01_k».proof.Proof.FfnHeld

@[expose] public section

set_option maxRecDepth 16384

noncomputable section

namespace Cert.FfnIdeal.Body

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg2 : Memref sig .tc .vmem S1024x4096 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S4096x256 .bf16) (harg5 : arg5.IsWhole)
  (arg6 : Memref sig .tc .vmem S4096x256 .bf16) (harg6 : arg6.IsWhole) (arg7 : Memref sig .tc .vmem S256x4096 .bf16) (harg7 : arg7.IsWhole)
  (arg8 : Memref sig .tc .vmem S256x4096 .bf16) (harg8 : arg8.IsWhole) (arg9 : Memref sig .tc .vmem S64x4096 .f32) (harg9 : arg9.IsWhole)
  (arg10 : Memref sig .tc .vmem S1x4096 .f32) (harg10 : arg10.IsWhole) (arg11 : Memref sig .tc .vmem S1x4096 .f32) (harg11 : arg11.IsWhole)
  (arg12 : Memref sig .tc .vmem S64x4096 .f32) (harg12 : arg12.IsWhole) (arg13 : Memref sig .tc .vmem S64x4096 .bf16) (harg13 : arg13.IsWhole)
  (arg14 : Memref sig .tc .vmem S1024x4096 .f32) (harg14 : arg14.IsWhole)
  (X : Ins F)

-- the run's proof term is large
set_option maxHeartbeats 2000000 in
/-- The first step of a row block: eight column chunks overwritten, then one slab of rows with the residual added. -/
def start (h1 : First i) (h2 : ¬Middle i) (h3 : ¬Final i) (h4 : Residual i) (h5 : ¬Norm i) :
    { L : List (View.Piece (Elt F) S1024x4096 .f32) // Starts c i arg2 harg2 arg3 harg3 arg4 harg4 arg5 harg5 arg6 harg6 arg7 harg7 arg8 harg8 arg9 harg9 arg10 harg10 arg11 harg11 arg12 harg12 arg13 harg13 arg14 harg14 X L } := by
  refine ⟨?_, fun xi10 xi11 K => ?run⟩
  case run =>
    simp only [cc0_ffn_eq_skeleton]; unfold cc0_ffn_skel
    simp only [k0_part1_eq_skeleton, k0_part2_eq_skeleton, k0_part3_eq_skeleton]
    unfold Held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg10.eq_unread hf8; obtain rfl := harg11.eq_unread hf9
    obtain rfl := harg12.eq_unread hf10; obtain rfl := harg13.eq_unread hf11
    sl_exec (disch := first | sl_exact h1 | sl_exact h2 | sl_exact h3 | sl_exact h4 | sl_exact h5)
    sl_step
    iapply Hk
    isplitl [H0 H1 H2 H3 H4 H5 H6 H7 H8 H9]
    · isplitl [H0]; · iapply (owns_of_unread c arg2 harg2); iexact H0
      isplitl [H1]; · iapply (owns_of_unread c arg3 harg3); iexact H1
      isplitl [H2]; · iapply (owns_of_unread c arg4 harg4); iexact H2
      isplitl [H3]; · iapply (owns_of_unread c arg5 harg5); iexact H3
      isplitl [H4]; · iapply (owns_of_unread c arg6 harg6); iexact H4
      isplitl [H5]; · iapply (owns_of_unread c arg7 harg7); iexact H5
      isplitl [H6]; · iapply (owns_of_unread c arg8 harg8); iexact H6
      isplitl [H7]; · iapply (owns_of_unread c arg9 harg9); iexact H7
      isplitl [H8]; · iapply (owns_of_unread c arg10 harg10); iexact H8
      iapply (owns_of_unread c arg11 harg11); iexact H9
    isplitl [H10]; · iapply (owns_of_unread c arg12 harg12); iexact H10
    isplitl [H11]; · iapply (owns_of_unread c arg13 harg13); iexact H11
    iexists _; iexact HS

end

end Cert.FfnIdeal.Body

end
-- ==== Proof.FfnAddRes.lean ====
module

public import proofs.«01_k».proof.Proof.FfnStart

@[expose] public section

set_option maxRecDepth 16384

noncomputable section

namespace Cert.FfnIdeal.Body

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg2 : Memref sig .tc .vmem S1024x4096 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S4096x256 .bf16) (harg5 : arg5.IsWhole)
  (arg6 : Memref sig .tc .vmem S4096x256 .bf16) (harg6 : arg6.IsWhole) (arg7 : Memref sig .tc .vmem S256x4096 .bf16) (harg7 : arg7.IsWhole)
  (arg8 : Memref sig .tc .vmem S256x4096 .bf16) (harg8 : arg8.IsWhole) (arg9 : Memref sig .tc .vmem S64x4096 .f32) (harg9 : arg9.IsWhole)
  (arg10 : Memref sig .tc .vmem S1x4096 .f32) (harg10 : arg10.IsWhole) (arg11 : Memref sig .tc .vmem S1x4096 .f32) (harg11 : arg11.IsWhole)
  (arg12 : Memref sig .tc .vmem S64x4096 .f32) (harg12 : arg12.IsWhole) (arg13 : Memref sig .tc .vmem S64x4096 .bf16) (harg13 : arg13.IsWhole)
  (arg14 : Memref sig .tc .vmem S1024x4096 .f32) (harg14 : arg14.IsWhole)
  (X : Ins F)

-- the run's proof term is large
set_option maxHeartbeats 2000000 in
/-- A step that adds two chunks of the hidden axis and the residual of one slab of rows. -/
def addRes (h1 : ¬First i) (h2 : Middle i) (h3 : ¬Final i) (h4 : Residual i) (h5 : ¬Norm i) (xs : Vec F S1024x4096 .f32) :
    { L : List (View.Piece (Elt F) S1024x4096 .f32) // Adds c i arg2 harg2 arg3 harg3 arg4 harg4 arg5 harg5 arg6 harg6 arg7 harg7 arg8 harg8 arg9 harg9 arg10 harg10 arg11 harg11 arg12 harg12 arg13 harg13 arg14 harg14 X xs L } := by
  refine ⟨?_, fun xi10 xi11 K => ?run⟩
  case run =>
    simp only [cc0_ffn_eq_skeleton]; unfold cc0_ffn_skel
    simp only [k0_part7_eq_skeleton, k0_part4_eq_skeleton, k0_part5_eq_skeleton, k0_part6_eq_skeleton]
    unfold Held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg10.eq_unread hf8; obtain rfl := harg11.eq_unread hf9
    obtain rfl := harg12.eq_unread hf10; obtain rfl := harg13.eq_unread hf11; obtain rfl := harg14.eq_unread hfs
    sl_exec (disch := first | sl_exact h1 | sl_exact h2 | sl_exact h3 | sl_exact h4 | sl_exact h5)
    sl_step
    iapply Hk
    isplitl [H0 H1 H2 H3 H4 H5 H6 H7 H8 H9]
    · isplitl [H0]; · iapply (owns_of_unread c arg2 harg2); iexact H0
      isplitl [H1]; · iapply (owns_of_unread c arg3 harg3); iexact H1
      isplitl [H2]; · iapply (owns_of_unread c arg4 harg4); iexact H2
      isplitl [H3]; · iapply (owns_of_unread c arg5 harg5); iexact H3
      isplitl [H4]; · iapply (owns_of_unread c arg6 harg6); iexact H4
      isplitl [H5]; · iapply (owns_of_unread c arg7 harg7); iexact H5
      isplitl [H6]; · iapply (owns_of_unread c arg8 harg8); iexact H6
      isplitl [H7]; · iapply (owns_of_unread c arg9 harg9); iexact H7
      isplitl [H8]; · iapply (owns_of_unread c arg10 harg10); iexact H8
      iapply (owns_of_unread c arg11 harg11); iexact H9
    isplitl [H10]; · iapply (owns_of_unread c arg12 harg12); iexact H10
    isplitl [H11]; · iapply (owns_of_unread c arg13 harg13); iexact H11
    iexists _; iexact HS

end

end Cert.FfnIdeal.Body

end
-- ==== Proof.FfnAdd.lean ====
module

public import proofs.«01_k».proof.Proof.FfnAddRes

@[expose] public section

set_option maxRecDepth 16384

noncomputable section

namespace Cert.FfnIdeal.Body

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg2 : Memref sig .tc .vmem S1024x4096 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S4096x256 .bf16) (harg5 : arg5.IsWhole)
  (arg6 : Memref sig .tc .vmem S4096x256 .bf16) (harg6 : arg6.IsWhole) (arg7 : Memref sig .tc .vmem S256x4096 .bf16) (harg7 : arg7.IsWhole)
  (arg8 : Memref sig .tc .vmem S256x4096 .bf16) (harg8 : arg8.IsWhole) (arg9 : Memref sig .tc .vmem S64x4096 .f32) (harg9 : arg9.IsWhole)
  (arg10 : Memref sig .tc .vmem S1x4096 .f32) (harg10 : arg10.IsWhole) (arg11 : Memref sig .tc .vmem S1x4096 .f32) (harg11 : arg11.IsWhole)
  (arg12 : Memref sig .tc .vmem S64x4096 .f32) (harg12 : arg12.IsWhole) (arg13 : Memref sig .tc .vmem S64x4096 .bf16) (harg13 : arg13.IsWhole)
  (arg14 : Memref sig .tc .vmem S1024x4096 .f32) (harg14 : arg14.IsWhole)
  (X : Ins F)

-- the run's proof term is large
set_option maxHeartbeats 2000000 in
/-- A step that adds two chunks of the hidden axis. -/
def add (h1 : ¬First i) (h2 : Middle i) (h3 : ¬Final i) (h4 : ¬Residual i) (h5 : ¬Norm i) (xs : Vec F S1024x4096 .f32) :
    { L : List (View.Piece (Elt F) S1024x4096 .f32) // Adds c i arg2 harg2 arg3 harg3 arg4 harg4 arg5 harg5 arg6 harg6 arg7 harg7 arg8 harg8 arg9 harg9 arg10 harg10 arg11 harg11 arg12 harg12 arg13 harg13 arg14 harg14 X xs L } := by
  refine ⟨?_, fun xi10 xi11 K => ?run⟩
  case run =>
    simp only [cc0_ffn_eq_skeleton]; unfold cc0_ffn_skel
    simp only [k0_part7_eq_skeleton, k0_part4_eq_skeleton, k0_part5_eq_skeleton, k0_part6_eq_skeleton]
    unfold Held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg10.eq_unread hf8; obtain rfl := harg11.eq_unread hf9
    obtain rfl := harg12.eq_unread hf10; obtain rfl := harg13.eq_unread hf11; obtain rfl := harg14.eq_unread hfs
    sl_exec (disch := first | sl_exact h1 | sl_exact h2 | sl_exact h3 | sl_exact h4 | sl_exact h5)
    sl_step
    iapply Hk
    isplitl [H0 H1 H2 H3 H4 H5 H6 H7 H8 H9]
    · isplitl [H0]; · iapply (owns_of_unread c arg2 harg2); iexact H0
      isplitl [H1]; · iapply (owns_of_unread c arg3 harg3); iexact H1
      isplitl [H2]; · iapply (owns_of_unread c arg4 harg4); iexact H2
      isplitl [H3]; · iapply (owns_of_unread c arg5 harg5); iexact H3
      isplitl [H4]; · iapply (owns_of_unread c arg6 harg6); iexact H4
      isplitl [H5]; · iapply (owns_of_unread c arg7 harg7); iexact H5
      isplitl [H6]; · iapply (owns_of_unread c arg8 harg8); iexact H6
      isplitl [H7]; · iapply (owns_of_unread c arg9 harg9); iexact H7
      isplitl [H8]; · iapply (owns_of_unread c arg10 harg10); iexact H8
      iapply (owns_of_unread c arg11 harg11); iexact H9
    isplitl [H10]; · iapply (owns_of_unread c arg12 harg12); iexact H10
    isplitl [H11]; · iapply (owns_of_unread c arg13 harg13); iexact H11
    iexists _; iexact HS

end

end Cert.FfnIdeal.Body

end
-- ==== Proof.FfnLast.lean ====
module

public import proofs.«01_k».proof.Proof.FfnAdd

@[expose] public section

set_option maxRecDepth 16384

noncomputable section

namespace Cert.FfnIdeal.Body

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg2 : Memref sig .tc .vmem S1024x4096 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S4096x256 .bf16) (harg5 : arg5.IsWhole)
  (arg6 : Memref sig .tc .vmem S4096x256 .bf16) (harg6 : arg6.IsWhole) (arg7 : Memref sig .tc .vmem S256x4096 .bf16) (harg7 : arg7.IsWhole)
  (arg8 : Memref sig .tc .vmem S256x4096 .bf16) (harg8 : arg8.IsWhole) (arg9 : Memref sig .tc .vmem S64x4096 .f32) (harg9 : arg9.IsWhole)
  (arg10 : Memref sig .tc .vmem S1x4096 .f32) (harg10 : arg10.IsWhole) (arg11 : Memref sig .tc .vmem S1x4096 .f32) (harg11 : arg11.IsWhole)
  (arg12 : Memref sig .tc .vmem S64x4096 .f32) (harg12 : arg12.IsWhole) (arg13 : Memref sig .tc .vmem S64x4096 .bf16) (harg13 : arg13.IsWhole)
  (arg14 : Memref sig .tc .vmem S1024x4096 .f32) (harg14 : arg14.IsWhole)
  (X : Ins F)

-- the run's proof term is large
set_option maxHeartbeats 2000000 in
/-- The step that adds the last chunk of the hidden axis. -/
def last (h1 : ¬First i) (h2 : ¬Middle i) (h3 : Final i) (h4 : ¬Residual i) (h5 : ¬Norm i) (xs : Vec F S1024x4096 .f32) :
    { L : List (View.Piece (Elt F) S1024x4096 .f32) // Adds c i arg2 harg2 arg3 harg3 arg4 harg4 arg5 harg5 arg6 harg6 arg7 harg7 arg8 harg8 arg9 harg9 arg10 harg10 arg11 harg11 arg12 harg12 arg13 harg13 arg14 harg14 X xs L } := by
  refine ⟨?_, fun xi10 xi11 K => ?run⟩
  case run =>
    simp only [cc0_ffn_eq_skeleton]; unfold cc0_ffn_skel
    simp only [k0_part8_eq_skeleton, k0_part9_eq_skeleton]
    unfold Held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%f10, %hf10, H10⟩, ⟨%f11, %hf11, H11⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg10.eq_unread hf8; obtain rfl := harg11.eq_unread hf9
    obtain rfl := harg12.eq_unread hf10; obtain rfl := harg13.eq_unread hf11; obtain rfl := harg14.eq_unread hfs
    sl_exec (disch := first | sl_exact h1 | sl_exact h2 | sl_exact h3 | sl_exact h4 | sl_exact h5)
    sl_step
    iapply Hk
    isplitl [H0 H1 H2 H3 H4 H5 H6 H7 H8 H9]
    · isplitl [H0]; · iapply (owns_of_unread c arg2 harg2); iexact H0
      isplitl [H1]; · iapply (owns_of_unread c arg3 harg3); iexact H1
      isplitl [H2]; · iapply (owns_of_unread c arg4 harg4); iexact H2
      isplitl [H3]; · iapply (owns_of_unread c arg5 harg5); iexact H3
      isplitl [H4]; · iapply (owns_of_unread c arg6 harg6); iexact H4
      isplitl [H5]; · iapply (owns_of_unread c arg7 harg7); iexact H5
      isplitl [H6]; · iapply (owns_of_unread c arg8 harg8); iexact H6
      isplitl [H7]; · iapply (owns_of_unread c arg9 harg9); iexact H7
      isplitl [H8]; · iapply (owns_of_unread c arg10 harg10); iexact H8
      iapply (owns_of_unread c arg11 harg11); iexact H9
    isplitl [H10]; · iapply (owns_of_unread c arg12 harg12); iexact H10
    isplitl [H11]; · iapply (owns_of_unread c arg13 harg13); iexact H11
    iexists _; iexact HS

end

end Cert.FfnIdeal.Body

end
-- ==== Proof.FfnNorm.lean ====
module

public import proofs.«01_k».proof.Proof.FfnLast

@[expose] public section

set_option maxRecDepth 16384

noncomputable section

namespace Cert.FfnIdeal.Body

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg2 : Memref sig .tc .vmem S1024x4096 .bf16) (harg2 : arg2.IsWhole) (arg3 : Memref sig .tc .vmem S4096x256 .bf16) (harg3 : arg3.IsWhole)
  (arg4 : Memref sig .tc .vmem S4096x256 .bf16) (harg4 : arg4.IsWhole) (arg5 : Memref sig .tc .vmem S4096x256 .bf16) (harg5 : arg5.IsWhole)
  (arg6 : Memref sig .tc .vmem S4096x256 .bf16) (harg6 : arg6.IsWhole) (arg7 : Memref sig .tc .vmem S256x4096 .bf16) (harg7 : arg7.IsWhole)
  (arg8 : Memref sig .tc .vmem S256x4096 .bf16) (harg8 : arg8.IsWhole) (arg9 : Memref sig .tc .vmem S64x4096 .f32) (harg9 : arg9.IsWhole)
  (arg10 : Memref sig .tc .vmem S1x4096 .f32) (harg10 : arg10.IsWhole) (arg11 : Memref sig .tc .vmem S1x4096 .f32) (harg11 : arg11.IsWhole)
  (arg12 : Memref sig .tc .vmem S64x4096 .f32) (harg12 : arg12.IsWhole) (arg13 : Memref sig .tc .vmem S64x4096 .bf16) (harg13 : arg13.IsWhole)
  (arg14 : Memref sig .tc .vmem S1024x4096 .f32) (harg14 : arg14.IsWhole)
  (X : Ins F)

-- the run's proof term is large
set_option maxHeartbeats 2000000 in
/-- A step that normalises one slab of rows: eight column chunks of each result. -/
def norm (h1 : ¬First i) (h2 : ¬Middle i) (h3 : ¬Final i) (h4 : ¬Residual i) (h5 : Norm i) (xs : Vec F S1024x4096 .f32) :
    Σ' (L10 : List (View.Piece (Elt F) S64x4096 .f32)), { L11 : List (View.Piece (Elt F) S64x4096 .bf16) // Norms c i arg2 harg2 arg3 harg3 arg4 harg4 arg5 harg5 arg6 harg6 arg7 harg7 arg8 harg8 arg9 harg9 arg10 harg10 arg11 harg11 arg12 harg12 arg13 harg13 arg14 harg14 X xs L10 L11 } := by
  refine ⟨?_, ?_, fun K => ?run⟩
  case run =>
    simp only [cc0_ffn_eq_skeleton]; unfold cc0_ffn_skel
    simp only [k0_part10_eq_skeleton, k0_part11_eq_skeleton, k0_part12_eq_skeleton, k0_part13_eq_skeleton, k0_part14_eq_skeleton, k0_part15_eq_skeleton]
    unfold Held owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%d11, %f11, -, H11⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hf6; obtain rfl := harg9.eq_unread hf7; obtain rfl := harg10.eq_unread hf8; obtain rfl := harg11.eq_unread hf9
    obtain rfl := harg14.eq_unread hfs
    sl_exec (disch := first | sl_exact h1 | sl_exact h2 | sl_exact h3 | sl_exact h4 | sl_exact h5)
    sl_step
    iapply Hk
    isplitl [H0 H1 H2 H3 H4 H5 H6 H7 H8 H9]
    · isplitl [H0]; · iapply (owns_of_unread c arg2 harg2); iexact H0
      isplitl [H1]; · iapply (owns_of_unread c arg3 harg3); iexact H1
      isplitl [H2]; · iapply (owns_of_unread c arg4 harg4); iexact H2
      isplitl [H3]; · iapply (owns_of_unread c arg5 harg5); iexact H3
      isplitl [H4]; · iapply (owns_of_unread c arg6 harg6); iexact H4
      isplitl [H5]; · iapply (owns_of_unread c arg7 harg7); iexact H5
      isplitl [H6]; · iapply (owns_of_unread c arg8 harg8); iexact H6
      isplitl [H7]; · iapply (owns_of_unread c arg9 harg9); iexact H7
      isplitl [H8]; · iapply (owns_of_unread c arg10 harg10); iexact H8
      iapply (owns_of_unread c arg11 harg11); iexact H9
    isplitl [H10]; · iexists _; iexact H10
    isplitl [H11]; · iexists _; iexact H11
    iapply (owns_of_unread c arg14 harg14); iexact HS

end

end Cert.FfnIdeal.Body

end
-- ==== Proof.FfnFrame.lean ====
module

public import proofs.«01_k».proof.Proof.FfnNorm

@[expose] public section

set_option maxRecDepth 16384

noncomputable section

namespace Cert.FfnIdeal.Body

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline

variable (m : (ℓ : Loc nD τ sig) → Buf (Elt F) ℓ) (ρ : Dev nD → PrngReg)

/-! What every step of the feed-forward kernel leaves, and the run of the whole kernel. -/

/-- The ten inputs' blocks at a point. -/
def ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t⟩

/-- The first step at a point. -/
def startAt (c : Dev nD) (t : Fin cfg0.N) (h : t.val % 38 = 0) :=
  start c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11))
    (Memref.whole cc0_scratch0) (Memref.isWhole_whole _)
    (ins m c t) ((first_iff t).mpr h) (fun k => by have := (middle_iff t).mp k; omega) (fun k => by have := (final_iff t).mp k; omega) ((residual_iff t).mpr (by omega)) (fun k => by have := (norm_iff t).mp k; omega)

/-- A step that adds and takes in the residual, at a point. -/
def addResAt (c : Dev nD) (t : Fin cfg0.N) (h : 1 ≤ t.val % 38 ∧ t.val % 38 ≤ 15) (xs : Vec F S1024x4096 .f32) :=
  addRes c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11))
    (Memref.whole cc0_scratch0) (Memref.isWhole_whole _)
    (ins m c t) (fun k => by have := (first_iff t).mp k; omega) ((middle_iff t).mpr (by omega)) (fun k => by have := (final_iff t).mp k; omega) ((residual_iff t).mpr (by omega)) (fun k => by have := (norm_iff t).mp k; omega) xs

/-- A step that adds, at a point. -/
def addAt (c : Dev nD) (t : Fin cfg0.N) (h : 16 ≤ t.val % 38 ∧ t.val % 38 ≤ 20) (xs : Vec F S1024x4096 .f32) :=
  add c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11))
    (Memref.whole cc0_scratch0) (Memref.isWhole_whole _)
    (ins m c t) (fun k => by have := (first_iff t).mp k; omega) ((middle_iff t).mpr (by omega)) (fun k => by have := (final_iff t).mp k; omega) (fun k => by have := (residual_iff t).mp k; omega) (fun k => by have := (norm_iff t).mp k; omega) xs

/-- The step that adds the last chunk, at a point. -/
def lastAt (c : Dev nD) (t : Fin cfg0.N) (h : t.val % 38 = 21) (xs : Vec F S1024x4096 .f32) :=
  last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11))
    (Memref.whole cc0_scratch0) (Memref.isWhole_whole _)
    (ins m c t) (fun k => by have := (first_iff t).mp k; omega) (fun k => by have := (middle_iff t).mp k; omega) ((final_iff t).mpr h) (fun k => by have := (residual_iff t).mp k; omega) (fun k => by have := (norm_iff t).mp k; omega) xs

/-- A normalising step at a point. -/
def normAt (c : Dev nD) (t : Fin cfg0.N) (h : 22 ≤ t.val % 38) (xs : Vec F S1024x4096 .f32) :=
  norm c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11))
    (Memref.whole cc0_scratch0) (Memref.isWhole_whole _)
    (ins m c t) (fun k => by have := (first_iff t).mp k; omega) (fun k => by have := (middle_iff t).mp k; omega) (fun k => by have := (final_iff t).mp k; omega) (fun k => by have := (residual_iff t).mp k; omega) ((norm_iff t).mpr h) xs

theorem start_cover (c : Dev nD) (t : Fin cfg0.N) (h : t.val % 38 = 0) (y : S1024x4096.Idx) :
    ∃ p ∈ (startAt m c t h).1, y ∈ p.1.set := by
  obtain ⟨p, hp, hy⟩ := View.cover_of_tiledL (startAt m c t h).1.tail S1024x512.size (by sl_kernel_rfl) y
  exact ⟨p, List.mem_of_mem_tail hp, hy⟩

theorem addRes_cover (c : Dev nD) (t : Fin cfg0.N) (h : 1 ≤ t.val % 38 ∧ t.val % 38 ≤ 15) (xs : Vec F S1024x4096 .f32) (y : S1024x4096.Idx) :
    ∃ p ∈ (addResAt m c t h xs).1, y ∈ p.1.set := by
  obtain ⟨p, hp, hy⟩ := View.cover_of_tiledL (addResAt m c t h xs).1.tail S1024x512.size (by sl_kernel_rfl) y
  exact ⟨p, List.mem_of_mem_tail hp, hy⟩

theorem add_cover (c : Dev nD) (t : Fin cfg0.N) (h : 16 ≤ t.val % 38 ∧ t.val % 38 ≤ 20) (xs : Vec F S1024x4096 .f32) (y : S1024x4096.Idx) :
    ∃ p ∈ (addAt m c t h xs).1, y ∈ p.1.set :=
  View.cover_of_tiledL (addAt m c t h xs).1 S1024x512.size (by sl_kernel_rfl) y

theorem last_cover (c : Dev nD) (t : Fin cfg0.N) (h : t.val % 38 = 21) (xs : Vec F S1024x4096 .f32) (y : S1024x4096.Idx) :
    ∃ p ∈ (lastAt m c t h xs).1, y ∈ p.1.set :=
  View.cover_of_tiledL (lastAt m c t h xs).1 S1024x512.size (by sl_kernel_rfl) y

theorem norm_cover10 (c : Dev nD) (t : Fin cfg0.N) (h : 22 ≤ t.val % 38) (xs : Vec F S1024x4096 .f32) (y : S64x4096.Idx) :
    ∃ p ∈ (normAt m c t h xs).1, y ∈ p.1.set :=
  View.cover_of_tiledL (normAt m c t h xs).1 S64x512.size (by sl_kernel_rfl) y

theorem norm_cover11 (c : Dev nD) (t : Fin cfg0.N) (h : 22 ≤ t.val % 38) (xs : Vec F S1024x4096 .f32) (y : S64x4096.Idx) :
    ∃ p ∈ (normAt m c t h xs).2.1, y ∈ p.1.set :=
  View.cover_of_tiledL (normAt m c t h xs).2.1 S64x512.size (by sl_kernel_rfl) y

/-- What a point leaves in the accumulator, from what the point before left. -/
def next (c : Dev nD) (t : Fin cfg0.N) (xs : Vec F S1024x4096 .f32) : Vec F S1024x4096 .f32 :=
  if h : t.val % 38 = 0 then View.canon (startAt m c t h).1
  else if h : 1 ≤ t.val % 38 ∧ t.val % 38 ≤ 15 then View.canon (addResAt m c t h xs).1
  else if h : 16 ≤ t.val % 38 ∧ t.val % 38 ≤ 20 then View.canon (addAt m c t h xs).1
  else if h : t.val % 38 = 21 then View.canon (lastAt m c t h xs).1
  else xs

theorem next_start (c : Dev nD) (t : Fin cfg0.N) (h : t.val % 38 = 0) (xs : Vec F S1024x4096 .f32) :
    next m c t xs = View.canon (startAt m c t h).1 := by
  unfold next; rw [dif_pos h]

theorem next_addRes (c : Dev nD) (t : Fin cfg0.N) (h : 1 ≤ t.val % 38 ∧ t.val % 38 ≤ 15) (xs : Vec F S1024x4096 .f32) :
    next m c t xs = View.canon (addResAt m c t h xs).1 := by
  unfold next; rw [dif_neg (by omega), dif_pos h]

theorem next_add (c : Dev nD) (t : Fin cfg0.N) (h : 16 ≤ t.val % 38 ∧ t.val % 38 ≤ 20) (xs : Vec F S1024x4096 .f32) :
    next m c t xs = View.canon (addAt m c t h xs).1 := by
  unfold next; rw [dif_neg (by omega), dif_neg (by omega), dif_pos h]

theorem next_last (c : Dev nD) (t : Fin cfg0.N) (h : t.val % 38 = 21) (xs : Vec F S1024x4096 .f32) :
    next m c t xs = View.canon (lastAt m c t h xs).1 := by
  unfold next; rw [dif_neg (by omega), dif_neg (by omega), dif_neg (by omega), dif_pos h]

theorem next_norm (c : Dev nD) (t : Fin cfg0.N) (h : 22 ≤ t.val % 38) (xs : Vec F S1024x4096 .f32) :
    next m c t xs = xs := by
  unfold next; rw [dif_neg (by omega), dif_neg (by omega), dif_neg (by omega), dif_neg (by omega)]

/-- The accumulator before point `n`. -/
def acc (c : Dev nD) : ℕ → Vec F S1024x4096 .f32
  | 0 => View.canon []
  | n + 1 => if h : n < cfg0.N then next m c ⟨n, h⟩ (acc c n) else acc c n

theorem acc_succ (c : Dev nD) (t : Fin cfg0.N) : acc m c (t.val + 1) = next m c t (acc m c t.val) := by
  rw [acc, dif_pos t.isLt]

/-- What a point leaves in the first result's block. -/
def out10 (c : Dev nD) (t : Fin cfg0.N) : Vec F S64x4096 .f32 :=
  if h : 22 ≤ t.val % 38 then View.canon (normAt m c t h (acc m c t.val)).1 else View.canon []

/-- What a point leaves in the second result's block. -/
def out11 (c : Dev nD) (t : Fin cfg0.N) : Vec F S64x4096 .bf16 :=
  if h : 22 ≤ t.val % 38 then View.canon (normAt m c t h (acc m c t.val)).2.1 else View.canon []

/-- The invariant before point `n`: before the first point any accumulator, later the one the points before left. -/
def Phi (c : Dev nD) : (n : ℕ) → n ≤ cfg0.N → sProp 𝕄
  | 0, _ => Pipeline.ΦA spec0 c
  | n + 1, _ => iprop(owns (c : Thread nD τ) (Memref.whole cc0_scratch0 : Memref sig .tc .vmem S1024x4096 .f32) fullShare (acc m c (n + 1)) ∗ (∃ r, prngReg c r))

theorem PhiA_eq (c : Dev nD) :
    (Pipeline.ΦA spec0 c : sProp 𝕄)
      = iprop(iprop((∃ d, owns (c : Thread nD τ) (Memref.whole cc0_scratch0 : Memref sig .tc .vmem S1024x4096 .f32) fullShare d)) ∗ (∃ r, prngReg c r)) := by
  unfold Pipeline.ΦA; rw [scopedRest0_eq]; simp only [owns_whole]; try rfl

theorem Phi_zero (c : Dev nD) (n : ℕ) (h : n ≤ cfg0.N) (hz : n = 0) : Phi m c n h = Pipeline.ΦA spec0 c := by
  subst hz; rfl

theorem Phi_pos (c : Dev nD) (n : ℕ) (h : n ≤ cfg0.N) (hz : n ≠ 0) :
    Phi m c n h = iprop(owns (c : Thread nD τ) (Memref.whole cc0_scratch0 : Memref sig .tc .vmem S1024x4096 .f32) fullShare (acc m c n) ∗ (∃ r, prngReg c r)) := by
  cases n with
  | zero => exact absurd rfl hz
  | succ n => rfl

/-- Any accumulator will do for a step that overwrites it. -/
theorem Phi_any (c : Dev nD) (n : ℕ) (h : n ≤ cfg0.N) : Phi m c n h ⊢ Pipeline.ΦA spec0 c := by
  by_cases hz : n = 0
  · rw [Phi_zero m c n h hz]
  · rw [Phi_pos m c n h hz, PhiA_eq]
    iintro ⟨HS, Hg⟩
    isplitl [HS]
    · iexists _; iexact HS
    iexact Hg

/-- The proof data of the one region. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 m c t
    | ⟨11, _⟩ => out11 m c t
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem Phi_succ (c : Dev nD) (t : Fin cfg0.N) : (dats m 0 c).Φ t.succ
    = iprop(owns (c : Thread nD τ) (Memref.whole cc0_scratch0 : Memref sig .tc .vmem S1024x4096 .f32) fullShare (next m c t (acc m c t.val)) ∗ (∃ r, prngReg c r)) := by
  rw [show (dats m 0 c).Φ t.succ = Phi m c (t.val + 1) t.isLt from rfl, Phi_pos m c _ _ (Nat.succ_ne_zero _), acc_succ]

theorem owes_succ (c : Dev nD) (t : Fin cfg0.N) : (dats m 0 c).owesAt () t.succ = (dats m 0 c).owesAt () t.castSucc := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = out10 m c t := by dsimp only [dats]
theorem after11 (c : Dev nD) (t : Fin cfg0.N) : (dats m 0 c).after 11 t = out11 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- The inputs' buffers before a point and after it. -/
abbrev In (c : Dev nD) (t : Fin cfg0.N) : sProp 𝕄 :=
  Held c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (ins m c t)

/-- What the body is called with at a point. -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))

/-- What the body returns at a point. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem leaves_in (c : Dev nD) (t : Fin cfg0.N) (Y Z : sProp 𝕄) (P : sProp 𝕄) (O : sProp 𝕄) :
    iprop(In m c t ∗ P ∗ O ∗ Y ∗ Z) ⊢ iprop(P ∗ O
      ∗ (dats m 0 c).leavesExact 0 t
      ∗ (dats m 0 c).leavesExact 1 t
      ∗ (dats m 0 c).leavesExact 2 t
      ∗ (dats m 0 c).leavesExact 3 t
      ∗ (dats m 0 c).leavesExact 4 t
      ∗ (dats m 0 c).leavesExact 5 t
      ∗ (dats m 0 c).leavesExact 6 t
      ∗ (dats m 0 c).leavesExact 7 t
      ∗ (dats m 0 c).leavesExact 8 t
      ∗ (dats m 0 c).leavesExact 9 t ∗ Y ∗ Z) := by
  rw [show (dats m 0 c).leavesExact 0 t = owns (c : Thread nD τ) (win0_0.stage (cfg0.slots t 0)) fullShare ((dats m 0 c).after 0 t) from by
    unfold Dat.leavesExact; rw [show cfg0.idle 0 (grid0.coords t) = false from rfl], after0]
  rw [show (dats m 0 c).leavesExact 1 t = owns (c : Thread nD τ) (win0_1.stage (cfg0.slots t 1)) fullShare ((dats m 0 c).after 1 t) from by
    unfold Dat.leavesExact; rw [show cfg0.idle 1 (grid0.coords t) = false from rfl], after1]
  rw [show (dats m 0 c).leavesExact 2 t = owns (c : Thread nD τ) (win0_2.stage (cfg0.slots t 2)) fullShare ((dats m 0 c).after 2 t) from by
    unfold Dat.leavesExact; rw [show cfg0.idle 2 (grid0.coords t) = false from rfl], after2]
  rw [show (dats m 0 c).leavesExact 3 t = owns (c : Thread nD τ) (win0_3.stage (cfg0.slots t 3)) fullShare ((dats m 0 c).after 3 t) from by
    unfold Dat.leavesExact; rw [show cfg0.idle 3 (grid0.coords t) = false from rfl], after3]
  rw [show (dats m 0 c).leavesExact 4 t = owns (c : Thread nD τ) (win0_4.stage (cfg0.slots t 4)) fullShare ((dats m 0 c).after 4 t) from by
    unfold Dat.leavesExact; rw [show cfg0.idle 4 (grid0.coords t) = false from rfl], after4]
  rw [show (dats m 0 c).leavesExact 5 t = owns (c : Thread nD τ) (win0_5.stage (cfg0.slots t 5)) fullShare ((dats m 0 c).after 5 t) from by
    unfold Dat.leavesExact; rw [show cfg0.idle 5 (grid0.coords t) = false from rfl], after5]
  rw [show (dats m 0 c).leavesExact 6 t = owns (c : Thread nD τ) (win0_6.stage (cfg0.slots t 6)) fullShare ((dats m 0 c).after 6 t) from by
    unfold Dat.leavesExact; rw [show cfg0.idle 6 (grid0.coords t) = false from rfl], after6]
  rw [show (dats m 0 c).leavesExact 7 t = owns (c : Thread nD τ) (win0_7.stage (cfg0.slots t 7)) fullShare ((dats m 0 c).after 7 t) from by
    unfold Dat.leavesExact; rw [show cfg0.idle 7 (grid0.coords t) = false from rfl], after7]
  rw [show (dats m 0 c).leavesExact 8 t = owns (c : Thread nD τ) (win0_8.stage (cfg0.slots t 8)) fullShare ((dats m 0 c).after 8 t) from by
    unfold Dat.leavesExact; rw [show cfg0.idle 8 (grid0.coords t) = false from rfl], after8]
  rw [show (dats m 0 c).leavesExact 9 t = owns (c : Thread nD τ) (win0_9.stage (cfg0.slots t 9)) fullShare ((dats m 0 c).after 9 t) from by
    unfold Dat.leavesExact; rw [show cfg0.idle 9 (grid0.coords t) = false from rfl], after9]
  unfold In Held ins
  iintro ⟨⟨H0, H1, H2, H3, H4, H5, H6, H7, H8, H9⟩, HP, HO, HY, HZ⟩
  isplitl [HP]; · iexact HP
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HY]; · iexact HY
  iexact HZ

theorem pre_in (c : Dev nD) (t : Fin cfg0.N) : pre m c t ⊢ iprop(In m c t ∗ (dats m 0 c).Φ t.castSucc ∗ (dats m 0 c).owesAt () t.castSucc
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))) := by
  unfold pre
  simp only [before0, before1, before2, before3, before4, before5, before6, before7, before8, before9]
  unfold In Held ins
  iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, HY, HZ⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HP]; · iexact HP
  isplitl [HO]; · iexact HO
  isplitl [HY]; · iexact HY
  iexact HZ

/-- A step before the normalising ones: the results' buffers come back as they were. -/
theorem leaves_idle (c : Dev nD) (t : Fin cfg0.N) (h : t.val % 38 ≤ 21) (d10 d11) :
    iprop(In m c t ∗ (dats m 0 c).Φ t.succ ∗ (dats m 0 c).owesAt () t.castSucc
      ∗ owns (c : Thread nD τ) (win0_10.stage (cfg0.slots t 10)) fullShare ((dats m 0 c).before 10 t d10)
      ∗ owns (c : Thread nD τ) (win0_11.stage (cfg0.slots t 11)) fullShare ((dats m 0 c).before 11 t d11)) ⊢ post m c t := by
  unfold post
  rw [owes_succ]
  rw [Dat.leavesExact_idle (dats m 0 c) 10 t (idle10 t h) (still10 t h), Dat.leavesExact_idle (dats m 0 c) 11 t (idle11 t h) (still11 t h)]
  iintro ⟨HI, HP, HO, HY, HZ⟩
  iapply (leaves_in m c t)
  isplitl [HI]; · iexact HI
  isplitl [HP]; · iexact HP
  isplitl [HO]; · iexact HO
  isplitl [HY]; · iexists _; iexact HY
  iexists _; iexact HZ

/-- A step that adds, given its run and that its pieces cover the accumulator. -/
theorem body_adds (c : Dev nD) (t : Fin cfg0.N) (h : t.val % 38 ≤ 21) (h0 : t.val % 38 ≠ 0) (L : List (View.Piece (Elt F) S1024x4096 .f32))
    (hL : Adds c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8))
    (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11))
    (Memref.whole cc0_scratch0) (Memref.isWhole_whole _)
      (ins m c t) (acc m c t.val) L) (hc : ∀ y, ∃ p ∈ L, y ∈ p.1.set) (hn : next m c t (acc m c t.val) = View.canon L) :
    pre m c t ⊢ wp frame (wpE (defs₀ (F := F)) Variants.none c none) Set.univ (bodyAt0 t) (fun _ => post m c t) := by
  refine (pre_in m c t).trans ?_
  rw [Phi_castSucc, Phi_pos m c _ _ (by intro k; rw [k] at h0; exact h0 rfl)]
  iintro ⟨HI, ⟨HS, Hg⟩, HO, ⟨%d10, HY⟩, ⟨%d11, HZ⟩⟩
  iapply (hL _ _ _)
  isplitl [HI]; · iexact HI
  isplitl [HY]; · iexact HY
  isplitl [HZ]; · iexact HZ
  isplitl [HS]; · iexact HS
  iintro ⟨HI, HY, HZ, ⟨%f, HS⟩⟩
  iapply (leaves_idle m c t h d10 d11)
  isplitl [HI]; · iexact HI
  isplitl [HS Hg]
  · rw [Phi_succ]
    isplitl [HS]
    · unfold owns; iexists _; isplitr
      swap; · iexact HS
      ipureintro; rw [hn]; exact View.read_writes_eq_canon _ _ _ hc
    iexact Hg
  isplitl [HO]; · iexact HO
  isplitl [HY]; · iexact HY
  iexact HZ

theorem body_start (c : Dev nD) (t : Fin cfg0.N) (h : t.val % 38 = 0) :
    pre m c t ⊢ wp frame (wpE (defs₀ (F := F)) Variants.none c none) Set.univ (bodyAt0 t) (fun _ => post m c t) := by
  refine (pre_in m c t).trans ?_
  rw [Phi_castSucc]
  refine (sep_mono .rfl (sep_mono (Phi_any m c _ _) .rfl)).trans ?_
  rw [PhiA_eq]
  iintro ⟨HI, ⟨HS, Hg⟩, HO, ⟨%d10, HY⟩, ⟨%d11, HZ⟩⟩
  iapply ((startAt m c t h).2 _ _ _)
  isplitl [HI]; · iexact HI
  isplitl [HY]; · iexact HY
  isplitl [HZ]; · iexact HZ
  isplitl [HS]; · iexact HS
  iintro ⟨HI, HY, HZ, ⟨%f, HS⟩⟩
  iapply (leaves_idle m c t (by omega) d10 d11)
  isplitl [HI]; · iexact HI
  isplitl [HS Hg]
  · rw [Phi_succ]
    isplitl [HS]
    · unfold owns; iexists _; isplitr
      swap; · iexact HS
      ipureintro; rw [next_start m c t h]; exact View.read_writes_eq_canon _ _ _ (start_cover m c t h)
    iexact Hg
  isplitl [HO]; · iexact HO
  isplitl [HY]; · iexact HY
  iexact HZ

theorem body_norm (c : Dev nD) (t : Fin cfg0.N) (h : 22 ≤ t.val % 38) :
    pre m c t ⊢ wp frame (wpE (defs₀ (F := F)) Variants.none c none) Set.univ (bodyAt0 t) (fun _ => post m c t) := by
  refine (pre_in m c t).trans ?_
  rw [Phi_castSucc, Phi_pos m c _ _ (by intro k; rw [k] at h; omega)]
  iintro ⟨HI, ⟨HS, Hg⟩, HO, ⟨%d10, HY⟩, ⟨%d11, HZ⟩⟩
  iapply ((normAt m c t h (acc m c t.val)).2.2 _)
  isplitl [HI]; · iexact HI
  isplitl [HY]; · iexists _; iexact HY
  isplitl [HZ]; · iexists _; iexact HZ
  isplitl [HS]; · iexact HS
  iintro ⟨HI, ⟨%f10, HY⟩, ⟨%f11, HZ⟩, HS⟩
  unfold post
  rw [owes_succ, Phi_succ, next_norm m c t h]
  rw [show (dats m 0 c).leavesExact 10 t = owns (c : Thread nD τ) (win0_10.stage (cfg0.slots t 10)) fullShare ((dats m 0 c).after 10 t) from by
    unfold Dat.leavesExact; rw [live10 t h], after10]
  rw [show (dats m 0 c).leavesExact 11 t = owns (c : Thread nD τ) (win0_11.stage (cfg0.slots t 11)) fullShare ((dats m 0 c).after 11 t) from by
    unfold Dat.leavesExact; rw [live11 t h], after11]
  iapply (leaves_in m c t)
  isplitl [HI]; · iexact HI
  isplitl [HS Hg]
  · isplitl [HS]; · iexact HS
    iexact Hg
  isplitl [HO]; · iexact HO
  isplitl [HY]
  · unfold owns; iexists _; isplitr
    swap; · iexact HY
    ipureintro; rw [out10, dif_pos h]; exact View.read_writes_eq_canon _ _ _ (norm_cover10 m c t h _)
  unfold owns; iexists _; isplitr
  swap; · iexact HZ
  ipureintro; rw [out11, dif_pos h]; exact View.read_writes_eq_canon _ _ _ (norm_cover11 m c t h _)

/-- The body at any point. -/
theorem body (c : Dev nD) (t : Fin cfg0.N) :
    pre m c t ⊢ wp frame (wpE (defs₀ (F := F)) Variants.none c none) Set.univ (bodyAt0 t) (fun _ => post m c t) := by
  by_cases h0 : t.val % 38 = 0
  · exact body_start m c t h0
  by_cases h1 : t.val % 38 ≤ 15
  · exact body_adds m c t (by omega) h0 _ (addResAt m c t (by omega) (acc m c t.val)).2 (addRes_cover m c t (by omega) _) (next_addRes m c t (by omega) _)
  by_cases h2 : t.val % 38 ≤ 20
  · exact body_adds m c t (by omega) h0 _ (addAt m c t (by omega) (acc m c t.val)).2 (add_cover m c t (by omega) _) (next_add m c t (by omega) _)
  by_cases h3 : t.val % 38 = 21
  · exact body_adds m c t (by omega) h0 _ (lastAt m c t h3 (acc m c t.val)).2 (last_cover m c t h3 _) (next_last m c t h3 _)
  exact body_norm m c t (by omega)

theorem defs_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, defs_row]
  exact triple_restated (body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]

theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl]
  exact Phi_any m c _ _

set_option backward.isDefEq.respectTransparency.types false in
/-- The kernel's run: it ends, with every array at what the proof data says, and no semaphore counts. -/
theorem run : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := hin m) (hout := hout m)

/-- The run leaves the arguments unchanged. -/
theorem kept {r} (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 7).trans (((dats m 0 c).arrAt_in 7 rfl _).trans ((A_eq m c 7).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 8).trans (((dats m 0 c).arrAt_in 8 rfl _).trans ((A_eq m c 8).trans (V_main_arg4 m c))),
    ((h c).1 9).trans (((dats m 0 c).arrAt_in 9 rfl _).trans ((A_eq m c 9).trans (V_main_arg5 m c)))⟩

/-- The kernel ends with its arguments unchanged and no semaphore counting. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨kept m h.1, h.2⟩) (run m ρ)

/-- The kernel ends with its results at what the steps leave there, and its arguments unchanged. -/
theorem run_results : θ_run defs (onTc (τ := τ) (main (F := F))) ⟨m, fun _ => 0, ρ⟩ (fun r => ∀ c : Dev nD,
      r.2.mem ((c.tc : Thread nD τ).loc main_v4_0) = (dats m 0 c).arrAt 10 cfg0.N
      ∧ r.2.mem ((c.tc : Thread nD τ).loc main_v4_1) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 10, (h.1 c).1 11, kept m h.1 c⟩) (run m ρ)

end Cert.FfnIdeal.Body

end
-- ==== Proof.FfnBits.lean ====
/- The feed-forward kernel itself: the same program as its idealization, read at bit-exact floats. -/
module

public import proofs.«01_k».proof.Defs
public import proofs.«01_k».proof.Proof.Gen.Ffn
public import proofs.«01_k».proof.Proof.FfnFrame

@[expose] public section

set_option maxRecDepth 16384

noncomputable section

namespace Cert.FfnBits

open Idealize.ShloMosaic Idealize.SL.Sem

/-- The kernels' body tables are equal. -/
theorem defs₀_eq : @Cert.Ffn.defs₀ Bits _ Cert.Ffn.Gen.facts = @Cert.FfnIdeal.defs₀ Bits _ Cert.FfnIdeal.Gen.facts := by
  unfold Cert.Ffn.defs₀ Cert.FfnIdeal.defs₀
  refine congrArg Defs.onTc (funext fun l => funext fun a => ?_)
  match l, a with
  | 0, (t, s) => with_unfolding_all rfl
  | ⟨_ + 1, h⟩, _ => exact absurd h (Nat.not_lt.2 (Nat.le_add_left _ _))

/-- So are the programs' definitions. -/
theorem defs_eq : @Cert.Ffn.defs Bits _ Cert.Ffn.Gen.facts = @Cert.FfnIdeal.defs Bits _ Cert.FfnIdeal.Gen.facts :=
  congrArg (Pipeline.defs Cert.FfnIdeal.pcfgs) defs₀_eq

/-- So are the programs. -/
theorem main_eq : @Cert.Ffn.main Bits _ Cert.Ffn.Gen.facts = @Cert.FfnIdeal.main Bits _ Cert.FfnIdeal.Gen.facts := by with_unfolding_all rfl

/-- The kernel ends with its arguments unchanged and no semaphore counting. -/
theorem frame_holds : Cert.quiescent_Ffn (hFfn := Cert.Ffn.Gen.facts) := fun m ρ _ => by
  rw [defs_eq, main_eq]
  exact Cert.FfnIdeal.Body.frame_holds (F := Bits) m ρ

end Cert.FfnBits

end
-- ==== Proof.FfnSpec.lean ====
/- The feed-forward block's mathematics, on the extended reals: gated hidden units, their product with the down weights, and the normalised row. -/
module

public import Idealize.ShloMosaic.Lib.Pointwise

@[expose] public section

noncomputable section

namespace Cert.FfnSpec

open Idealize.ShloMosaic

/-- One hidden unit: the gate's value times its logistic, times the other product. -/
def swish (g u : EReal) : EReal := g * Ideal.div 1 (1 + Ideal.exp (-g)) * u

/-- The value a half has. -/
def half : EReal := Ideal.ofBits .f32 1056964608#32
/-- The weight of the residual. -/
def alpha : EReal := Ideal.ofBits .f32 1066940400#32
/-- Twice the weight of the residual. -/
def alpha2 : EReal := Ideal.ofBits .f32 1075329008#32
/-- The row's length. -/
def len : EReal := Ideal.ofBits .f32 1166016512#32
/-- What is added to the variance. -/
def eps : EReal := Ideal.ofBits .f32 925353388#32

/-- The mean of a row. -/
def mean (f : Fin 4096 → EReal) : EReal := Ideal.div (∑ d, f d) len
/-- The reciprocal deviation of a row whose mean is `mu`. -/
def rdev (f : Fin 4096 → EReal) (mu : EReal) : EReal := Ideal.rsqrt (Ideal.div (∑ d, (f d - mu) * (f d - mu)) len + eps)
/-- A row normalised, scaled by `g` and moved by `b`. -/
def lnorm (f g b : Fin 4096 → EReal) (d : Fin 4096) : EReal := (f d - mean f) * rdev f (mean f) * g d + b d

section
variable (X : (⟨2, ![16384, 4096]⟩ : Shape).Idx → EReal) (WG WU : (⟨2, ![4096, 11008]⟩ : Shape).Idx → EReal) (WD : (⟨2, ![11008, 4096]⟩ : Shape).Idx → EReal)

/-- One term of the down product. -/
def term (R : Fin 16384) (d : Fin 4096) (k : Fin 11008) : EReal :=
  swish (∑ e : Fin 4096, X (ix2 R e) * WG (ix2 e k)) (∑ e : Fin 4096, X (ix2 R e) * WU (ix2 e k)) * WD (ix2 k d)

/-- The down product. -/
def down (R : Fin 16384) (d : Fin 4096) : EReal := ∑ k : Fin 11008, term X WG WU WD R d k

/-- The residual and half the down product. -/
def row (R : Fin 16384) (d : Fin 4096) : EReal := alpha * X (ix2 R d) + half * down X WG WU WD R d

/-- The part of the down product from hidden units `256 n` to `256 n + 255`. -/
def part (R : Fin 16384) (d : Fin 4096) (n : ℕ) : EReal := ∑ k : Fin 256, term X WG WU WD R d (Fin.ofNat 11008 (256 * n + k))

/-- What the accumulator holds of row `R` after step `s` of its row block: the chunks so far, and the residual once its slab has had it. -/
def held (s : ℕ) (R : Fin 16384) (d : Fin 4096) : EReal :=
  (∑ n ∈ Finset.range (min (2 * (s + 1)) 43), part X WG WU WD R d n) + if R.val % 1024 / 64 ≤ s then alpha2 * X (ix2 R d) else 0

end

theorem sum_chunks (f : ℕ → EReal) (m n : ℕ) : ∑ i ∈ Finset.range m, ∑ j : Fin n, f (n * i + j) = ∑ k : Fin (n * m), f k := by
  rw [Fin.sum_univ_eq_sum_range (fun k => f k) (n * m)]
  induction m with
  | zero => simp
  | succ m ih =>
    rw [Finset.sum_range_succ, ih, Nat.mul_succ, Finset.sum_range_add, Fin.sum_univ_eq_sum_range (fun j => f (n * m + j)) n]

theorem parts (X WG WU WD) (R : Fin 16384) (d : Fin 4096) :
    ∑ n ∈ Finset.range 43, part X WG WU WD R d n = down X WG WU WD R d := by
  have h := sum_chunks (fun k => term X WG WU WD R d (Fin.ofNat 11008 k)) 43 256
  refine h.trans (Finset.sum_congr rfl fun k _ => ?_)
  congr 1
  exact Fin.ext (Nat.mod_eq_of_lt k.isLt)

theorem half_eq : half = ((1 / 2 : ℝ) : EReal) := by
  unfold half
  simp [Ideal.ofBits, Ideal.ieee]
  rw [← EReal.coe_mul]
  norm_num

theorem half_alpha2 : half * alpha2 = alpha := by
  rw [half_eq]
  unfold alpha alpha2
  simp [Ideal.ofBits, Ideal.ieee]
  simp only [← EReal.coe_mul]
  norm_num

theorem half_row (S x : EReal) : half * (S + alpha2 * x) = alpha * x + half * S := by
  rw [← half_alpha2, half_eq, EReal.left_distrib_of_nonneg_of_ne_top (by positivity) (EReal.coe_ne_top _), mul_assoc, add_comm]

theorem held_zero (X WG WU WD) (R : Fin 16384) (d : Fin 4096) :
    held X WG WU WD 0 R d = part X WG WU WD R d 0 + part X WG WU WD R d 1 + if R.val % 1024 / 64 = 0 then alpha2 * X (ix2 R d) else 0 := by
  unfold held
  rw [show min (2 * (0 + 1)) 43 = 2 from rfl, Finset.sum_range_succ, Finset.sum_range_one]
  simp only [Nat.le_zero]

theorem held_succ (X WG WU WD) (s : ℕ) (h : s < 20) (R : Fin 16384) (d : Fin 4096) :
    held X WG WU WD (s + 1) R d = held X WG WU WD s R d + (part X WG WU WD R d (2 * (s + 1)) + part X WG WU WD R d (2 * (s + 1) + 1))
      + if R.val % 1024 / 64 = s + 1 then alpha2 * X (ix2 R d) else 0 := by
  unfold held
  rw [show min (2 * (s + 1 + 1)) 43 = 2 * (s + 1) + 1 + 1 from by omega, show min (2 * (s + 1)) 43 = 2 * (s + 1) from by omega,
    Finset.sum_range_succ, Finset.sum_range_succ]
  by_cases h1 : R.val % 1024 / 64 ≤ s
  · rw [if_pos h1, if_pos (by omega), if_neg (by omega)]
    abel
  · by_cases h2 : R.val % 1024 / 64 = s + 1
    · rw [if_neg h1, if_pos (by omega), if_pos h2]
      abel
    · rw [if_neg h1, if_neg (by omega), if_neg h2]
      abel

theorem held_last (X WG WU WD) (R : Fin 16384) (d : Fin 4096) :
    held X WG WU WD 21 R d = held X WG WU WD 20 R d + part X WG WU WD R d 42 := by
  unfold held
  rw [show min (2 * (21 + 1)) 43 = 42 + 1 from rfl, show min (2 * (20 + 1)) 43 = 42 from rfl, Finset.sum_range_succ, if_pos (by omega), if_pos (by omega)]
  abel

theorem held_late (X WG WU WD) (s : ℕ) (h : 21 ≤ s) (R : Fin 16384) (d : Fin 4096) :
    held X WG WU WD (s + 1) R d = held X WG WU WD s R d := by
  unfold held
  rw [min_eq_right (by omega), min_eq_right (by omega), if_pos (by omega), if_pos (by omega)]

theorem half_held (X WG WU WD) (s : ℕ) (h : 21 ≤ s) (R : Fin 16384) (d : Fin 4096) :
    half * held X WG WU WD s R d = row X WG WU WD R d := by
  unfold held row
  rw [min_eq_right (by omega), parts, if_pos (by omega), half_row]

theorem sum_eight (f : ℕ → EReal) :
    ∑ q : Fin 512, (f q + f (512 + q) + f (1024 + q) + f (1536 + q) + f (2048 + q) + f (2560 + q) + f (3072 + q) + f (3584 + q)) = ∑ d : Fin 4096, f d := by
  refine Eq.trans ?_ (sum_chunks f 8 512)
  simp only [Finset.sum_add_distrib, Finset.sum_range_succ, Finset.sum_range_zero, zero_add, Nat.mul_zero, Nat.mul_one, Nat.reduceMul]

end Cert.FfnSpec

end
-- ==== Proof.FfnTile.lean ====
/- The feed-forward kernel's tiles: one column chunk of a step, and one slab of the residual. -/
module

public import proofs.«01_k».proof.Proof.FfnFrame
public import proofs.«01_k».proof.Proof.FfnSpec
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnIdeal.Tile

open Cert.FfnIdeal Cert.FfnIdeal.Gen Cert.FfnIdeal.Body Idealize.ShloMosaic Idealize.ShloMosaic.TcCoe Idealize.SL.Sem Cert.FfnSpec

/-- One hidden unit of one row of a row block. -/
def hid (x : Vec Ideal S1024x4096 .bf16) (wg wu : Vec Ideal S4096x256 .bf16) (r : Fin 1024) (k : Fin 256) : EReal :=
  swish (∑ e : Fin 4096, x (ix2 r e) * wg (ix2 e k)) (∑ e : Fin 4096, x (ix2 r e) * wu (ix2 e k))

/-- What 256 hidden units add to one entry of the accumulator. -/
def chunk (x : Vec Ideal S1024x4096 .bf16) (wg wu : Vec Ideal S4096x256 .bf16) (wd : Vec Ideal S256x4096 .bf16) (y : S1024x4096.Idx) : EReal :=
  ∑ k : Fin 256, hid x wg wu (y 0) k * wd (ix2 k (y 1))

theorem hid_apply (x : Vec Ideal S1024x4096 .bf16) (wg wu : Vec Ideal S4096x256 .bf16) (r : Fin 1024) (k : Fin 256) :
    k0_pay10 (F := Ideal) x wg wu (ix2 r k) = hid x wg wu r k := by
  unfold hid swish
  pointwise [k0_pay10, k0_pay9]
  simp only [zero_sub]

theorem emb_col {R o : ℕ} (h : ∀ a, (![0, o] : Fin 2 → ℕ) a + (![R, 512] : Fin 2 → ℕ) a ≤ (⟨2, ![R, 4096]⟩ : Shape).size a)
    (r : Fin R) (q : Fin 512) (hq : o + q.val < 4096) :
    Rect.emb (Rect.unit (s := ⟨2, ![R, 4096]⟩) ![0, o] ![R, 512] h) (ix2 r q : (⟨2, ![R, 512]⟩ : Shape).Idx) = ix2 r ⟨o + q.val, hq⟩ := by
  funext a
  apply Fin.ext
  fin_cases a <;> simp

theorem lt_of_inb {R o : ℕ} (h : ∀ a, (![0, o] : Fin 2 → ℕ) a + (![R, 512] : Fin 2 → ℕ) a ≤ (⟨2, ![R, 4096]⟩ : Shape).size a)
    (q : Fin 512) : o + q.val < 4096 := by
  have := h 1
  have := q.isLt
  simp at *
  omega

theorem chunk_at (x : Vec Ideal S1024x4096 .bf16) (wg wu : Vec Ideal S4096x256 .bf16) (wd : Vec Ideal S256x4096 .bf16) (r : Fin 1024) (d : Fin 4096) :
    ∑ k : Fin 256, k0_pay10 (F := Ideal) x wg wu (ix2 r k) * wd (ix2 k d) = chunk x wg wu wd (ix2 r d) :=
  Finset.sum_congr rfl fun k _ => congrArg (· * wd (ix2 k d)) (hid_apply x wg wu r k)

/-- One column chunk of a first step. -/
theorem start_piece (x0 : Vec Ideal S1024x4096 .bf16) (x1 x2 x3 x4 : Vec Ideal S4096x256 .bf16) (x5 x6 : Vec Ideal S256x4096 .bf16) (o : ℕ)
    (hw : ∀ a, (![0, o] : Fin 2 → ℕ) a + (![256, 512] : Fin 2 → ℕ) a ≤ S256x4096.size a)
    (ha : ∀ a, (![0, o] : Fin 2 → ℕ) a + (![1024, 512] : Fin 2 → ℕ) a ≤ S1024x4096.size a) (j : S1024x512.Idx) :
    k0_pay14 (F := Ideal) (k0_pay10 x0 x1 x3) (k0_pay10 x0 x2 x4) (View.ld x5 (Rect.unit (s := S256x4096) ![0, o] ![256, 512] hw))
        (View.ld x6 (Rect.unit (s := S256x4096) ![0, o] ![256, 512] hw)) j
      = chunk x0 x1 x3 x5 (Rect.emb (Rect.unit (s := S1024x4096) ![0, o] ![1024, 512] ha) j)
        + chunk x0 x2 x4 x6 (Rect.emb (Rect.unit (s := S1024x4096) ![0, o] ![1024, 512] ha) j) := by
  idx_vars j
  refine Eq.trans ?_ (congrArg (fun y => chunk x0 x1 x3 x5 y + chunk x0 x2 x4 x6 y) (emb_col ha _ _ (lt_of_inb ha _))).symm
  refine Eq.trans ?_ (congrArg₂ (· + ·) (chunk_at x0 x1 x3 x5 _ _) (chunk_at x0 x2 x4 x6 _ _))
  generalize k0_pay10 (F := Ideal) x0 x1 x3 = h0
  generalize k0_pay10 (F := Ideal) x0 x2 x4 = h1
  pointwise [k0_pay14]

/-- One column chunk of a step that adds two chunks of hidden units. -/
theorem add_piece (x0 : Vec Ideal S1024x4096 .bf16) (x1 x2 x3 x4 : Vec Ideal S4096x256 .bf16) (x5 x6 : Vec Ideal S256x4096 .bf16)
    (xs : Vec Ideal S1024x4096 .f32) (o : ℕ)
    (hw : ∀ a, (![0, o] : Fin 2 → ℕ) a + (![256, 512] : Fin 2 → ℕ) a ≤ S256x4096.size a)
    (ha : ∀ a, (![0, o] : Fin 2 → ℕ) a + (![1024, 512] : Fin 2 → ℕ) a ≤ S1024x4096.size a) (j : S1024x512.Idx) :
    k0_pay36 (F := Ideal) (k0_pay10 x0 x1 x3) (k0_pay10 x0 x2 x4) (View.ld x5 (Rect.unit (s := S256x4096) ![0, o] ![256, 512] hw))
        (View.ld x6 (Rect.unit (s := S256x4096) ![0, o] ![256, 512] hw)) (View.ld xs (Rect.unit (s := S1024x4096) ![0, o] ![1024, 512] ha)) j
      = xs (Rect.emb (Rect.unit (s := S1024x4096) ![0, o] ![1024, 512] ha) j) +
        (chunk x0 x1 x3 x5 (Rect.emb (Rect.unit (s := S1024x4096) ![0, o] ![1024, 512] ha) j)
        + chunk x0 x2 x4 x6 (Rect.emb (Rect.unit (s := S1024x4096) ![0, o] ![1024, 512] ha) j)) := by
  idx_vars j
  refine Eq.trans ?_ (congrArg (fun y => xs y + (chunk x0 x1 x3 x5 y + chunk x0 x2 x4 x6 y)) (emb_col ha _ _ (lt_of_inb ha _))).symm
  refine Eq.trans ?_ (congrArg₂ (· + ·) rfl (congrArg₂ (· + ·) (chunk_at x0 x1 x3 x5 _ _) (chunk_at x0 x2 x4 x6 _ _)))
  generalize k0_pay10 (F := Ideal) x0 x1 x3 = h0
  generalize k0_pay10 (F := Ideal) x0 x2 x4 = h1
  pointwise [k0_pay36]

/-- One column chunk of the step that adds the last chunk of hidden units. -/
theorem last_piece (x0 : Vec Ideal S1024x4096 .bf16) (x1 x3 : Vec Ideal S4096x256 .bf16) (x5 : Vec Ideal S256x4096 .bf16)
    (xs : Vec Ideal S1024x4096 .f32) (o : ℕ)
    (hw : ∀ a, (![0, o] : Fin 2 → ℕ) a + (![256, 512] : Fin 2 → ℕ) a ≤ S256x4096.size a)
    (ha : ∀ a, (![0, o] : Fin 2 → ℕ) a + (![1024, 512] : Fin 2 → ℕ) a ≤ S1024x4096.size a) (j : S1024x512.Idx) :
    k0_pay42 (F := Ideal) (k0_pay10 x0 x1 x3) (View.ld x5 (Rect.unit (s := S256x4096) ![0, o] ![256, 512] hw))
        (View.ld xs (Rect.unit (s := S1024x4096) ![0, o] ![1024, 512] ha)) j
      = xs (Rect.emb (Rect.unit (s := S1024x4096) ![0, o] ![1024, 512] ha) j) +
        chunk x0 x1 x3 x5 (Rect.emb (Rect.unit (s := S1024x4096) ![0, o] ![1024, 512] ha) j) := by
  idx_vars j
  refine Eq.trans ?_ (congrArg (fun y => xs y + chunk x0 x1 x3 x5 y) (emb_col ha _ _ (lt_of_inb ha _))).symm
  refine Eq.trans ?_ (congrArg₂ (· + ·) rfl (chunk_at x0 x1 x3 x5 _ _))
  generalize k0_pay10 (F := Ideal) x0 x1 x3 = h0
  pointwise [k0_pay42]

/-- The residual added to the rows from `o` to `o + 63` of what the pieces `L` left. -/
theorem slab (L : List (View.Piece (Elt Ideal) S1024x4096 .f32)) (off : Fin 2 → ℕ) (o : ℕ) (ho : off = ![o, 0])
    (inb : ∀ a, off a + (![64, 4096] : Fin 2 → ℕ) a ≤ S1024x4096.size a) (x7 : Vec Ideal S64x4096 .f32) (z : EReal) (r : Fin 1024) (d : Fin 4096)
    (hz : ∀ q : Fin 64, o + q.val = r.val → x7 (ix2 q d) = z) :
    View.canon (⟨Rect.unit (s := S1024x4096) off ![64, 4096] inb, k0_pay6 (F := Ideal) (View.ld (View.canon L) (Rect.unit (s := S1024x4096) off ![64, 4096] inb)) x7⟩ :: L) (ix2 r d)
      = View.canon L (ix2 r d) + if o ≤ r.val ∧ r.val < o + 64 then alpha2 * z else 0 := by
  subst ho
  by_cases h : o ≤ r.val ∧ r.val < o + 64
  · rw [if_pos h]
    have he : Rect.emb (Rect.unit (s := S1024x4096) ![o, 0] ![64, 4096] inb) (ix2 ⟨r.val - o, by omega⟩ d : S64x4096.Idx) = ix2 r d := by
      funext a
      apply Fin.ext
      fin_cases a
      · show o + 1 * (r.val - o) = r.val
        omega
      · show 0 + 1 * d.val = d.val
        omega
    rw [← hz ⟨r.val - o, by omega⟩ (by show o + (r.val - o) = r.val; omega)]
    conv_lhs => rw [← he]
    refine (View.canon_cons_emb _ _ _ _).trans ?_
    pointwise [k0_pay6]
    simp only [Nat.add_sub_cancel' h.1]
    rfl
  · rw [if_neg h, add_zero]
    refine View.canon_cons_of_not_mem _ _ fun hm => h ?_
    have hm' : _ ∈ (Rect.unit (s := S1024x4096) ![o, 0] ![64, 4096] inb).set := hm
    have := Rect.mem_set_unit.mp hm' 0
    simpa using this

end Cert.FfnIdeal.Tile

end
-- ==== Proof.FfnStep.lean ====
/- What each kind of step leaves in the accumulator. -/
module

public import proofs.«01_k».proof.Proof.FfnTile
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnIdeal.Step

open Cert.FfnIdeal Cert.FfnIdeal.Gen Cert.FfnIdeal.Body Idealize.ShloMosaic Idealize.ShloMosaic.TcCoe Idealize.SL.Sem Cert.FfnSpec Cert.FfnIdeal.Tile

variable (m : (ℓ : Loc nD τ sig) → Buf (Elt Ideal) ℓ)

theorem off1 : ∀ t : Fin cfg0.N, t.val % 38 ≤ 15 → k0_off1 (grid0.coords t) = ![64 * (t.val % 38), 0] :=
  (by decide +kernel : ∀ t : Fin grid0.N, t.val % 38 ≤ 15 → k0_off1 (grid0.coords t) = ![64 * (t.val % 38), 0])

/-- The first chunk of hidden units of a step. -/
def one (c : Dev nD) (t : Fin cfg0.N) (y : S1024x4096.Idx) : EReal := chunk (ins m c t).x0 (ins m c t).x1 (ins m c t).x3 (ins m c t).x5 y
/-- The second chunk of hidden units of a step. -/
def two (c : Dev nD) (t : Fin cfg0.N) (y : S1024x4096.Idx) : EReal := chunk (ins m c t).x0 (ins m c t).x2 (ins m c t).x4 (ins m c t).x6 y

/-- What a first step writes, before the residual. -/
def startG (c : Dev nD) (t : Fin cfg0.N) (y : S1024x4096.Idx) : EReal := one m c t y + two m c t y
/-- What a step that adds two chunks leaves, before the residual. -/
def addG (c : Dev nD) (t : Fin cfg0.N) (xs : Vec Ideal S1024x4096 .f32) (y : S1024x4096.Idx) : EReal := xs y + (one m c t y + two m c t y)
/-- What the step that adds the last chunk leaves. -/
def lastG (c : Dev nD) (t : Fin cfg0.N) (xs : Vec Ideal S1024x4096 .f32) (y : S1024x4096.Idx) : EReal := xs y + one m c t y

theorem add_right {a b c : EReal} (h : a = b) : a + c = b + c := h ▸ rfl

theorem start_at (c : Dev nD) (t : Fin cfg0.N) (h : t.val % 38 = 0) (z : EReal) (r : Fin 1024) (d : Fin 4096)
    (hz : ∀ q : Fin 64, 64 * (t.val % 38) + q.val = r.val → (ins m c t).x7 (ix2 q d) = z) :
    View.canon (startAt m c t h).1 (ix2 r d)
      = one m c t (ix2 r d) + two m c t (ix2 r d) + if 64 * (t.val % 38) ≤ r.val ∧ r.val < 64 * (t.val % 38) + 64 then alpha2 * z else 0 := by
  unfold startAt start
  dsimp only
  frame_open
  frame_out
  rw [slab _ _ (64 * (t.val % 38)) (off1 t (by omega)) _ (ins m c t).x7 z r d hz]
  refine add_right ?_
  refine View.canon_apply_of_pieces (Val := Elt Ideal) (e := .f32) (startG m c t) _ (View.PiecesOf.mem ?_) _ ?_
  · refine ⟨start_piece (ins m c t).x0 (ins m c t).x1 (ins m c t).x2 (ins m c t).x3 (ins m c t).x4 (ins m c t).x5 (ins m c t).x6 3584 inb_S256x4096_S256x512_0_3584 inb_S1024x4096_S1024x512_0_3584, ?_⟩
    refine ⟨start_piece (ins m c t).x0 (ins m c t).x1 (ins m c t).x2 (ins m c t).x3 (ins m c t).x4 (ins m c t).x5 (ins m c t).x6 3072 inb_S256x4096_S256x512_0_3072 inb_S1024x4096_S1024x512_0_3072, ?_⟩
    refine ⟨start_piece (ins m c t).x0 (ins m c t).x1 (ins m c t).x2 (ins m c t).x3 (ins m c t).x4 (ins m c t).x5 (ins m c t).x6 2560 inb_S256x4096_S256x512_0_2560 inb_S1024x4096_S1024x512_0_2560, ?_⟩
    refine ⟨start_piece (ins m c t).x0 (ins m c t).x1 (ins m c t).x2 (ins m c t).x3 (ins m c t).x4 (ins m c t).x5 (ins m c t).x6 2048 inb_S256x4096_S256x512_0_2048 inb_S1024x4096_S1024x512_0_2048, ?_⟩
    refine ⟨start_piece (ins m c t).x0 (ins m c t).x1 (ins m c t).x2 (ins m c t).x3 (ins m c t).x4 (ins m c t).x5 (ins m c t).x6 1536 inb_S256x4096_S256x512_0_1536 inb_S1024x4096_S1024x512_0_1536, ?_⟩
    refine ⟨start_piece (ins m c t).x0 (ins m c t).x1 (ins m c t).x2 (ins m c t).x3 (ins m c t).x4 (ins m c t).x5 (ins m c t).x6 1024 inb_S256x4096_S256x512_0_1024 inb_S1024x4096_S1024x512_0_1024, ?_⟩
    refine ⟨start_piece (ins m c t).x0 (ins m c t).x1 (ins m c t).x2 (ins m c t).x3 (ins m c t).x4 (ins m c t).x5 (ins m c t).x6 512 inb_S256x4096_S256x512_0_512 inb_S1024x4096_S1024x512_0_512, ?_⟩
    refine ⟨start_piece (ins m c t).x0 (ins m c t).x1 (ins m c t).x2 (ins m c t).x3 (ins m c t).x4 (ins m c t).x5 (ins m c t).x6 0 inb_S256x4096_S256x512_0_0 inb_S1024x4096_S1024x512_0_0, ?_⟩
    trivial
  · exact View.cover_of_tiledL (s := S1024x4096) _ S1024x512.size (by sl_kernel_rfl) _

theorem addRes_at (c : Dev nD) (t : Fin cfg0.N) (h : 1 ≤ t.val % 38 ∧ t.val % 38 ≤ 15) (xs : Vec Ideal S1024x4096 .f32) (z : EReal) (r : Fin 1024) (d : Fin 4096)
    (hz : ∀ q : Fin 64, 64 * (t.val % 38) + q.val = r.val → (ins m c t).x7 (ix2 q d) = z) :
    View.canon (addResAt m c t h xs).1 (ix2 r d)
      = xs (ix2 r d) + (one m c t (ix2 r d) + two m c t (ix2 r d)) + if 64 * (t.val % 38) ≤ r.val ∧ r.val < 64 * (t.val % 38) + 64 then alpha2 * z else 0 := by
  unfold addResAt addRes
  dsimp only
  frame_open
  frame_out
  simp only [read_unread_whole]
  rw [slab _ _ (64 * (t.val % 38)) (off1 t (by omega)) _ (ins m c t).x7 z r d hz]
  refine add_right ?_
  refine View.canon_apply_of_pieces (Val := Elt Ideal) (e := .f32) (addG m c t xs) _ (View.PiecesOf.mem ?_) _ ?_
  · refine ⟨add_piece (ins m c t).x0 (ins m c t).x1 (ins m c t).x2 (ins m c t).x3 (ins m c t).x4 (ins m c t).x5 (ins m c t).x6 xs 3584 inb_S256x4096_S256x512_0_3584 inb_S1024x4096_S1024x512_0_3584, ?_⟩
    refine ⟨add_piece (ins m c t).x0 (ins m c t).x1 (ins m c t).x2 (ins m c t).x3 (ins m c t).x4 (ins m c t).x5 (ins m c t).x6 xs 3072 inb_S256x4096_S256x512_0_3072 inb_S1024x4096_S1024x512_0_3072, ?_⟩
    refine ⟨add_piece (ins m c t).x0 (ins m c t).x1 (ins m c t).x2 (ins m c t).x3 (ins m c t).x4 (ins m c t).x5 (ins m c t).x6 xs 2560 inb_S256x4096_S256x512_0_2560 inb_S1024x4096_S1024x512_0_2560, ?_⟩
    refine ⟨add_piece (ins m c t).x0 (ins m c t).x1 (ins m c t).x2 (ins m c t).x3 (ins m c t).x4 (ins m c t).x5 (ins m c t).x6 xs 2048 inb_S256x4096_S256x512_0_2048 inb_S1024x4096_S1024x512_0_2048, ?_⟩
    refine ⟨add_piece (ins m c t).x0 (ins m c t).x1 (ins m c t).x2 (ins m c t).x3 (ins m c t).x4 (ins m c t).x5 (ins m c t).x6 xs 1536 inb_S256x4096_S256x512_0_1536 inb_S1024x4096_S1024x512_0_1536, ?_⟩
    refine ⟨add_piece (ins m c t).x0 (ins m c t).x1 (ins m c t).x2 (ins m c t).x3 (ins m c t).x4 (ins m c t).x5 (ins m c t).x6 xs 1024 inb_S256x4096_S256x512_0_1024 inb_S1024x4096_S1024x512_0_1024, ?_⟩
    refine ⟨add_piece (ins m c t).x0 (ins m c t).x1 (ins m c t).x2 (ins m c t).x3 (ins m c t).x4 (ins m c t).x5 (ins m c t).x6 xs 512 inb_S256x4096_S256x512_0_512 inb_S1024x4096_S1024x512_0_512, ?_⟩
    refine ⟨add_piece (ins m c t).x0 (ins m c t).x1 (ins m c t).x2 (ins m c t).x3 (ins m c t).x4 (ins m c t).x5 (ins m c t).x6 xs 0 inb_S256x4096_S256x512_0_0 inb_S1024x4096_S1024x512_0_0, ?_⟩
    trivial
  · exact View.cover_of_tiledL (s := S1024x4096) _ S1024x512.size (by sl_kernel_rfl) _

theorem add_at (c : Dev nD) (t : Fin cfg0.N) (h : 16 ≤ t.val % 38 ∧ t.val % 38 ≤ 20) (xs : Vec Ideal S1024x4096 .f32) (y : S1024x4096.Idx) :
    View.canon (addAt m c t h xs).1 y = xs y + (one m c t y + two m c t y) := by
  unfold addAt add
  dsimp only
  frame_open
  frame_out
  simp only [read_unread_whole]
  refine View.canon_apply_of_pieces (Val := Elt Ideal) (e := .f32) (addG m c t xs) _ (View.PiecesOf.mem ?_) y ?_
  · refine ⟨add_piece (ins m c t).x0 (ins m c t).x1 (ins m c t).x2 (ins m c t).x3 (ins m c t).x4 (ins m c t).x5 (ins m c t).x6 xs 3584 inb_S256x4096_S256x512_0_3584 inb_S1024x4096_S1024x512_0_3584, ?_⟩
    refine ⟨add_piece (ins m c t).x0 (ins m c t).x1 (ins m c t).x2 (ins m c t).x3 (ins m c t).x4 (ins m c t).x5 (ins m c t).x6 xs 3072 inb_S256x4096_S256x512_0_3072 inb_S1024x4096_S1024x512_0_3072, ?_⟩
    refine ⟨add_piece (ins m c t).x0 (ins m c t).x1 (ins m c t).x2 (ins m c t).x3 (ins m c t).x4 (ins m c t).x5 (ins m c t).x6 xs 2560 inb_S256x4096_S256x512_0_2560 inb_S1024x4096_S1024x512_0_2560, ?_⟩
    refine ⟨add_piece (ins m c t).x0 (ins m c t).x1 (ins m c t).x2 (ins m c t).x3 (ins m c t).x4 (ins m c t).x5 (ins m c t).x6 xs 2048 inb_S256x4096_S256x512_0_2048 inb_S1024x4096_S1024x512_0_2048, ?_⟩
    refine ⟨add_piece (ins m c t).x0 (ins m c t).x1 (ins m c t).x2 (ins m c t).x3 (ins m c t).x4 (ins m c t).x5 (ins m c t).x6 xs 1536 inb_S256x4096_S256x512_0_1536 inb_S1024x4096_S1024x512_0_1536, ?_⟩
    refine ⟨add_piece (ins m c t).x0 (ins m c t).x1 (ins m c t).x2 (ins m c t).x3 (ins m c t).x4 (ins m c t).x5 (ins m c t).x6 xs 1024 inb_S256x4096_S256x512_0_1024 inb_S1024x4096_S1024x512_0_1024, ?_⟩
    refine ⟨add_piece (ins m c t).x0 (ins m c t).x1 (ins m c t).x2 (ins m c t).x3 (ins m c t).x4 (ins m c t).x5 (ins m c t).x6 xs 512 inb_S256x4096_S256x512_0_512 inb_S1024x4096_S1024x512_0_512, ?_⟩
    refine ⟨add_piece (ins m c t).x0 (ins m c t).x1 (ins m c t).x2 (ins m c t).x3 (ins m c t).x4 (ins m c t).x5 (ins m c t).x6 xs 0 inb_S256x4096_S256x512_0_0 inb_S1024x4096_S1024x512_0_0, ?_⟩
    trivial
  · exact View.cover_of_tiledL (s := S1024x4096) _ S1024x512.size (by sl_kernel_rfl) y

theorem last_at (c : Dev nD) (t : Fin cfg0.N) (h : t.val % 38 = 21) (xs : Vec Ideal S1024x4096 .f32) (y : S1024x4096.Idx) :
    View.canon (lastAt m c t h xs).1 y = xs y + one m c t y := by
  unfold lastAt last
  dsimp only
  frame_open
  frame_out
  simp only [read_unread_whole]
  refine View.canon_apply_of_pieces (Val := Elt Ideal) (e := .f32) (lastG m c t xs) _ (View.PiecesOf.mem ?_) y ?_
  · refine ⟨last_piece (ins m c t).x0 (ins m c t).x1 (ins m c t).x3 (ins m c t).x5 xs 3584 inb_S256x4096_S256x512_0_3584 inb_S1024x4096_S1024x512_0_3584, ?_⟩
    refine ⟨last_piece (ins m c t).x0 (ins m c t).x1 (ins m c t).x3 (ins m c t).x5 xs 3072 inb_S256x4096_S256x512_0_3072 inb_S1024x4096_S1024x512_0_3072, ?_⟩
    refine ⟨last_piece (ins m c t).x0 (ins m c t).x1 (ins m c t).x3 (ins m c t).x5 xs 2560 inb_S256x4096_S256x512_0_2560 inb_S1024x4096_S1024x512_0_2560, ?_⟩
    refine ⟨last_piece (ins m c t).x0 (ins m c t).x1 (ins m c t).x3 (ins m c t).x5 xs 2048 inb_S256x4096_S256x512_0_2048 inb_S1024x4096_S1024x512_0_2048, ?_⟩
    refine ⟨last_piece (ins m c t).x0 (ins m c t).x1 (ins m c t).x3 (ins m c t).x5 xs 1536 inb_S256x4096_S256x512_0_1536 inb_S1024x4096_S1024x512_0_1536, ?_⟩
    refine ⟨last_piece (ins m c t).x0 (ins m c t).x1 (ins m c t).x3 (ins m c t).x5 xs 1024 inb_S256x4096_S256x512_0_1024 inb_S1024x4096_S1024x512_0_1024, ?_⟩
    refine ⟨last_piece (ins m c t).x0 (ins m c t).x1 (ins m c t).x3 (ins m c t).x5 xs 512 inb_S256x4096_S256x512_0_512 inb_S1024x4096_S1024x512_0_512, ?_⟩
    refine ⟨last_piece (ins m c t).x0 (ins m c t).x1 (ins m c t).x3 (ins m c t).x5 xs 0 inb_S256x4096_S256x512_0_0 inb_S1024x4096_S1024x512_0_0, ?_⟩
    trivial
  · exact View.cover_of_tiledL (s := S1024x4096) _ S1024x512.size (by sl_kernel_rfl) y

end Cert.FfnIdeal.Step

end
-- ==== Proof.FfnAcc.lean ====
/- The accumulator over the steps of the feed-forward kernel, entry by entry, over the arrays the call is given. -/
module

public import proofs.«01_k».proof.Proof.FfnStep
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnIdeal.Acc

open Cert.FfnIdeal Cert.FfnIdeal.Gen Cert.FfnIdeal.Body Idealize.ShloMosaic Idealize.ShloMosaic.TcCoe Idealize.SL.Sem Cert.FfnSpec Cert.FfnIdeal.Tile Cert.FfnIdeal.Step

variable (m : (ℓ : Loc nD τ sig) → Buf (Elt Ideal) ℓ)

theorem idx : ∀ t : Fin cfg0.N,
    win0_0.index t = ![t.val / 38, 0] ∧ win0_7.index t = ![t.val / 38 * 16 + min (t.val % 38) 15, 0]
    ∧ win0_8.index t = ![0, 0] ∧ win0_9.index t = ![0, 0]
    ∧ win0_10.index t = ![t.val / 38 * 16 + (t.val % 38 - 22), 0] ∧ win0_11.index t = ![t.val / 38 * 16 + (t.val % 38 - 22), 0] :=
  (by decide +kernel : ∀ t : Fin grid0.N, _)

theorem idxW : ∀ t : Fin cfg0.N, t.val % 38 ≤ 21 →
    win0_1.index t = ![0, 2 * (t.val % 38)] ∧ win0_2.index t = ![0, min (2 * (t.val % 38) + 1) 42]
    ∧ win0_3.index t = ![0, 2 * (t.val % 38)] ∧ win0_4.index t = ![0, min (2 * (t.val % 38) + 1) 42]
    ∧ win0_5.index t = ![2 * (t.val % 38), 0] ∧ win0_6.index t = ![min (2 * (t.val % 38) + 1) 42, 0] :=
  (by decide +kernel : ∀ t : Fin grid0.N, t.val % 38 ≤ 21 → _)

/-- The call's first argument. -/
abbrev aX (c : Dev nD) : (⟨2, ![16384, 4096]⟩ : Shape).Idx → EReal := m ((c : Thread nD τ).loc main_arg0)
/-- The gate weights. -/
abbrev aG (c : Dev nD) : (⟨2, ![4096, 11008]⟩ : Shape).Idx → EReal := m ((c : Thread nD τ).loc main_arg1)
/-- The up weights. -/
abbrev aU (c : Dev nD) : (⟨2, ![4096, 11008]⟩ : Shape).Idx → EReal := m ((c : Thread nD τ).loc main_arg2)
/-- The down weights. -/
abbrev aD (c : Dev nD) : (⟨2, ![11008, 4096]⟩ : Shape).Idx → EReal := m ((c : Thread nD τ).loc main_arg3)

theorem v0_eq (c : Dev nD) : V m c main_v0 = aX m c := by
  unfold V
  simp only [hostOps0]
  after_results
  rfl

theorem v1_eq (c : Dev nD) : V m c main_v1 = aG m c := by
  unfold V
  simp only [hostOps0]
  after_results
  rfl

theorem v2_eq (c : Dev nD) : V m c main_v2 = aU m c := by
  unfold V
  simp only [hostOps0]
  after_results
  rfl

theorem v3_eq (c : Dev nD) : V m c main_v3 = aD m c := by
  unfold V
  simp only [hostOps0]
  after_results
  rfl

theorem a0_eq (c : Dev nD) : V m c main_arg0 = aX m c := by
  unfold V
  simp only [hostOps0]
  after_results

/-- The array row of row `r` of a step's row block. -/
def rowOf (n : ℕ) (r : ℕ) : Fin 16384 := Fin.ofNat 16384 (1024 * (n / 38) + r)
/-- The hidden unit `k` of chunk `n`. -/
def unit (n : ℕ) (k : Fin 256) : Fin 11008 := Fin.ofNat 11008 (256 * n + k)

theorem x0_at (c : Dev nD) (t : Fin cfg0.N) (r : Fin 1024) (e : Fin 4096) : (ins m c t).x0 (ix2 r e) = aX m c (ix2 (rowOf t.val r.val) e) := by
  have ht : t.val < 608 := t.isLt
  have hr := r.isLt
  rw [← v0_eq]
  show iblk m c 0 t (ix2 r e) = _
  blk_ext [iblk, V, idx t]
  · show t.val / 38 * 1024 + r.val = (1024 * (t.val / 38) + r.val) % 16384
    omega

theorem x7_at (c : Dev nD) (t : Fin cfg0.N) (r : Fin 64) (e : Fin 4096) :
    (ins m c t).x7 (ix2 r e) = aX m c (ix2 (rowOf t.val (64 * min (t.val % 38) 15 + r.val)) e) := by
  have ht : t.val < 608 := t.isLt
  have hr := r.isLt
  rw [← a0_eq]
  show iblk m c 7 t (ix2 r e) = _
  blk_ext [iblk, V, idx t]
  · show (t.val / 38 * 16 + min (t.val % 38) 15) * 64 + r.val = (1024 * (t.val / 38) + (64 * min (t.val % 38) 15 + r.val)) % 16384
    omega

theorem x1_at (c : Dev nD) (t : Fin cfg0.N) (h : t.val % 38 ≤ 21) (e : Fin 4096) (k : Fin 256) :
    (ins m c t).x1 (ix2 e k) = aG m c (ix2 e (unit (2 * (t.val % 38)) k)) := by
  have hk := k.isLt
  rw [← v1_eq]
  show iblk m c 1 t (ix2 e k) = _
  blk_ext [iblk, V, idxW t h]
  · show 2 * (t.val % 38) * 256 + k.val = (256 * (2 * (t.val % 38)) + k.val) % 11008
    omega

theorem x2_at (c : Dev nD) (t : Fin cfg0.N) (h : t.val % 38 ≤ 20) (e : Fin 4096) (k : Fin 256) :
    (ins m c t).x2 (ix2 e k) = aG m c (ix2 e (unit (2 * (t.val % 38) + 1) k)) := by
  have hk := k.isLt
  rw [← v1_eq]
  show iblk m c 2 t (ix2 e k) = _
  blk_ext [iblk, V, idxW t (h.trans (by decide))]
  · show min (2 * (t.val % 38) + 1) 42 * 256 + k.val = (256 * (2 * (t.val % 38) + 1) + k.val) % 11008
    omega

theorem x3_at (c : Dev nD) (t : Fin cfg0.N) (h : t.val % 38 ≤ 21) (e : Fin 4096) (k : Fin 256) :
    (ins m c t).x3 (ix2 e k) = aU m c (ix2 e (unit (2 * (t.val % 38)) k)) := by
  have hk := k.isLt
  rw [← v2_eq]
  show iblk m c 3 t (ix2 e k) = _
  blk_ext [iblk, V, idxW t h]
  · show 2 * (t.val % 38) * 256 + k.val = (256 * (2 * (t.val % 38)) + k.val) % 11008
    omega

theorem x4_at (c : Dev nD) (t : Fin cfg0.N) (h : t.val % 38 ≤ 20) (e : Fin 4096) (k : Fin 256) :
    (ins m c t).x4 (ix2 e k) = aU m c (ix2 e (unit (2 * (t.val % 38) + 1) k)) := by
  have hk := k.isLt
  rw [← v2_eq]
  show iblk m c 4 t (ix2 e k) = _
  blk_ext [iblk, V, idxW t (h.trans (by decide))]
  · show min (2 * (t.val % 38) + 1) 42 * 256 + k.val = (256 * (2 * (t.val % 38) + 1) + k.val) % 11008
    omega

theorem x5_at (c : Dev nD) (t : Fin cfg0.N) (h : t.val % 38 ≤ 21) (k : Fin 256) (d : Fin 4096) :
    (ins m c t).x5 (ix2 k d) = aD m c (ix2 (unit (2 * (t.val % 38)) k) d) := by
  have hk := k.isLt
  rw [← v3_eq]
  show iblk m c 5 t (ix2 k d) = _
  blk_ext [iblk, V, idxW t h]
  · show 2 * (t.val % 38) * 256 + k.val = (256 * (2 * (t.val % 38)) + k.val) % 11008
    omega

theorem x6_at (c : Dev nD) (t : Fin cfg0.N) (h : t.val % 38 ≤ 20) (k : Fin 256) (d : Fin 4096) :
    (ins m c t).x6 (ix2 k d) = aD m c (ix2 (unit (2 * (t.val % 38) + 1) k) d) := by
  have hk := k.isLt
  rw [← v3_eq]
  show iblk m c 6 t (ix2 k d) = _
  blk_ext [iblk, V, idxW t (h.trans (by decide))]
  · show min (2 * (t.val % 38) + 1) 42 * 256 + k.val = (256 * (2 * (t.val % 38) + 1) + k.val) % 11008
    omega

theorem one_at (c : Dev nD) (t : Fin cfg0.N) (h : t.val % 38 ≤ 21) (r : Fin 1024) (d : Fin 4096) :
    one m c t (ix2 r d) = part (aX m c) (aG m c) (aU m c) (aD m c) (rowOf t.val r.val) d (2 * (t.val % 38)) := by
  unfold one part chunk
  refine Finset.sum_congr rfl fun k _ => ?_
  show hid (ins m c t).x0 (ins m c t).x1 (ins m c t).x3 r k * (ins m c t).x5 (ix2 k d) = _
  unfold hid term
  simp only [x0_at, x1_at m c t h, x3_at m c t h, x5_at m c t h]
  rfl

theorem two_at (c : Dev nD) (t : Fin cfg0.N) (h : t.val % 38 ≤ 20) (r : Fin 1024) (d : Fin 4096) :
    two m c t (ix2 r d) = part (aX m c) (aG m c) (aU m c) (aD m c) (rowOf t.val r.val) d (2 * (t.val % 38) + 1) := by
  unfold two part chunk
  refine Finset.sum_congr rfl fun k _ => ?_
  show hid (ins m c t).x0 (ins m c t).x2 (ins m c t).x4 r k * (ins m c t).x6 (ix2 k d) = _
  unfold hid term
  simp only [x0_at, x2_at m c t h, x4_at m c t h, x6_at m c t h]
  rfl

theorem resid (c : Dev nD) (t : Fin cfg0.N) (h : t.val % 38 ≤ 15) (r : Fin 1024) (d : Fin 4096) (q : Fin 64) (hq : 64 * (t.val % 38) + q.val = r.val) :
    (ins m c t).x7 (ix2 q d) = aX m c (ix2 (rowOf t.val r.val) d) := by
  rw [x7_at, min_eq_left h, hq]

theorem slab_iff (n s : ℕ) (hn : n < 608) (r : Fin 1024) : (64 * s ≤ r.val ∧ r.val < 64 * s + 64) ↔ (rowOf n r.val).val % 1024 / 64 = s := by
  have hr := r.isLt
  show _ ↔ (1024 * (n / 38) + r.val) % 16384 % 1024 / 64 = s
  omega

theorem acc_eq (c : Dev nD) : ∀ (n : ℕ) (hn : n < cfg0.N) (r : Fin 1024) (d : Fin 4096),
    acc m c (n + 1) (ix2 r d) = held (aX m c) (aG m c) (aU m c) (aD m c) (n % 38) (rowOf n r.val) d
  | n, hn, r, d => by
    have hN : n < 608 := hn
    have hs : acc m c (n + 1) = next m c ⟨n, hn⟩ (acc m c n) := acc_succ m c ⟨n, hn⟩
    rw [hs]
    by_cases h0 : n % 38 = 0
    · rw [next_start m c ⟨n, hn⟩ h0, start_at m c ⟨n, hn⟩ h0 _ r d (resid m c ⟨n, hn⟩ (by show n % 38 ≤ 15; omega) r d),
        one_at m c ⟨n, hn⟩ (by show n % 38 ≤ 21; omega), two_at m c ⟨n, hn⟩ (by show n % 38 ≤ 20; omega)]
      simp only [slab_iff n _ hN, h0]
      exact (held_zero _ _ _ _ _ _).symm
    · obtain ⟨k, rfl⟩ : ∃ k, n = k + 1 := ⟨n - 1, by omega⟩
      have ih := acc_eq c k (by omega) r d
      have hrow : rowOf k r.val = rowOf (k + 1) r.val := by unfold rowOf; rw [show (k + 1) / 38 = k / 38 from by omega]
      obtain ⟨s, hk⟩ : ∃ s, s = k % 38 := ⟨_, rfl⟩
      have hk1 : (k + 1) % 38 = s + 1 := by omega
      rw [hrow, ← hk] at ih
      by_cases h1 : s + 1 ≤ 15
      · rw [next_addRes m c ⟨k + 1, hn⟩ (by show 1 ≤ (k + 1) % 38 ∧ (k + 1) % 38 ≤ 15; omega),
          addRes_at m c ⟨k + 1, hn⟩ _ _ _ r d (resid m c ⟨k + 1, hn⟩ (by show (k + 1) % 38 ≤ 15; omega) r d), ih,
          one_at m c ⟨k + 1, hn⟩ (by show (k + 1) % 38 ≤ 21; omega), two_at m c ⟨k + 1, hn⟩ (by show (k + 1) % 38 ≤ 20; omega)]
        simp only [slab_iff (k + 1) _ hN, hk1]
        exact (held_succ _ _ _ _ s (by omega) _ _).symm
      · by_cases h2 : s + 1 ≤ 20
        · rw [next_add m c ⟨k + 1, hn⟩ (by show 16 ≤ (k + 1) % 38 ∧ (k + 1) % 38 ≤ 20; omega), add_at, ih,
            one_at m c ⟨k + 1, hn⟩ (by show (k + 1) % 38 ≤ 21; omega), two_at m c ⟨k + 1, hn⟩ (by show (k + 1) % 38 ≤ 20; omega)]
          simp only [hk1]
          rw [held_succ _ _ _ _ s (by omega), if_neg (by omega), add_zero]
        · by_cases h3 : s + 1 = 21
          · obtain rfl : s = 20 := by omega
            rw [next_last m c ⟨k + 1, hn⟩ hk1, last_at, ih, one_at m c ⟨k + 1, hn⟩ (by show (k + 1) % 38 ≤ 21; omega)]
            simp only [hk1]
            exact (held_last _ _ _ _ _ _).symm
          · rw [next_norm m c ⟨k + 1, hn⟩ (by show 22 ≤ (k + 1) % 38; omega), ih, hk1]
            exact (held_late _ _ _ _ s (by omega) _ _).symm

end Cert.FfnIdeal.Acc

end
-- ==== Proof.FfnRow.lean ====
/- What a normalising step leaves in the two results: one slab of rows, normalised. -/
module

public import proofs.«01_k».proof.Proof.FfnTile
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnIdeal.Row

open Cert.FfnIdeal Cert.FfnIdeal.Gen Cert.FfnIdeal.Body Idealize.ShloMosaic Idealize.ShloMosaic.TcCoe Idealize.SL.Sem Cert.FfnSpec Cert.FfnIdeal.Tile

variable (m : (ℓ : Loc nD τ sig) → Buf (Elt Ideal) ℓ)

/-- Eight column chunks whose halves are the row `f`. -/
structure Chunks (r : Fin 64) (f : ℕ → EReal) (a0 a1 a2 a3 a4 a5 a6 a7 : Vec Ideal S64x512 .f32) : Prop where
  h0 : ∀ q : Fin 512, Ideal.ofBits .f32 1056964608#32 * a0 (ix2 r q) = f (q)
  h1 : ∀ q : Fin 512, Ideal.ofBits .f32 1056964608#32 * a1 (ix2 r q) = f (512 + q)
  h2 : ∀ q : Fin 512, Ideal.ofBits .f32 1056964608#32 * a2 (ix2 r q) = f (1024 + q)
  h3 : ∀ q : Fin 512, Ideal.ofBits .f32 1056964608#32 * a3 (ix2 r q) = f (1536 + q)
  h4 : ∀ q : Fin 512, Ideal.ofBits .f32 1056964608#32 * a4 (ix2 r q) = f (2048 + q)
  h5 : ∀ q : Fin 512, Ideal.ofBits .f32 1056964608#32 * a5 (ix2 r q) = f (2560 + q)
  h6 : ∀ q : Fin 512, Ideal.ofBits .f32 1056964608#32 * a6 (ix2 r q) = f (3072 + q)
  h7 : ∀ q : Fin 512, Ideal.ofBits .f32 1056964608#32 * a7 (ix2 r q) = f (3584 + q)

section
variable {r : Fin 64} {f : ℕ → EReal} (a0 a1 a2 a3 a4 a5 a6 a7 : Vec Ideal S64x512 .f32)

/-- The mean of every row of a slab, as the kernel computes it. -/
def mu : FVec Ideal S64x1 .f32 := k0_pay50 (F := Ideal) (k0_pay44 a3) (k0_pay45 a4) (k0_pay46 a5) (k0_pay47 a6) (k0_pay48 a7) (k0_pay49 a0 a1 a2)
/-- The reciprocal deviation of every row of a slab, as the kernel computes it. -/
def rs : FVec Ideal S64x1 .f32 :=
  k0_pay52 (F := Ideal) (mu a0 a1 a2 a3 a4 a5 a6 a7)
    (k0_pay51 (k0_pay44 a3) (k0_pay45 a4) (k0_pay46 a5) (k0_pay47 a6) (k0_pay48 a7) (k0_pay49 a0 a1 a2) a0 a1 a2 a3 a4) a5 a6 a7

variable {a0 a1 a2 a3 a4 a5 a6 a7}

theorem mu_at (H : Chunks r f a0 a1 a2 a3 a4 a5 a6 a7) : mu a0 a1 a2 a3 a4 a5 a6 a7 (ix2 r 0) = mean (fun d => f d) := by
  unfold mu mean
  rw [← sum_eight f]
  pointwise [k0_pay50, k0_pay44, k0_pay45, k0_pay46, k0_pay47, k0_pay48, k0_pay49]
  simp only [H.h0, H.h1, H.h2, H.h3, H.h4, H.h5, H.h6, H.h7]
  rfl

theorem rs_at (H : Chunks r f a0 a1 a2 a3 a4 a5 a6 a7) : rs a0 a1 a2 a3 a4 a5 a6 a7 (ix2 r 0) = rdev (fun d => f d) (mean (fun d => f d)) := by
  have hm : (k0_pay50 (F := Ideal) (k0_pay44 a3) (k0_pay45 a4) (k0_pay46 a5) (k0_pay47 a6) (k0_pay48 a7) (k0_pay49 a0 a1 a2)) (ix2 r 0) = mean (fun d => f d) := mu_at H
  unfold rs rdev
  rw [← sum_eight fun d => (f d - mean fun d => f d) * (f d - mean fun d => f d)]
  unfold mu
  pointwise [k0_pay51, k0_pay52]
  simp only [hm, H.h0, H.h1, H.h2, H.h3, H.h4, H.h5, H.h6, H.h7]
  rfl

theorem norm_at (H : Chunks r f a0 a1 a2 a3 a4 a5 a6 a7) (a : Vec Ideal S64x512 .f32) (g b : Vec Ideal S1x512 .f32) (k : ℕ) (q : Fin 512)
    (ha : Ideal.ofBits .f32 1056964608#32 * a (ix2 r q) = f (k + q)) :
    k0_pay7 (F := Ideal) (mu a0 a1 a2 a3 a4 a5 a6 a7) (rs a0 a1 a2 a3 a4 a5 a6 a7) a g b (ix2 r q)
      = (f (k + q) - mean fun d => f d) * rdev (fun d => f d) (mean (fun d => f d)) * g (ix2 0 q) + b (ix2 0 q) := by
  rw [← rs_at H, ← mu_at H, ← ha]
  generalize mu a0 a1 a2 a3 a4 a5 a6 a7 = u
  generalize rs a0 a1 a2 a3 a4 a5 a6 a7 = v
  pointwise [k0_pay7]

end

theorem ld_slab (xs : Vec Ideal S1024x4096 .f32) (off : Fin 2 → ℕ) (o k : ℕ) (hoff : off = ![o, k])
    (inb : ∀ a, off a + (![64, 512] : Fin 2 → ℕ) a ≤ S1024x4096.size a) (r : Fin 64) (q : Fin 512) :
    View.ld xs (Rect.unit (s := S1024x4096) off ![64, 512] inb) (ix2 r q) = xs (ix2 (Fin.ofNat 1024 (o + r.val)) (Fin.ofNat 4096 (k + q.val))) := by
  subst hoff
  have h0 : o + 64 ≤ 1024 := inb 0
  have h1 : k + 512 ≤ 4096 := inb 1
  have hr := r.isLt
  have hq := q.isLt
  refine congrArg xs ?_
  funext a
  apply Fin.ext
  fin_cases a
  · show o + 1 * r.val = (o + r.val) % 1024
    omega
  · show k + 1 * q.val = (k + q.val) % 4096
    omega

/-- The first row of a normalising step's slab. -/
def top (t : Fin cfg0.N) : ℕ := 64 * (t.val % 38 - 22)

theorem offs : ∀ t : Fin cfg0.N, 22 ≤ t.val % 38 →
    k0_off3 (grid0.coords t) = ![64 * (t.val % 38 - 22), 0]
    ∧ k0_off4 (grid0.coords t) = ![64 * (t.val % 38 - 22), 512]
    ∧ k0_off5 (grid0.coords t) = ![64 * (t.val % 38 - 22), 1024]
    ∧ k0_off6 (grid0.coords t) = ![64 * (t.val % 38 - 22), 1536]
    ∧ k0_off7 (grid0.coords t) = ![64 * (t.val % 38 - 22), 2048]
    ∧ k0_off8 (grid0.coords t) = ![64 * (t.val % 38 - 22), 2560]
    ∧ k0_off9 (grid0.coords t) = ![64 * (t.val % 38 - 22), 3072]
    ∧ k0_off10 (grid0.coords t) = ![64 * (t.val % 38 - 22), 3584] :=
  (by decide +kernel : ∀ t : Fin grid0.N, 22 ≤ t.val % 38 → _)

/-- Row `r` of the slab: half the accumulator. -/
def half_row (t : Fin cfg0.N) (xs : Vec Ideal S1024x4096 .f32) (r : ℕ) (d : ℕ) : EReal :=
  half * xs (ix2 (Fin.ofNat 1024 (top t + r)) (Fin.ofNat 4096 d))

/-- What a normalising step leaves in a result's block. -/
def outBlk (t : Fin cfg0.N) (xs : Vec Ideal S1024x4096 .f32) (g b : Vec Ideal S1x4096 .f32) (y : S64x4096.Idx) : EReal :=
  lnorm (fun d => half_row t xs (y 0).val d) (fun d => g (ix2 0 d)) (fun d => b (ix2 0 d)) (y 1)

theorem inb (t : Fin cfg0.N) (h : 22 ≤ t.val % 38) (off : Fin 2 → ℕ) (k : ℕ) (hoff : off = ![64 * (t.val % 38 - 22), k]) (hk : k ≤ 3584) :
    ∀ a, off a + (![64, 512] : Fin 2 → ℕ) a ≤ S1024x4096.size a := by
  subst hoff
  intro a
  have : t.val % 38 < 38 := Nat.mod_lt _ (by decide)
  fin_cases a
  · show 64 * (t.val % 38 - 22) + 64 ≤ 1024
    omega
  · show k + 512 ≤ 4096
    omega

/-- One column chunk of the accumulator's slab. -/
def col (t : Fin cfg0.N) (h : 22 ≤ t.val % 38) (xs : Vec Ideal S1024x4096 .f32) (off : Fin 2 → ℕ) (k : ℕ) (hoff : off = ![64 * (t.val % 38 - 22), k]) (hk : k ≤ 3584) :
    Vec Ideal S64x512 .f32 := View.ld xs (Rect.unit (s := S1024x4096) off ![64, 512] (inb t h off k hoff hk))

theorem col_at (t : Fin cfg0.N) (h : 22 ≤ t.val % 38) (xs : Vec Ideal S1024x4096 .f32) (off : Fin 2 → ℕ) (k : ℕ) (hoff : off = ![64 * (t.val % 38 - 22), k]) (hk : k ≤ 3584)
    (r : Fin 64) (q : Fin 512) : Ideal.ofBits .f32 1056964608#32 * col t h xs off k hoff hk (ix2 r q) = half_row t xs r.val (k + q.val) :=
  congrArg (half * ·) (ld_slab xs off _ k hoff _ r q)

theorem chunks (t : Fin cfg0.N) (h : 22 ≤ t.val % 38) (xs : Vec Ideal S1024x4096 .f32) (r : Fin 64) :
    Chunks r (half_row t xs r.val) (col t h xs _ 0 (offs t h).1 (by decide)) (col t h xs _ 512 (offs t h).2.1 (by decide)) (col t h xs _ 1024 (offs t h).2.2.1 (by decide)) (col t h xs _ 1536 (offs t h).2.2.2.1 (by decide)) (col t h xs _ 2048 (offs t h).2.2.2.2.1 (by decide)) (col t h xs _ 2560 (offs t h).2.2.2.2.2.1 (by decide)) (col t h xs _ 3072 (offs t h).2.2.2.2.2.2.1 (by decide)) (col t h xs _ 3584 (offs t h).2.2.2.2.2.2.2 (by decide)) where
  h0 q := (col_at t h xs _ 0 _ _ r q).trans (by rw [Nat.zero_add])
  h1 q := col_at t h xs _ 512 _ _ r q
  h2 q := col_at t h xs _ 1024 _ _ r q
  h3 q := col_at t h xs _ 1536 _ _ r q
  h4 q := col_at t h xs _ 2048 _ _ r q
  h5 q := col_at t h xs _ 2560 _ _ r q
  h6 q := col_at t h xs _ 3072 _ _ r q
  h7 q := col_at t h xs _ 3584 _ _ r q

theorem inbY (k : ℕ) (hk : k ≤ 3584) : ∀ a, (![0, k] : Fin 2 → ℕ) a + (![64, 512] : Fin 2 → ℕ) a ≤ S64x4096.size a := by
  intro a
  fin_cases a
  · show 0 + 64 ≤ 64
    omega
  · show k + 512 ≤ 4096
    omega

theorem piece (t : Fin cfg0.N) (h : 22 ≤ t.val % 38) (xs : Vec Ideal S1024x4096 .f32) (g b : Vec Ideal S1x4096 .f32) (off : Fin 2 → ℕ) (k : ℕ)
    (hoff : off = ![64 * (t.val % 38 - 22), k]) (hk : k ≤ 3584)
    (hg : ∀ a, (![0, k] : Fin 2 → ℕ) a + (![1, 512] : Fin 2 → ℕ) a ≤ S1x4096.size a)
    (hy : ∀ a, (![0, k] : Fin 2 → ℕ) a + (![64, 512] : Fin 2 → ℕ) a ≤ S64x4096.size a) (j : S64x512.Idx) :
    k0_pay7 (F := Ideal)
      (mu (col t h xs _ 0 (offs t h).1 (by decide)) (col t h xs _ 512 (offs t h).2.1 (by decide)) (col t h xs _ 1024 (offs t h).2.2.1 (by decide)) (col t h xs _ 1536 (offs t h).2.2.2.1 (by decide)) (col t h xs _ 2048 (offs t h).2.2.2.2.1 (by decide)) (col t h xs _ 2560 (offs t h).2.2.2.2.2.1 (by decide)) (col t h xs _ 3072 (offs t h).2.2.2.2.2.2.1 (by decide)) (col t h xs _ 3584 (offs t h).2.2.2.2.2.2.2 (by decide)))
      (rs (col t h xs _ 0 (offs t h).1 (by decide)) (col t h xs _ 512 (offs t h).2.1 (by decide)) (col t h xs _ 1024 (offs t h).2.2.1 (by decide)) (col t h xs _ 1536 (offs t h).2.2.2.1 (by decide)) (col t h xs _ 2048 (offs t h).2.2.2.2.1 (by decide)) (col t h xs _ 2560 (offs t h).2.2.2.2.2.1 (by decide)) (col t h xs _ 3072 (offs t h).2.2.2.2.2.2.1 (by decide)) (col t h xs _ 3584 (offs t h).2.2.2.2.2.2.2 (by decide)))
      (View.ld xs (Rect.unit (s := S1024x4096) off ![64, 512] (inb t h off k hoff hk)))
      (View.ld g (Rect.unit (s := S1x4096) ![0, k] ![1, 512] hg)) (View.ld b (Rect.unit (s := S1x4096) ![0, k] ![1, 512] hg)) j
      = outBlk t xs g b (Rect.emb (Rect.unit (s := S64x4096) ![0, k] ![64, 512] hy) j) := by
  idx_vars j
  have hk' := lt_of_inb hy j1
  refine Eq.trans ?_ (congrArg (outBlk t xs g b) (emb_col hy j0 j1 hk')).symm
  refine (norm_at (chunks t h xs j0) _ _ _ k j1 (col_at t h xs off k hoff hk j0 j1)).trans ?_
  have eg : Rect.emb (Rect.unit (s := S1x4096) ![0, k] ![1, 512] hg) (ix2 0 j1 : S1x512.Idx) = ix2 0 ⟨k + j1.val, hk'⟩ := emb_col hg 0 j1 hk'
  show _ * g (Rect.emb _ _) + b (Rect.emb _ _) = _
  rw [eg]
  rfl

theorem out10_eq (c : Dev nD) (t : Fin cfg0.N) (h : 22 ≤ t.val % 38) (y : S64x4096.Idx) :
    out10 m c t y = outBlk t (acc m c t.val) (ins m c t).x8 (ins m c t).x9 y := by
  unfold out10
  rw [dif_pos h]
  unfold normAt Body.norm
  dsimp only
  frame_open
  frame_out
  simp only [read_unread_whole]
  refine View.canon_apply_of_pieces (Val := Elt Ideal) (e := .f32) (outBlk t (acc m c t.val) (ins m c t).x8 (ins m c t).x9) _ (View.PiecesOf.mem ?_) y ?_
  · refine ⟨piece t h (acc m c t.val) (ins m c t).x8 (ins m c t).x9 _ 3584 (offs t h).2.2.2.2.2.2.2 (by decide) inb_S1x4096_S1x512_0_3584 (inbY 3584 (by decide)), ?_⟩
    refine ⟨piece t h (acc m c t.val) (ins m c t).x8 (ins m c t).x9 _ 3072 (offs t h).2.2.2.2.2.2.1 (by decide) inb_S1x4096_S1x512_0_3072 (inbY 3072 (by decide)), ?_⟩
    refine ⟨piece t h (acc m c t.val) (ins m c t).x8 (ins m c t).x9 _ 2560 (offs t h).2.2.2.2.2.1 (by decide) inb_S1x4096_S1x512_0_2560 (inbY 2560 (by decide)), ?_⟩
    refine ⟨piece t h (acc m c t.val) (ins m c t).x8 (ins m c t).x9 _ 2048 (offs t h).2.2.2.2.1 (by decide) inb_S1x4096_S1x512_0_2048 (inbY 2048 (by decide)), ?_⟩
    refine ⟨piece t h (acc m c t.val) (ins m c t).x8 (ins m c t).x9 _ 1536 (offs t h).2.2.2.1 (by decide) inb_S1x4096_S1x512_0_1536 (inbY 1536 (by decide)), ?_⟩
    refine ⟨piece t h (acc m c t.val) (ins m c t).x8 (ins m c t).x9 _ 1024 (offs t h).2.2.1 (by decide) inb_S1x4096_S1x512_0_1024 (inbY 1024 (by decide)), ?_⟩
    refine ⟨piece t h (acc m c t.val) (ins m c t).x8 (ins m c t).x9 _ 512 (offs t h).2.1 (by decide) inb_S1x4096_S1x512_0_512 (inbY 512 (by decide)), ?_⟩
    refine ⟨piece t h (acc m c t.val) (ins m c t).x8 (ins m c t).x9 _ 0 (offs t h).1 (by decide) inb_S1x4096_S1x512_0_0 (inbY 0 (by decide)), ?_⟩
    trivial
  · exact View.cover_of_tiledL (s := S64x4096) _ S64x512.size (by sl_kernel_rfl) y

theorem out11_eq (c : Dev nD) (t : Fin cfg0.N) (h : 22 ≤ t.val % 38) (y : S64x4096.Idx) :
    out11 m c t y = outBlk t (acc m c t.val) (ins m c t).x8 (ins m c t).x9 y := by
  unfold out11
  rw [dif_pos h]
  unfold normAt Body.norm
  dsimp only
  frame_open
  frame_out
  simp only [read_unread_whole]
  refine View.canon_apply_of_pieces (Val := Elt Ideal) (e := .bf16) (outBlk t (acc m c t.val) (ins m c t).x8 (ins m c t).x9) _ (View.PiecesOf.mem ?_) y ?_
  · refine ⟨piece t h (acc m c t.val) (ins m c t).x8 (ins m c t).x9 _ 3584 (offs t h).2.2.2.2.2.2.2 (by decide) inb_S1x4096_S1x512_0_3584 (inbY 3584 (by decide)), ?_⟩
    refine ⟨piece t h (acc m c t.val) (ins m c t).x8 (ins m c t).x9 _ 3072 (offs t h).2.2.2.2.2.2.1 (by decide) inb_S1x4096_S1x512_0_3072 (inbY 3072 (by decide)), ?_⟩
    refine ⟨piece t h (acc m c t.val) (ins m c t).x8 (ins m c t).x9 _ 2560 (offs t h).2.2.2.2.2.1 (by decide) inb_S1x4096_S1x512_0_2560 (inbY 2560 (by decide)), ?_⟩
    refine ⟨piece t h (acc m c t.val) (ins m c t).x8 (ins m c t).x9 _ 2048 (offs t h).2.2.2.2.1 (by decide) inb_S1x4096_S1x512_0_2048 (inbY 2048 (by decide)), ?_⟩
    refine ⟨piece t h (acc m c t.val) (ins m c t).x8 (ins m c t).x9 _ 1536 (offs t h).2.2.2.1 (by decide) inb_S1x4096_S1x512_0_1536 (inbY 1536 (by decide)), ?_⟩
    refine ⟨piece t h (acc m c t.val) (ins m c t).x8 (ins m c t).x9 _ 1024 (offs t h).2.2.1 (by decide) inb_S1x4096_S1x512_0_1024 (inbY 1024 (by decide)), ?_⟩
    refine ⟨piece t h (acc m c t.val) (ins m c t).x8 (ins m c t).x9 _ 512 (offs t h).2.1 (by decide) inb_S1x4096_S1x512_0_512 (inbY 512 (by decide)), ?_⟩
    refine ⟨piece t h (acc m c t.val) (ins m c t).x8 (ins m c t).x9 _ 0 (offs t h).1 (by decide) inb_S1x4096_S1x512_0_0 (inbY 0 (by decide)), ?_⟩
    trivial
  · exact View.cover_of_tiledL (s := S64x4096) _ S64x512.size (by sl_kernel_rfl) y

end Cert.FfnIdeal.Row

end
-- ==== Proof.FfnArr.lean ====
/- The feed-forward kernel's two results, entry by entry. -/
module

public import proofs.«01_k».proof.Proof.FfnAcc
public import proofs.«01_k».proof.Proof.FfnRow
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnIdeal.Arr

open Cert.FfnIdeal Cert.FfnIdeal.Gen Cert.FfnIdeal.Body Idealize.ShloMosaic Idealize.ShloMosaic.TcCoe Idealize.SL.Sem Cert.FfnSpec Cert.FfnIdeal.Acc Cert.FfnIdeal.Row

variable (m : (ℓ : Loc nD τ sig) → Buf (Elt Ideal) ℓ)

/-- The scale of the normalisation. -/
abbrev aS (c : Dev nD) : (⟨2, ![1, 4096]⟩ : Shape).Idx → EReal := m ((c : Thread nD τ).loc main_arg4)
/-- The shift of the normalisation. -/
abbrev aB (c : Dev nD) : (⟨2, ![1, 4096]⟩ : Shape).Idx → EReal := m ((c : Thread nD τ).loc main_arg5)

theorem a4_eq (c : Dev nD) : V m c main_arg4 = aS m c := by
  unfold V
  simp only [hostOps0]
  after_results

theorem a5_eq (c : Dev nD) : V m c main_arg5 = aB m c := by
  unfold V
  simp only [hostOps0]
  after_results

theorem x8_at (c : Dev nD) (t : Fin cfg0.N) (d : Fin 4096) : (ins m c t).x8 (ix2 0 d) = aS m c (ix2 0 d) := by
  rw [← a4_eq]
  show iblk m c 8 t (ix2 0 d) = _
  blk_ext [iblk, V, idx t]

theorem x9_at (c : Dev nD) (t : Fin cfg0.N) (d : Fin 4096) : (ins m c t).x9 (ix2 0 d) = aB m c (ix2 0 d) := by
  rw [← a5_eq]
  show iblk m c 9 t (ix2 0 d) = _
  blk_ext [iblk, V, idx t]

/-- The array row of row `r` of a normalising step's slab. -/
def rowAt (t : Fin cfg0.N) (r : ℕ) : Fin 16384 := Fin.ofNat 16384 ((t.val / 38 * 16 + (t.val % 38 - 22)) * 64 + r)

theorem half_row_eq (c : Dev nD) (t : Fin cfg0.N) (h : 22 ≤ t.val % 38) (r : Fin 64) (d : Fin 4096) :
    Row.half_row t (acc m c t.val) r.val d.val = row (aX m c) (aG m c) (aU m c) (aD m c) (rowAt t r.val) d := by
  obtain ⟨t, ht⟩ := t
  have hN : t < 608 := ht
  have hr := r.isLt
  change 22 ≤ t % 38 at h
  obtain ⟨n, rfl⟩ : ∃ n, t = n + 1 := ⟨t - 1, by omega⟩
  unfold Row.half_row
  rw [acc_eq m c n (by omega), half_held _ _ _ _ _ (by omega)]
  congr 1
  · apply Fin.ext
    show (1024 * (n / 38) + (64 * ((n + 1) % 38 - 22) + r.val) % 1024) % 16384 = (((n + 1) / 38 * 16 + ((n + 1) % 38 - 22)) * 64 + r.val) % 16384
    omega
  · apply Fin.ext
    exact Nat.mod_eq_of_lt d.isLt

/-- The result's value at row `R` and column `d`. -/
def val (c : Dev nD) (R : Fin 16384) (d : Fin 4096) : EReal :=
  lnorm (row (aX m c) (aG m c) (aU m c) (aD m c) R) (fun d => aS m c (ix2 0 d)) (fun d => aB m c (ix2 0 d)) d

theorem blk_eq (c : Dev nD) (t : Fin cfg0.N) (h : 22 ≤ t.val % 38) (y : S64x4096.Idx) :
    outBlk t (acc m c t.val) (ins m c t).x8 (ins m c t).x9 y = val m c (rowAt t (y 0).val) (y 1) := by
  unfold outBlk val
  have e : (fun d : Fin 4096 => Row.half_row t (acc m c t.val) (y 0).val d.val) = row (aX m c) (aG m c) (aU m c) (aD m c) (rowAt t (y 0).val) :=
    funext fun d => half_row_eq m c t h (y 0) d
  rw [e]
  simp only [x8_at, x9_at]

theorem norm_of_flush10 (t : Fin cfg0.N) (hf : (cfg0.win 10).flush t = true) : 22 ≤ t.val % 38 := by
  by_contra h
  have := still10 t (by omega)
  exact absurd hf (by rw [this]; decide)

theorem norm_of_flush11 (t : Fin cfg0.N) (hf : (cfg0.win 11).flush t = true) : 22 ≤ t.val % 38 := by
  by_contra h
  have := still11 t (by omega)
  exact absurd hf (by rw [this]; decide)

theorem arr10 (c : Dev nD) : (dats m 0 c).arrAt 10 cfg0.N = fun y : S16384x4096.Idx => val m c (y 0) (y 1) := by
  refine (dats m 0 c).arrAt_eq_of_covers 10 _ (by decide +kernel) fun t hf y => ?_
  have h := norm_of_flush10 t hf
  have hi := (idx t).2.2.2.2.1
  have ht : t.val < 608 := t.isLt
  have hy : (y 0).val < 64 := (y 0).isLt
  have e0 : (win0_10.blk t).view.emb y 0 = rowAt t (y 0).val := by
    apply Fin.ext
    blk_simp
    rw [hi]
    show (t.val / 38 * 16 + (t.val % 38 - 22)) * 64 + (y 0).val = ((t.val / 38 * 16 + (t.val % 38 - 22)) * 64 + (y 0).val) % 16384
    omega
  have e1 : (win0_10.blk t).view.emb y 1 = y 1 := by
    apply Fin.ext
    blk_simp
    rw [hi]
    show 0 * 4096 + (y 1).val = (y 1).val
    omega
  blk_simp
  rw [after10]
  change out10 m c t y = _
  rw [out10_eq m c t h, blk_eq m c t h]
  exact congrArg₂ (val m c) e0.symm e1.symm

theorem arr11 (c : Dev nD) : (dats m 0 c).arrAt 11 cfg0.N = fun y : S16384x4096.Idx => val m c (y 0) (y 1) := by
  refine (dats m 0 c).arrAt_eq_of_covers 11 _ (by decide +kernel) fun t hf y => ?_
  have h := norm_of_flush11 t hf
  have hi := (idx t).2.2.2.2.2
  have ht : t.val < 608 := t.isLt
  have hy : (y 0).val < 64 := (y 0).isLt
  have e0 : (win0_11.blk t).view.emb y 0 = rowAt t (y 0).val := by
    apply Fin.ext
    blk_simp
    rw [hi]
    show (t.val / 38 * 16 + (t.val % 38 - 22)) * 64 + (y 0).val = ((t.val / 38 * 16 + (t.val % 38 - 22)) * 64 + (y 0).val) % 16384
    omega
  have e1 : (win0_11.blk t).view.emb y 1 = y 1 := by
    apply Fin.ext
    blk_simp
    rw [hi]
    show 0 * 4096 + (y 1).val = (y 1).val
    omega
  blk_simp
  rw [after11]
  change out11 m c t y = _
  rw [out11_eq m c t h, blk_eq m c t h]
  exact congrArg₂ (val m c) e0.symm e1.symm

end Cert.FfnIdeal.Arr

end
-- ==== Proof.FfnRef.lean ====
/- The feed-forward reference's two results read at an index. -/
module

public import proofs.«01_k».proof.Proof.Gen.FfnRefIdeal.Run
public import proofs.«01_k».proof.Proof.Gen.FfnRefIdeal.Read
public import proofs.«01_k».proof.Proof.FfnSpec
public import Idealize.ShloMosaic.Lib.Pointwise

@[expose] public section

set_option maxRecDepth 16384

noncomputable section

namespace Cert.FfnRefIdeal.Row

open Cert.FfnRefIdeal Cert.FfnRefIdeal.Read Idealize.ShloMosaic Cert.FfnSpec

variable (x : (⟨S16384x4096, .f32⟩ : BufTy).Contents (Elt Ideal)) (wg wu : (⟨S4096x11008, .f32⟩ : BufTy).Contents (Elt Ideal))
  (wd : (⟨S11008x4096, .f32⟩ : BufTy).Contents (Elt Ideal)) (g b : (⟨S1x4096, .f32⟩ : BufTy).Contents (Elt Ideal))

theorem gate_at (R : Fin 16384) (k : Fin 11008) : val_main_v0 (F := Ideal) x wg (ix2 R k) = ∑ e : Fin 4096, x (ix2 R e) * wg (ix2 e k) := by
  rw [val_main_v0_apply]
  refine Finset.sum_congr rfl fun e _ => congrArg₂ (· * ·) (congrArg x ?_) (congrArg wg ?_) <;> (funext a; fin_cases a <;> rfl)

theorem up_at (R : Fin 16384) (k : Fin 11008) : val_main_v8 (F := Ideal) x wu (ix2 R k) = ∑ e : Fin 4096, x (ix2 R e) * wu (ix2 e k) := by
  rw [val_main_v8_apply]
  refine Finset.sum_congr rfl fun e _ => congrArg₂ (· * ·) (congrArg x ?_) (congrArg wu ?_) <;> (funext a; fin_cases a <;> rfl)

theorem one_eq : Ideal.ofBits .f32 0x3F800000#32 = 1 := by
  simp [Ideal.ofBits, Ideal.ieee]
  rw [← EReal.coe_mul]
  norm_num

theorem zero_eq : Ideal.ofBits .f32 0x00000000#32 = 0 := by
  simp [Ideal.ofBits, Ideal.ieee]

theorem hidden_at (R : Fin 16384) (k : Fin 11008) :
    val_main_v9 (F := Ideal) x wg wu (ix2 R k) = swish (∑ e : Fin 4096, x (ix2 R e) * wg (ix2 e k)) (∑ e : Fin 4096, x (ix2 R e) * wu (ix2 e k)) := by
  rw [← gate_at, ← up_at, val_main_v9_apply, val_main_v7_apply, val_main_v6_apply, val_main_v5_apply, val_main_v4_apply, val_main_v3_apply,
    val_main_v2_apply, val_main_v1_apply, val_main_cst_apply, val_main_cst_0_apply]
  unfold swish
  rw [← one_eq]
  rfl

theorem down_at (R : Fin 16384) (d : Fin 4096) : val_main_v10 (F := Ideal) x wg wu wd (ix2 R d) = down x wg wu wd R d := by
  rw [val_main_v10_apply]
  refine Finset.sum_congr rfl fun k _ => ?_
  unfold term
  rw [← hidden_at]
  refine congrArg₂ (· * ·) (congrArg _ ?_) (congrArg wd ?_) <;> (funext a; fin_cases a <;> rfl)

theorem row_at (R : Fin 16384) (d : Fin 4096) : val_main_v15 (F := Ideal) x wg wu wd (ix2 R d) = row x wg wu wd R d := by
  rw [val_main_v15_apply, val_main_v14_apply, val_main_v13_apply, val_main_v12_apply, val_main_v11_apply, val_main_cst_1_apply, val_main_cst_2_apply, down_at]
  rfl

theorem mean_at (R : Fin 16384) : val_main_v19 (F := Ideal) x wg wu wd (ix2 R 0) = mean (row x wg wu wd R) := by
  rw [val_main_v19_apply, val_main_v18_apply, val_main_v17_apply, val_main_v16_apply, val_main_cst_3_apply, val_main_cst_4_apply]
  have e : ∀ k, val_main_v15 (F := Ideal) x wg wu wd (idx_main_v16 (idx_main_v17 (ix2 R 0)) k) = row x wg wu wd R k := by
    intro k
    rw [← row_at]
    exact congrArg _ (by funext a; fin_cases a <;> rfl)
  simp only [e]
  show Ideal.div (Ideal.ofBits .f32 0x00000000#32 + _) _ = _
  rw [zero_eq, zero_add]
  rfl

theorem centred_at (R : Fin 16384) (d : Fin 4096) :
    val_main_v21 (F := Ideal) x wg wu wd (ix2 R d) = row x wg wu wd R d - mean (row x wg wu wd R) := by
  rw [val_main_v21_apply, val_main_v20_apply, row_at, ← mean_at]
  exact congrArg (row x wg wu wd R d - val_main_v19 (F := Ideal) x wg wu wd ·) (by funext a; fin_cases a <;> rfl)

theorem centred_at' (R : Fin 16384) (d : Fin 4096) :
    val_main_v28 (F := Ideal) x wg wu wd (ix2 R d) = row x wg wu wd R d - mean (row x wg wu wd R) := by
  rw [val_main_v28_apply, val_main_v27_apply, row_at, ← mean_at]
  exact congrArg (row x wg wu wd R d - val_main_v19 (F := Ideal) x wg wu wd ·) (by funext a; fin_cases a <;> rfl)

theorem rdev_at (R : Fin 16384) : val_main_v31 (F := Ideal) x wg wu wd (ix2 R 0) = rdev (row x wg wu wd R) (mean (row x wg wu wd R)) := by
  rw [val_main_v31_apply, val_main_v30_apply, val_main_v29_apply, val_main_v26_apply, val_main_v25_apply, val_main_v24_apply, val_main_v23_apply,
    val_main_cst_5_apply, val_main_cst_6_apply, val_main_cst_7_apply]
  have e : ∀ k, val_main_v22 (F := Ideal) x wg wu wd (idx_main_v23 (idx_main_v24 (ix2 R 0)) k)
      = (row x wg wu wd R k - mean (row x wg wu wd R)) * (row x wg wu wd R k - mean (row x wg wu wd R)) := by
    intro k
    rw [val_main_v22_apply, ← centred_at]
    exact congrArg (fun i => val_main_v21 (F := Ideal) x wg wu wd i * val_main_v21 (F := Ideal) x wg wu wd i) (by funext a; fin_cases a <;> rfl)
  simp only [e]
  show Ideal.rsqrt (Ideal.div (Ideal.ofBits .f32 0x00000000#32 + _) _ + _) = _
  rw [zero_eq, zero_add]
  rfl

theorem out_at (R : Fin 16384) (d : Fin 4096) :
    val_main_v37 (F := Ideal) x wg wu wd g b (ix2 R d) = lnorm (row x wg wu wd R) (fun d => g (ix2 0 d)) (fun d => b (ix2 0 d)) d := by
  rw [val_main_v37_apply, val_main_v36_apply, val_main_v35_apply, val_main_v34_apply, val_main_v33_apply, val_main_v32_apply, centred_at',
    show idx_main_v32 (ix2 R d) = ix2 R 0 from (by funext a; fin_cases a <;> rfl), rdev_at,
    show idx_main_v34 (ix2 R d) = ix2 0 d from (by funext a; fin_cases a <;> rfl),
    show idx_main_v36 (ix2 R d) = ix2 0 d from (by funext a; fin_cases a <;> rfl)]
  rfl

theorem out16_at (R : Fin 16384) (d : Fin 4096) :
    val_main_v38 (F := Ideal) x wg wu wd g b (ix2 R d) = lnorm (row x wg wu wd R) (fun d => g (ix2 0 d)) (fun d => b (ix2 0 d)) d := by
  rw [val_main_v38_apply, out_at]
  rfl

end Cert.FfnRefIdeal.Row

end
-- ==== Proof.FfnEqual.lean ====
/- The feed-forward kernel and its reference leave equal results. -/
module

public import proofs.«01_k».proof.Proof.FfnArr
public import proofs.«01_k».proof.Proof.FfnRef

@[expose] public section

set_option maxRecDepth 16384

noncomputable section

namespace Cert.FfnEqual

open Cert.FfnIdeal Cert.FfnIdeal.Gen Cert.FfnIdeal.Body Idealize.ShloMosaic Idealize.ShloMosaic.TcCoe Idealize.SL.Sem Cert.FfnIdeal.Acc Cert.FfnIdeal.Arr

variable (m : (ℓ : Loc nD τ sig) → Buf (Elt Ideal) ℓ)

theorem out_eq (c : Dev nD) :
    (dats m 0 c).arrAt 10 cfg0.N = Cert.FfnRefIdeal.Read.val_main_v37 (F := Ideal) (aX m c) (aG m c) (aU m c) (aD m c) (aS m c) (aB m c) := by
  rw [arr10]
  funext y
  idx_vars y
  exact (Cert.FfnRefIdeal.Row.out_at _ _ _ _ _ _ y0 y1).symm

theorem out16_eq (c : Dev nD) :
    (dats m 0 c).arrAt 11 cfg0.N = Cert.FfnRefIdeal.Read.val_main_v38 (F := Ideal) (aX m c) (aG m c) (aU m c) (aD m c) (aS m c) (aB m c) := by
  rw [arr11]
  funext y
  idx_vars y
  exact (Cert.FfnRefIdeal.Row.out16_at _ _ _ _ _ _ y0 y1).symm

end Cert.FfnEqual

end
-- ==== Proof.Window.lean ====
/- One row of attention over a window of keys, in the extended reals: the row's maximum, the sum of its exponentials and
   the weighted sum of the values — and that a window's masked keys may be left out. -/
module

public import Idealize.ShloMosaic.PureOps.Ideal
public import Idealize.ShloMosaic.PureOps.Ideal.Laws

@[expose] public section

noncomputable section

namespace Cert.Window

open Idealize.ShloMosaic

/-- The largest logit of a row. -/
def rowMax {n : ℕ} (f : Fin n → EReal) : EReal := Finset.univ.sup f

/-- The sum of the exponentials of a row's logits, each less the largest. -/
def rowSum {n : ℕ} (f : Fin n → EReal) : EReal := ∑ k, Ideal.exp (f k - rowMax f)

/-- The values weighted by a row's softmax. -/
def rowOut {n : ℕ} (f u : Fin n → EReal) : EReal :=
  ∑ k, Ideal.exp (f k - rowMax f) * Ideal.div 1 (rowSum f) * u k

/-- The row's log-sum-exp. -/
def rowLse {n : ℕ} (f : Fin n → EReal) : EReal := rowMax f + Ideal.log (rowSum f)

theorem fold_max_eq {n : ℕ} (f : Fin n → EReal) : Finset.univ.fold max (⊥ : EReal) f = rowMax f := rfl

/-- A masked key's exponential is zero, whatever the row's largest logit. -/
theorem exp_masked (M : EReal) : Ideal.exp (⊥ - M) = 0 := by
  rw [sub_eq_add_neg, EReal.bot_add]; rfl

variable {n k : ℕ} {f : Fin n → EReal} {g : Fin k → EReal} {φ : Fin k → Fin n}

/-- Two windows over the same keys: `φ` places the narrow one in the wide one, and what it leaves out is masked. -/
theorem rowMax_eq (hf : ∀ j, f (φ j) = g j) (hout : ∀ i, (∀ j, φ j ≠ i) → f i = ⊥) : rowMax f = rowMax g := by
  apply le_antisymm
  · refine Finset.sup_le fun i _ => ?_
    by_cases h : ∃ j, φ j = i
    · obtain ⟨j, rfl⟩ := h
      rw [hf]; exact Finset.le_sup (Finset.mem_univ j)
    · rw [hout i fun j hj => h ⟨j, hj⟩]; exact bot_le
  · refine Finset.sup_le fun j _ => ?_
    rw [← hf]; exact Finset.le_sup (Finset.mem_univ (φ j))

theorem sum_eq (hφ : Function.Injective φ) (F : Fin n → EReal) (G : Fin k → EReal) (h : ∀ j, F (φ j) = G j)
    (hout : ∀ i, (∀ j, φ j ≠ i) → F i = 0) : ∑ i, F i = ∑ j, G j :=
  (Finset.sum_of_injOn φ hφ.injOn (fun _ _ => Finset.mem_coe.2 (Finset.mem_univ _))
    (fun i _ hi => hout i fun j hj => hi ⟨j, Finset.mem_coe.2 (Finset.mem_univ _), hj⟩) fun j _ => (h j).symm).symm

theorem rowSum_eq (hφ : Function.Injective φ) (hf : ∀ j, f (φ j) = g j) (hout : ∀ i, (∀ j, φ j ≠ i) → f i = ⊥) :
    rowSum f = rowSum g := by
  unfold rowSum
  refine sum_eq hφ _ _ (fun j => ?_) fun i hi => ?_
  · rw [hf, rowMax_eq hf hout]
  · rw [hout i hi, exp_masked]

theorem rowLse_eq (hφ : Function.Injective φ) (hf : ∀ j, f (φ j) = g j) (hout : ∀ i, (∀ j, φ j ≠ i) → f i = ⊥) :
    rowLse f = rowLse g := by
  unfold rowLse; rw [rowMax_eq hf hout, rowSum_eq hφ hf hout]

theorem rowOut_eq (hφ : Function.Injective φ) (hf : ∀ j, f (φ j) = g j) (hout : ∀ i, (∀ j, φ j ≠ i) → f i = ⊥)
    {u : Fin n → EReal} {w : Fin k → EReal} (hu : ∀ j, g j ≠ ⊥ → u (φ j) = w j) : rowOut f u = rowOut g w := by
  unfold rowOut
  refine sum_eq hφ _ _ (fun j => ?_) fun i hi => ?_
  · rw [hf, rowMax_eq hf hout, rowSum_eq hφ hf hout]
    by_cases hj : g j = ⊥
    · rw [hj, exp_masked, zero_mul, zero_mul, zero_mul]
    · rw [hu j hj]
  · rw [hout i hi, exp_masked, zero_mul, zero_mul]

end Cert.Window

end
-- ==== Proof.Tile.lean ====
/- One tile of the kernel — 128 queries of one head against a window of 256 keys — read at an index: each row is
   `Cert.Window`'s row over the tile's logits. -/
module

public import proofs.«01_k».proof.Proof.Gen.AttnIdeal.Skeleton
public import proofs.«01_k».proof.Proof.Window
public import Idealize.ShloMosaic.Lib.Pointwise

@[expose] public section

set_option maxRecDepth 16384

noncomputable section

namespace Cert.AttnIdeal.Tile

open Cert.AttnIdeal Cert.AttnIdeal.Gen Idealize.ShloMosaic Cert.Window

/-- The softmax scale, one over the square root of the head's width. -/
def scale : EReal := (((Real.sqrt 128)⁻¹ : ℝ) : EReal)

variable (v : IVec S1x256 1) (q : Vec Ideal S1x1x128x128 .bf16) (k u : Vec Ideal S1x256x128 .bf16)
  (b : Vec Ideal S1x128x256 .f32)

/-- The tile's logits, row by row. -/
def logit (r : Fin 128) (c : Fin 256) : EReal :=
  if v (ix2 0 c) = 1#1 then (∑ e : Fin 128, q (ix4 0 0 r e) * k (ix3 0 c e)) * scale + b (ix3 0 r c) else ⊥

theorem named_s : Named.named (F := Ideal) (φ := .f32) κ "s" 0x3DB504F3#32 = scale :=
  IdealRules.named_const.ideal_named_scalar _ _ _ _ rfl

theorem named_mask : Named.named (F := Ideal) (φ := .f32) κ "mask" 0xF149F2CA#32 = (⊥ : EReal) :=
  IdealRules.named_const.ideal_named_scalar _ _ _ _ rfl

theorem ofBits_bot : Ideal.ofBits .f32 0xFF800000#32 = (⊥ : EReal) := by
  simp [Ideal.ofBits, Ideal.ieee]

theorem S_apply (r : Fin 128) (c : Fin 256) :
    k0_pay11 (F := Ideal) v (k0_pay10 q k) b (ix2 r c) = logit v q k b r c := by
  pointwise [k0_pay11, k0_pay10]
  rw [named_s, named_mask]
  rfl

theorem M_apply (r : Fin 128) (c : Fin 1) :
    k0_pay12 (F := Ideal) v (k0_pay10 q k) b (ix2 r c) = rowMax (logit v q k b r) := by
  pointwise [k0_pay12]
  simp only [S_apply, ofBits_bot]
  rfl

theorem E_apply (r : Fin 128) (c : Fin 256) : k0_pay13 (F := Ideal) v (k0_pay10 q k) b (ix2 r c)
    = Ideal.exp (logit v q k b r c - rowMax (logit v q k b r)) := by
  pointwise [k0_pay13]
  simp only [S_apply, M_apply]

theorem L_apply (r : Fin 128) (c : Fin 1) :
    k0_pay14 (F := Ideal) v (k0_pay10 q k) b (ix2 r c) = rowSum (logit v q k b r) := by
  pointwise [k0_pay14]
  simp only [E_apply]
  rfl

theorem O_apply (r : Fin 128) (e : Fin 128) (x y : Fin 1) : k0_pay15 (F := Ideal) v (k0_pay10 q k) b u (ix4 x y r e)
    = rowOut (logit v q k b r) fun c => u (ix3 0 c e) := by
  pointwise [k0_pay15]
  simp only [E_apply, L_apply]
  rfl

/-- The tile's log-sum-exp column. -/
def lseCol : FVec Ideal S128x1 .f32 := addf (k0_pay12 v (k0_pay10 q k) b) (log (k0_pay14 v (k0_pay10 q k) b))

theorem lseCol_apply (r : Fin 128) (c : Fin 1) : lseCol v q k b (ix2 r c) = rowLse (logit v q k b r) := by
  pointwise [lseCol]
  simp only [M_apply, L_apply]
  rfl

end Cert.AttnIdeal.Tile

end
-- ==== Proof.Row.lean ====
/- One row of the kernel at a grid point, over the blocks the point loads, and the tile the kernel stores as a block of
   such rows. Rows, heads and lanes are natural numbers here, read in range. -/
module

public import proofs.«01_k».proof.Proof.Tile

@[expose] public section

set_option maxRecDepth 16384

noncomputable section

namespace Cert.AttnIdeal.Row

open Cert.AttnIdeal Cert.AttnIdeal.Gen Idealize.ShloMosaic Cert.Window Cert.AttnIdeal.Tile

/-- Key `c` of the window of sub-block `S` of row block `i` lies in the sequence. -/
def Valid (i S c : ℕ) : Prop := 64 ≤ 1024 * i + 128 * S + c ∧ 1024 * i + 128 * S + c < 2112

instance (i S c : ℕ) : Decidable (Valid i S c) := instDecidableAnd

variable (i : ℕ) (x0 : Vec Ideal S1x1x1024x1024 .bf16) (K V : Vec Ideal S1x1152x1024 .bf16)
  (x7 : Vec Ideal S8x128x256 .f32)

/-- The logits of query row `r` of sub-block `S` in head `H`. -/
def logits (S H r : ℕ) (c : Fin 256) : EReal :=
  if Valid i S c then
    (∑ e : Fin 128, x0 (ix4 0 0 (Fin.ofNat 1024 (128 * S + r)) (Fin.ofNat 1024 (128 * H + e)))
      * K (ix3 0 (Fin.ofNat 1152 (128 * S + c)) (Fin.ofNat 1024 (128 * H + e)))) * scale
      + x7 (ix3 (Fin.ofNat 8 H) (Fin.ofNat 128 r) c)
  else ⊥

/-- Lane `e` of the output of query row `r` of sub-block `S` in head `H`. -/
def outAt (S H r e : ℕ) : EReal :=
  rowOut (logits i x0 K x7 S H r) fun c => V (ix3 0 (Fin.ofNat 1152 (128 * S + c)) (Fin.ofNat 1024 (128 * H + e)))

/-- The log-sum-exp of query row `r` of sub-block `S` in head `H`. -/
def lseAt (S H r : ℕ) : EReal := rowLse (logits i x0 K x7 S H r)

/-- The output block of a point, entry by entry. -/
def outBlk : Vec Ideal S1x1x1024x1024 .f32 := fun y =>
  outAt i x0 K V x7 ((y 2).val / 128) ((y 3).val / 128) ((y 2).val % 128) ((y 3).val % 128)

/-- The log-sum-exp block of a point: lane `h` below eight holds head `h`, the other lanes zero. -/
def lseBlk : Vec Ideal S1x1x1024x128 .f32 := fun y =>
  if (y 3).val < 8 then lseAt i x0 K x7 ((y 2).val / 128) (y 3).val ((y 2).val % 128) else 0

variable {i x0 K V x7}

theorem tile_logit {S H : ℕ} {v : IVec S1x256 1} (hv : ∀ c : Fin 256, v (ix2 0 c) = 1#1 ↔ Valid i S c)
    (hq : ∀ a, (![0, 0, 128 * S, 128 * H] : Fin 4 → ℕ) a + (![1, 1, 128, 128] : Fin 4 → ℕ) a ≤ S1x1x1024x1024.size a)
    (hk : ∀ a, (![0, 128 * S, 128 * H] : Fin 3 → ℕ) a + (![1, 256, 128] : Fin 3 → ℕ) a ≤ S1x1152x1024.size a)
    (hb : ∀ a, (![H, 0, 0] : Fin 3 → ℕ) a + (![1, 128, 256] : Fin 3 → ℕ) a ≤ S8x128x256.size a) (r : Fin 128) :
    logit v (View.ld x0 (Rect.unit ![0, 0, 128 * S, 128 * H] ![1, 1, 128, 128] hq))
      (fun j : S1x256x128.Idx => K (LoadRect.idx (Rect.unit (s := S1x1152x1024) ![0, 128 * S, 128 * H] ![1, 256, 128] hk).toLoadRect j))
      (View.ld x7 (Rect.unit ![H, 0, 0] ![1, 128, 256] hb)) r = logits i x0 K x7 S H r := by
  have h2 : 128 * S + 128 ≤ 1024 := hq 2
  have h3 : 128 * H + 128 ≤ 1024 := hq 3
  funext c
  unfold logit logits
  by_cases hvc : Valid i S c
  · rw [if_pos ((hv c).mpr hvc), if_pos hvc]
    congr 1
    · congr 1
      refine Finset.sum_congr rfl fun e _ => ?_
      congr 1
      · refine congrArg x0 (funext fun a => Fin.ext ?_)
        have := r.isLt; have := e.isLt
        fin_cases a <;> simp [Fin.ofNat] <;> omega
      · refine congrArg K (funext fun a => Fin.ext ?_)
        have := c.isLt; have := e.isLt
        fin_cases a <;> simp [Fin.ofNat, LoadRect.idx, Rect.toLoadRect] <;> omega
    · refine congrArg x7 (funext fun a => Fin.ext ?_)
      have := r.isLt; have := c.isLt
      fin_cases a <;> simp [Fin.ofNat] <;> omega
  · rw [if_neg (mt (hv c).mp hvc), if_neg hvc]

theorem tile_out {S H : ℕ} {v : IVec S1x256 1} (hv : ∀ c : Fin 256, v (ix2 0 c) = 1#1 ↔ Valid i S c)
    (hq : ∀ a, (![0, 0, 128 * S, 128 * H] : Fin 4 → ℕ) a + (![1, 1, 128, 128] : Fin 4 → ℕ) a ≤ S1x1x1024x1024.size a)
    (hk : ∀ a, (![0, 128 * S, 128 * H] : Fin 3 → ℕ) a + (![1, 256, 128] : Fin 3 → ℕ) a ≤ S1x1152x1024.size a)
    (hb : ∀ a, (![H, 0, 0] : Fin 3 → ℕ) a + (![1, 128, 256] : Fin 3 → ℕ) a ≤ S8x128x256.size a)
    (j : S1x1x128x128.Idx) :
    k0_pay15 (F := Ideal) v (k0_pay10 (View.ld x0 (Rect.unit ![0, 0, 128 * S, 128 * H] ![1, 1, 128, 128] hq))
        (fun j : S1x256x128.Idx => K (LoadRect.idx (Rect.unit (s := S1x1152x1024) ![0, 128 * S, 128 * H] ![1, 256, 128] hk).toLoadRect j)))
      (View.ld x7 (Rect.unit ![H, 0, 0] ![1, 128, 256] hb))
      (fun j : S1x256x128.Idx => V (LoadRect.idx (Rect.unit (s := S1x1152x1024) ![0, 128 * S, 128 * H] ![1, 256, 128] hk).toLoadRect j)) j
      = outBlk i x0 K V x7 (Rect.emb (Rect.unit (s := S1x1x1024x1024) ![0, 0, 128 * S, 128 * H] ![1, 1, 128, 128] hq) j) := by
  have h2 : 128 * S + 128 ≤ 1024 := hq 2
  have h3 : 128 * H + 128 ≤ 1024 := hq 3
  idx_vars j
  rw [O_apply, tile_logit hv hq hk hb]
  have e2 : ((Rect.emb (Rect.unit (s := S1x1x1024x1024) ![0, 0, 128 * S, 128 * H] ![1, 1, 128, 128] hq) (ix4 j0 j1 j2 j3 : S1x1x128x128.Idx)) 2).val = 128 * S + j2.val := by
    simp
  have e3 : ((Rect.emb (Rect.unit (s := S1x1x1024x1024) ![0, 0, 128 * S, 128 * H] ![1, 1, 128, 128] hq) (ix4 j0 j1 j2 j3 : S1x1x128x128.Idx)) 3).val = 128 * H + j3.val := by
    simp
  have := j2.isLt; have := j3.isLt
  unfold outBlk
  rw [e2, e3, show (128 * S + j2.val) / 128 = S by omega, show (128 * H + j3.val) / 128 = H by omega,
    show (128 * S + j2.val) % 128 = j2.val by omega, show (128 * H + j3.val) % 128 = j3.val by omega]
  unfold outAt
  congr 1
  funext c
  refine congrArg V (funext fun a => Fin.ext ?_)
  have := c.isLt
  fin_cases a <;> simp [Fin.ofNat, LoadRect.idx, Rect.toLoadRect] <;> omega

/-- A column put into lane `h` of a block. -/
def lay (h : ℕ) (col : FVec Ideal S128x1 .f32) (rest : FVec Ideal S128x128 .f32) : FVec Ideal S128x128 .f32 :=
  select (cmpi .eq (iota .tc S128x128 32 [1] iota_S128x128_d1_w32) (broadcast S128x128 (BitVec.ofNat 32 h)))
    (broadcastTo S128x128 (shapeCast S128x1 col shapeCasts_S128x1_S128x1) broadcasts_S128x1_S128x128) rest

theorem lane_eq : ∀ (h : Fin 8) (l : Fin 128),
    IntOp.cmpi .eq (BitVec.ofNat 32 l.val) (BitVec.ofNat 32 h.val) = if l.val = h.val then 1#1 else 0#1 := by
  decide +kernel

theorem lay_apply (h : ℕ) (hh : h < 8) (col : FVec Ideal S128x1 .f32) (rest : FVec Ideal S128x128 .f32) (r l : Fin 128) :
    lay h col rest (ix2 r l) = if l.val = h then col (ix2 r 0) else rest (ix2 r l) := by
  pointwise [lay]
  rw [show IntOp.cmpi .eq (BitVec.ofNat 32 l.val) (BitVec.ofNat 32 h) = if l.val = h then 1#1 else 0#1 from
    lane_eq ⟨h, hh⟩ l]
  split <;> rfl

/-- Eight columns put into the first eight lanes of a block of zeros. -/
def stack (col : Fin 8 → FVec Ideal S128x1 .f32) : FVec Ideal S1x1x128x128 .f32 :=
  shapeCast S1x1x128x128 (lay 7 (col 7) (lay 6 (col 6) (lay 5 (col 5) (lay 4 (col 4) (lay 3 (col 3) (lay 2 (col 2)
    (lay 1 (col 1) (lay 0 (col 0) (broadcast S128x128 (Scalar.ofBits .f32 0x00000000#32))))))))))
    shapeCasts_S128x128_S1x1x128x128

theorem stack_apply (col : Fin 8 → FVec Ideal S128x1 .f32) (x y : Fin 1) (r l : Fin 128) :
    stack col (ix4 x y r l) = if h : l.val < 8 then col ⟨l.val, h⟩ (ix2 r 0) else 0 := by
  pointwise [stack]
  rw [lay_apply 7 (by decide), lay_apply 6 (by decide), lay_apply 5 (by decide), lay_apply 4 (by decide), lay_apply 3 (by decide), lay_apply 2 (by decide), lay_apply 1 (by decide), lay_apply 0 (by decide)]
  by_cases h : l.val < 8
  · rw [dif_pos h]
    obtain ⟨l, hl⟩ := l
    change l < 8 at h
    interval_cases l <;> rfl
  · rw [dif_neg h]
    repeat rw [if_neg (by omega)]
    pointwise

theorem inb_q {S : ℕ} (hS : S < 8) (H : Fin 8) :
    ∀ a, (![0, 0, 128 * S, 128 * H.val] : Fin 4 → ℕ) a + (![1, 1, 128, 128] : Fin 4 → ℕ) a ≤ S1x1x1024x1024.size a := by
  intro a; have := H.isLt; fin_cases a <;> simp <;> omega

theorem inb_k {S : ℕ} (hS : S < 8) (H : Fin 8) :
    ∀ a, (![0, 128 * S, 128 * H.val] : Fin 3 → ℕ) a + (![1, 256, 128] : Fin 3 → ℕ) a ≤ S1x1152x1024.size a := by
  intro a; have := H.isLt; fin_cases a <;> simp <;> omega

theorem inb_b (H : Fin 8) :
    ∀ a, (![H.val, 0, 0] : Fin 3 → ℕ) a + (![1, 128, 256] : Fin 3 → ℕ) a ≤ S8x128x256.size a := by
  intro a; have := H.isLt; fin_cases a <;> simp <;> omega

theorem tile_lse {S : ℕ} (hS : S < 8) {v : IVec S1x256 1} (hv : ∀ c : Fin 256, v (ix2 0 c) = 1#1 ↔ Valid i S c)
    (hl : ∀ a, (![0, 0, 128 * S, 0] : Fin 4 → ℕ) a + (![1, 1, 128, 128] : Fin 4 → ℕ) a ≤ S1x1x1024x128.size a)
    (j : S1x1x128x128.Idx) :
    stack (fun H => lseCol v (View.ld x0 (Rect.unit ![0, 0, 128 * S, 128 * H.val] ![1, 1, 128, 128] (inb_q hS H)))
        (fun j : S1x256x128.Idx => K (LoadRect.idx (Rect.unit (s := S1x1152x1024) ![0, 128 * S, 128 * H.val] ![1, 256, 128] (inb_k hS H)).toLoadRect j))
        (View.ld x7 (Rect.unit ![H.val, 0, 0] ![1, 128, 256] (inb_b H)))) j
      = lseBlk i x0 K x7 (Rect.emb (Rect.unit (s := S1x1x1024x128) ![0, 0, 128 * S, 0] ![1, 1, 128, 128] hl) j) := by
  idx_vars j
  rw [stack_apply]
  have e2 : ((Rect.emb (Rect.unit (s := S1x1x1024x128) ![0, 0, 128 * S, 0] ![1, 1, 128, 128] hl) (ix4 j0 j1 j2 j3 : S1x1x128x128.Idx)) 2).val = 128 * S + j2.val := by
    simp
  have e3 : ((Rect.emb (Rect.unit (s := S1x1x1024x128) ![0, 0, 128 * S, 0] ![1, 1, 128, 128] hl) (ix4 j0 j1 j2 j3 : S1x1x128x128.Idx)) 3).val = j3.val := by
    simp
  have := j2.isLt
  unfold lseBlk
  rw [e2, e3, show (128 * S + j2.val) / 128 = S by omega, show (128 * S + j2.val) % 128 = j2.val by omega]
  by_cases h : j3.val < 8
  · rw [dif_pos h, if_pos h, lseCol_apply, tile_logit hv]
    rfl
  · rw [dif_neg h, if_neg h]

end Cert.AttnIdeal.Row

end
-- ==== Proof.Block.lean ====
/- What one grid point leaves in the two output blocks. -/
module

public import proofs.«01_k».proof.Proof.Gen.AttnIdeal.Frame
public import proofs.«01_k».proof.Proof.Row
public import Idealize.ShloMosaic.Lib.Pointwise
public import Idealize.ShloMosaic.Lib.Pipeline.ValueKit
public import Idealize.ShloMosaic.Lib.Pipeline.ReadBack

@[expose] public section

set_option maxRecDepth 16384

noncomputable section

namespace Cert.AttnIdeal.Block

open Cert.AttnIdeal Cert.AttnIdeal.Gen Idealize.ShloMosaic Idealize.ShloMosaic.TcCoe Idealize.SL.Sem Cert.Window Cert.AttnIdeal.Row
open Idealize.ShloMosaic.Pipeline (Dat)

variable (m : (ℓ : Loc nD τ sig) → Buf (Elt Ideal) ℓ)

/-- The bits of the keys of sub-block `S` that lie in the sequence, as the kernel computes them. -/
def bits (i : BitVec 32) (S : ℕ) : IVec S1x256 1 :=
  k0_pay299 (Scalar.addi (Scalar.muli i 1024#32) (BitVec.ofNat 32 (128 * S)))

theorem bits_iff : ∀ (i : Fin 2) (S : Fin 8) (c : Fin 256),
    bits (BitVec.ofNat 32 i) S (ix2 0 c) = 1#1 ↔ Valid i S c := by
  decide +kernel

/-- The row block of a grid point. -/
def rb (t : Fin cfg0.N) : Fin 2 := grid0.coords t 2

/-- The keys a point works on: the last rows of the block before, the block, the first rows of the block after. -/
def keys (c : Dev nD) (t : Fin cfg0.N) : Vec Ideal S1x1152x1024 .bf16 :=
  View.canon (Val := Elt Ideal) (s := S1x1152x1024) (e := .bf16)
    [⟨Rect.unit ![0, 1088, 0] ![1, 64, 1024] inb_S1x1152x1024_S1x64x1024_0_1088_0, k0_pay4 (iblk m c 3 t)⟩,
     ⟨Rect.unit ![0, 64, 0] ![1, 1024, 1024] inb_S1x1152x1024_S1x1024x1024_0_64_0, k0_pay3 (iblk m c 2 t)⟩,
     ⟨Rect.unit ![0, 0, 0] ![1, 64, 1024] inb_S1x1152x1024_S1x64x1024_0_0_0, k0_pay2 (iblk m c 1 t)⟩]

/-- The values a point works on, laid out as the keys are. -/
def vals (c : Dev nD) (t : Fin cfg0.N) : Vec Ideal S1x1152x1024 .bf16 :=
  View.canon (Val := Elt Ideal) (s := S1x1152x1024) (e := .bf16)
    [⟨Rect.unit ![0, 1088, 0] ![1, 64, 1024] inb_S1x1152x1024_S1x64x1024_0_1088_0, k0_pay7 (iblk m c 6 t)⟩,
     ⟨Rect.unit ![0, 64, 0] ![1, 1024, 1024] inb_S1x1152x1024_S1x1024x1024_0_64_0, k0_pay6 (iblk m c 5 t)⟩,
     ⟨Rect.unit ![0, 0, 0] ![1, 64, 1024] inb_S1x1152x1024_S1x64x1024_0_0_0, k0_pay5 (iblk m c 4 t)⟩]

theorem piece (c : Dev nD) (t : Fin cfg0.N) (S H : ℕ) (hS : S < 8)
    (hq : ∀ a, (![0, 0, 128 * S, 128 * H] : Fin 4 → ℕ) a + (![1, 1, 128, 128] : Fin 4 → ℕ) a ≤ S1x1x1024x1024.size a)
    (hk : ∀ a, (![0, 128 * S, 128 * H] : Fin 3 → ℕ) a + (![1, 256, 128] : Fin 3 → ℕ) a ≤ S1x1152x1024.size a)
    (hb : ∀ a, (![H, 0, 0] : Fin 3 → ℕ) a + (![1, 128, 256] : Fin 3 → ℕ) a ≤ S8x128x256.size a)
    (j : S1x1x128x128.Idx) :
    k0_pay15 (F := Ideal) (bits (BitVec.ofNat 32 (rb t)) S)
      (k0_pay10 (View.ld (iblk m c 0 t) (Rect.unit ![0, 0, 128 * S, 128 * H] ![1, 1, 128, 128] hq))
        (fun j : S1x256x128.Idx => keys m c t (LoadRect.idx (Rect.unit (s := S1x1152x1024) ![0, 128 * S, 128 * H] ![1, 256, 128] hk).toLoadRect j)))
      (View.ld (iblk m c 7 t) (Rect.unit ![H, 0, 0] ![1, 128, 256] hb))
      (fun j : S1x256x128.Idx => vals m c t (LoadRect.idx (Rect.unit (s := S1x1152x1024) ![0, 128 * S, 128 * H] ![1, 256, 128] hk).toLoadRect j)) j
      = outBlk (rb t) (iblk m c 0 t) (keys m c t) (vals m c t) (iblk m c 7 t)
          (Rect.emb (Rect.unit (s := S1x1x1024x1024) ![0, 0, 128 * S, 128 * H] ![1, 1, 128, 128] hq) j) :=
  tile_out (x0 := iblk m c 0 t) (x7 := iblk m c 7 t) (fun k => bits_iff (rb t) ⟨S, hS⟩ k) hq hk hb j

theorem out_eq (c : Dev nD) (t : Fin cfg0.N) (y : S1x1x1024x1024.Idx) : (outsAt0 m c t).1 y
    = outBlk (rb t) (iblk m c 0 t) (keys m c t) (vals m c t) (iblk m c 7 t) y := by
  unfold outsAt0
  dsimp only
  frame_open
  frame_out
  simp only [View.readCov_eq_canon']
  refine View.canon_apply_of_pieces (Val := Elt Ideal) (e := .f32)
    (outBlk (rb t) (iblk m c 0 t) (keys m c t) (vals m c t) (iblk m c 7 t)) _ (View.PiecesOf.mem ?_) y ?_
  · refine ⟨piece m c t 7 7 (by decide) _ inb_S1x1152x1024_S1x256x128_0_896_896 _, ?_⟩
    refine ⟨piece m c t 7 6 (by decide) _ inb_S1x1152x1024_S1x256x128_0_896_768 _, ?_⟩
    refine ⟨piece m c t 7 5 (by decide) _ inb_S1x1152x1024_S1x256x128_0_896_640 _, ?_⟩
    refine ⟨piece m c t 7 4 (by decide) _ inb_S1x1152x1024_S1x256x128_0_896_512 _, ?_⟩
    refine ⟨piece m c t 7 3 (by decide) _ inb_S1x1152x1024_S1x256x128_0_896_384 _, ?_⟩
    refine ⟨piece m c t 7 2 (by decide) _ inb_S1x1152x1024_S1x256x128_0_896_256 _, ?_⟩
    refine ⟨piece m c t 7 1 (by decide) _ inb_S1x1152x1024_S1x256x128_0_896_128 _, ?_⟩
    refine ⟨piece m c t 7 0 (by decide) _ inb_S1x1152x1024_S1x256x128_0_896_0 _, ?_⟩
    refine ⟨piece m c t 6 7 (by decide) _ inb_S1x1152x1024_S1x256x128_0_768_896 _, ?_⟩
    refine ⟨piece m c t 6 6 (by decide) _ inb_S1x1152x1024_S1x256x128_0_768_768 _, ?_⟩
    refine ⟨piece m c t 6 5 (by decide) _ inb_S1x1152x1024_S1x256x128_0_768_640 _, ?_⟩
    refine ⟨piece m c t 6 4 (by decide) _ inb_S1x1152x1024_S1x256x128_0_768_512 _, ?_⟩
    refine ⟨piece m c t 6 3 (by decide) _ inb_S1x1152x1024_S1x256x128_0_768_384 _, ?_⟩
    refine ⟨piece m c t 6 2 (by decide) _ inb_S1x1152x1024_S1x256x128_0_768_256 _, ?_⟩
    refine ⟨piece m c t 6 1 (by decide) _ inb_S1x1152x1024_S1x256x128_0_768_128 _, ?_⟩
    refine ⟨piece m c t 6 0 (by decide) _ inb_S1x1152x1024_S1x256x128_0_768_0 _, ?_⟩
    refine ⟨piece m c t 5 7 (by decide) _ inb_S1x1152x1024_S1x256x128_0_640_896 _, ?_⟩
    refine ⟨piece m c t 5 6 (by decide) _ inb_S1x1152x1024_S1x256x128_0_640_768 _, ?_⟩
    refine ⟨piece m c t 5 5 (by decide) _ inb_S1x1152x1024_S1x256x128_0_640_640 _, ?_⟩
    refine ⟨piece m c t 5 4 (by decide) _ inb_S1x1152x1024_S1x256x128_0_640_512 _, ?_⟩
    refine ⟨piece m c t 5 3 (by decide) _ inb_S1x1152x1024_S1x256x128_0_640_384 _, ?_⟩
    refine ⟨piece m c t 5 2 (by decide) _ inb_S1x1152x1024_S1x256x128_0_640_256 _, ?_⟩
    refine ⟨piece m c t 5 1 (by decide) _ inb_S1x1152x1024_S1x256x128_0_640_128 _, ?_⟩
    refine ⟨piece m c t 5 0 (by decide) _ inb_S1x1152x1024_S1x256x128_0_640_0 _, ?_⟩
    refine ⟨piece m c t 4 7 (by decide) _ inb_S1x1152x1024_S1x256x128_0_512_896 _, ?_⟩
    refine ⟨piece m c t 4 6 (by decide) _ inb_S1x1152x1024_S1x256x128_0_512_768 _, ?_⟩
    refine ⟨piece m c t 4 5 (by decide) _ inb_S1x1152x1024_S1x256x128_0_512_640 _, ?_⟩
    refine ⟨piece m c t 4 4 (by decide) _ inb_S1x1152x1024_S1x256x128_0_512_512 _, ?_⟩
    refine ⟨piece m c t 4 3 (by decide) _ inb_S1x1152x1024_S1x256x128_0_512_384 _, ?_⟩
    refine ⟨piece m c t 4 2 (by decide) _ inb_S1x1152x1024_S1x256x128_0_512_256 _, ?_⟩
    refine ⟨piece m c t 4 1 (by decide) _ inb_S1x1152x1024_S1x256x128_0_512_128 _, ?_⟩
    refine ⟨piece m c t 4 0 (by decide) _ inb_S1x1152x1024_S1x256x128_0_512_0 _, ?_⟩
    refine ⟨piece m c t 3 7 (by decide) _ inb_S1x1152x1024_S1x256x128_0_384_896 _, ?_⟩
    refine ⟨piece m c t 3 6 (by decide) _ inb_S1x1152x1024_S1x256x128_0_384_768 _, ?_⟩
    refine ⟨piece m c t 3 5 (by decide) _ inb_S1x1152x1024_S1x256x128_0_384_640 _, ?_⟩
    refine ⟨piece m c t 3 4 (by decide) _ inb_S1x1152x1024_S1x256x128_0_384_512 _, ?_⟩
    refine ⟨piece m c t 3 3 (by decide) _ inb_S1x1152x1024_S1x256x128_0_384_384 _, ?_⟩
    refine ⟨piece m c t 3 2 (by decide) _ inb_S1x1152x1024_S1x256x128_0_384_256 _, ?_⟩
    refine ⟨piece m c t 3 1 (by decide) _ inb_S1x1152x1024_S1x256x128_0_384_128 _, ?_⟩
    refine ⟨piece m c t 3 0 (by decide) _ inb_S1x1152x1024_S1x256x128_0_384_0 _, ?_⟩
    refine ⟨piece m c t 2 7 (by decide) _ inb_S1x1152x1024_S1x256x128_0_256_896 _, ?_⟩
    refine ⟨piece m c t 2 6 (by decide) _ inb_S1x1152x1024_S1x256x128_0_256_768 _, ?_⟩
    refine ⟨piece m c t 2 5 (by decide) _ inb_S1x1152x1024_S1x256x128_0_256_640 _, ?_⟩
    refine ⟨piece m c t 2 4 (by decide) _ inb_S1x1152x1024_S1x256x128_0_256_512 _, ?_⟩
    refine ⟨piece m c t 2 3 (by decide) _ inb_S1x1152x1024_S1x256x128_0_256_384 _, ?_⟩
    refine ⟨piece m c t 2 2 (by decide) _ inb_S1x1152x1024_S1x256x128_0_256_256 _, ?_⟩
    refine ⟨piece m c t 2 1 (by decide) _ inb_S1x1152x1024_S1x256x128_0_256_128 _, ?_⟩
    refine ⟨piece m c t 2 0 (by decide) _ inb_S1x1152x1024_S1x256x128_0_256_0 _, ?_⟩
    refine ⟨piece m c t 1 7 (by decide) _ inb_S1x1152x1024_S1x256x128_0_128_896 _, ?_⟩
    refine ⟨piece m c t 1 6 (by decide) _ inb_S1x1152x1024_S1x256x128_0_128_768 _, ?_⟩
    refine ⟨piece m c t 1 5 (by decide) _ inb_S1x1152x1024_S1x256x128_0_128_640 _, ?_⟩
    refine ⟨piece m c t 1 4 (by decide) _ inb_S1x1152x1024_S1x256x128_0_128_512 _, ?_⟩
    refine ⟨piece m c t 1 3 (by decide) _ inb_S1x1152x1024_S1x256x128_0_128_384 _, ?_⟩
    refine ⟨piece m c t 1 2 (by decide) _ inb_S1x1152x1024_S1x256x128_0_128_256 _, ?_⟩
    refine ⟨piece m c t 1 1 (by decide) _ inb_S1x1152x1024_S1x256x128_0_128_128 _, ?_⟩
    refine ⟨piece m c t 1 0 (by decide) _ inb_S1x1152x1024_S1x256x128_0_128_0 _, ?_⟩
    refine ⟨piece m c t 0 7 (by decide) _ inb_S1x1152x1024_S1x256x128_0_0_896 _, ?_⟩
    refine ⟨piece m c t 0 6 (by decide) _ inb_S1x1152x1024_S1x256x128_0_0_768 _, ?_⟩
    refine ⟨piece m c t 0 5 (by decide) _ inb_S1x1152x1024_S1x256x128_0_0_640 _, ?_⟩
    refine ⟨piece m c t 0 4 (by decide) _ inb_S1x1152x1024_S1x256x128_0_0_512 _, ?_⟩
    refine ⟨piece m c t 0 3 (by decide) _ inb_S1x1152x1024_S1x256x128_0_0_384 _, ?_⟩
    refine ⟨piece m c t 0 2 (by decide) _ inb_S1x1152x1024_S1x256x128_0_0_256 _, ?_⟩
    refine ⟨piece m c t 0 1 (by decide) _ inb_S1x1152x1024_S1x256x128_0_0_128 _, ?_⟩
    refine ⟨piece m c t 0 0 (by decide) _ inb_S1x1152x1024_S1x256x128_0_0_0 _, ?_⟩
    trivial
  · exact View.cover_of_tiledL (s := S1x1x1024x1024) _ S1x1x128x128.size (by sl_kernel_rfl) y

theorem lsePiece (c : Dev nD) (t : Fin cfg0.N) (S : ℕ) (hS : S < 8)
    (hl : ∀ a, (![0, 0, 128 * S, 0] : Fin 4 → ℕ) a + (![1, 1, 128, 128] : Fin 4 → ℕ) a ≤ S1x1x1024x128.size a)
    (j : S1x1x128x128.Idx) :
    stack (fun H => Tile.lseCol (bits (BitVec.ofNat 32 (rb t)) S)
        (View.ld (iblk m c 0 t) (Rect.unit ![0, 0, 128 * S, 128 * H.val] ![1, 1, 128, 128] (inb_q hS H)))
        (fun j : S1x256x128.Idx => keys m c t (LoadRect.idx (Rect.unit (s := S1x1152x1024) ![0, 128 * S, 128 * H.val] ![1, 256, 128] (inb_k hS H)).toLoadRect j))
        (View.ld (iblk m c 7 t) (Rect.unit ![H.val, 0, 0] ![1, 128, 256] (inb_b H)))) j
      = lseBlk (rb t) (iblk m c 0 t) (keys m c t) (iblk m c 7 t)
          (Rect.emb (Rect.unit (s := S1x1x1024x128) ![0, 0, 128 * S, 0] ![1, 1, 128, 128] hl) j) :=
  tile_lse (x0 := iblk m c 0 t) (x7 := iblk m c 7 t) hS (fun k => bits_iff (rb t) ⟨S, hS⟩ k) hl j

set_option maxRecDepth 200000 in
theorem lse_eq (c : Dev nD) (t : Fin cfg0.N) (y : S1x1x1024x128.Idx) : (outsAt0 m c t).2 y
    = lseBlk (rb t) (iblk m c 0 t) (keys m c t) (iblk m c 7 t) y := by
  unfold outsAt0
  dsimp only
  frame_open
  frame_out
  simp only [View.readCov_eq_canon']
  refine View.canon_apply_of_pieces (Val := Elt Ideal) (e := .f32)
    (lseBlk (rb t) (iblk m c 0 t) (keys m c t) (iblk m c 7 t)) _ (View.PiecesOf.mem ?_) y ?_
  · refine ⟨lsePiece m c t 7 (by decide) inb_S1x1x1024x128_S1x1x128x128_0_0_896_0, ?_⟩
    refine ⟨lsePiece m c t 6 (by decide) inb_S1x1x1024x128_S1x1x128x128_0_0_768_0, ?_⟩
    refine ⟨lsePiece m c t 5 (by decide) inb_S1x1x1024x128_S1x1x128x128_0_0_640_0, ?_⟩
    refine ⟨lsePiece m c t 4 (by decide) inb_S1x1x1024x128_S1x1x128x128_0_0_512_0, ?_⟩
    refine ⟨lsePiece m c t 3 (by decide) inb_S1x1x1024x128_S1x1x128x128_0_0_384_0, ?_⟩
    refine ⟨lsePiece m c t 2 (by decide) inb_S1x1x1024x128_S1x1x128x128_0_0_256_0, ?_⟩
    refine ⟨lsePiece m c t 1 (by decide) inb_S1x1x1024x128_S1x1x128x128_0_0_128_0, ?_⟩
    refine ⟨lsePiece m c t 0 (by decide) inb_S1x1x1024x128_S1x1x128x128_0_0_0_0, ?_⟩
    trivial
  · exact View.cover_of_tiledL (s := S1x1x1024x128) _ S1x1x128x128.size (by sl_kernel_rfl) y

end Cert.AttnIdeal.Block

end
-- ==== Proof.Arrays.lean ====
/- The kernel's two output arrays, entry by entry, over the arrays the call is given. -/
module

public import proofs.«01_k».proof.Proof.Gen.AttnIdeal.Value
public import proofs.«01_k».proof.Proof.Block

@[expose] public section

set_option maxRecDepth 16384

noncomputable section

namespace Cert.AttnIdeal.Arrays

open Cert.AttnIdeal Cert.AttnIdeal.Gen Idealize.ShloMosaic Idealize.ShloMosaic.TcCoe Idealize.SL.Sem Cert.Window
  Cert.AttnIdeal.Row Cert.AttnIdeal.Block
open Idealize.ShloMosaic.Pipeline (Dat)

/-- The logits of query row `R` of head `H` against the 256 keys of its window, which starts 64 rows before the
    query's 128 rows; a key outside the sequence has −∞. -/
def logits (x : Vec Ideal S2x4x2048x3072 .bf16) (B : Vec Ideal S8x128x256 .f32) (b : Fin 2) (d : Fin 4)
    (H R : ℕ) (k : Fin 256) : EReal :=
  if 64 ≤ 128 * (R / 128) + k.val ∧ 128 * (R / 128) + k.val < 2112 then
    (∑ e : Fin 128, x (ix4 b d (Fin.ofNat 2048 R) (Fin.ofNat 3072 (128 * H + e)))
      * x (ix4 b d (Fin.ofNat 2048 (128 * (R / 128) + k - 64)) (Fin.ofNat 3072 (1024 + 128 * H + e)))) * Tile.scale
      + B (ix3 (Fin.ofNat 8 H) (Fin.ofNat 128 R) k)
  else ⊥

def out (x : Vec Ideal S2x4x2048x3072 .bf16) (B : Vec Ideal S8x128x256 .f32) (b : Fin 2) (d : Fin 4)
    (H R e : ℕ) : EReal :=
  rowOut (logits x B b d H R) fun k =>
    x (ix4 b d (Fin.ofNat 2048 (128 * (R / 128) + k - 64)) (Fin.ofNat 3072 (2048 + 128 * H + e)))

variable (m : (ℓ : Loc nD τ sig) → Buf (Elt Ideal) ℓ)

theorem idx : ∀ t : Fin cfg0.N,
    win0_0.index t = ![(grid0.coords t 0).val, (grid0.coords t 1).val, (grid0.coords t 2).val, 0]
    ∧ win0_1.index t = ![(grid0.coords t 0).val, (grid0.coords t 1).val, 16 * (grid0.coords t 2).val - 1, 1]
    ∧ win0_2.index t = ![(grid0.coords t 0).val, (grid0.coords t 1).val, (grid0.coords t 2).val, 1]
    ∧ win0_3.index t = ![(grid0.coords t 0).val, (grid0.coords t 1).val, min (16 * ((grid0.coords t 2).val + 1)) 31, 1]
    ∧ win0_4.index t = ![(grid0.coords t 0).val, (grid0.coords t 1).val, 16 * (grid0.coords t 2).val - 1, 2]
    ∧ win0_5.index t = ![(grid0.coords t 0).val, (grid0.coords t 1).val, (grid0.coords t 2).val, 2]
    ∧ win0_6.index t = ![(grid0.coords t 0).val, (grid0.coords t 1).val, min (16 * ((grid0.coords t 2).val + 1)) 31, 2]
    ∧ win0_7.index t = ![0, 0, 0]
    ∧ win0_8.index t = ![(grid0.coords t 0).val, (grid0.coords t 1).val, (grid0.coords t 2).val, 0]
    ∧ win0_9.index t = ![(grid0.coords t 0).val, (grid0.coords t 1).val, (grid0.coords t 2).val, 0] :=
  (by decide +kernel : ∀ t : Fin grid0.N, _)

/-- The batch of a grid point. -/
def gb (t : Fin cfg0.N) : Fin 2 := grid0.coords t 0
/-- The stream of a grid point. -/
def gd (t : Fin cfg0.N) : Fin 4 := grid0.coords t 1

theorem q_at (c : Dev nD) (t : Fin cfg0.N) (x y : Fin 1) (r e : Fin 1024) :
    iblk m c 0 t (ix4 x y r e) = V m c main_arg0 (ix4 (gb t) (gd t) (Fin.ofNat 2048 (1024 * (rb t).val + r.val)) (Fin.ofNat 3072 e.val)) := by
  have h := (rb t).isLt
  blk_ext [iblk, V, idx t]
  · rfl
  · rfl
  · show (rb t).val * 1024 + r.val = (1024 * (rb t).val + r.val) % 2048
    omega
  · show e.val = e.val % 3072
    omega

theorem b_at (c : Dev nD) (t : Fin cfg0.N) (x : Fin 8) (y : Fin 128) (z : Fin 256) :
    iblk m c 7 t (ix3 x y z) = V m c main_v12 (ix3 x y z) := by
  blk_ext [iblk, V, idx t]

/-- The array row of row `k` of a point's keys. -/
def krow (i k : ℕ) : ℕ :=
  if k < 64 then 64 * (16 * i - 1) + k else if k < 1088 then 1024 * i + (k - 64) else 64 * min (16 * (i + 1)) 31 + (k - 1088)

/-- The third part `p` of the input over a point's key rows. -/
def span (c : Dev nD) (t : Fin cfg0.N) (p : ℕ) : Vec Ideal S1x1152x1024 .bf16 := fun y =>
  V m c main_arg0 (ix4 (gb t) (gd t) (Fin.ofNat 2048 (krow (rb t).val (y 1).val)) (Fin.ofNat 3072 (1024 * p + (y 2).val)))

theorem k0_at (c : Dev nD) (t : Fin cfg0.N) (x y : Fin 1) (r : Fin 64) (e : Fin 1024) :
    iblk m c 1 t (ix4 x y r e) = V m c main_arg0 (ix4 (gb t) (gd t) (Fin.ofNat 2048 (krow (rb t).val (0 + r.val))) (Fin.ofNat 3072 (1024 * 1 + e.val))) := by
  have h := (rb t).isLt
  have hr := r.isLt
  blk_ext [iblk, V, idx t]
  · rfl
  · rfl
  · show (16 * (rb t).val - 1) * 64 + r.val = krow (rb t).val r.val % 2048
    unfold krow
    split_ifs <;> omega
  · show 1 * 1024 + e.val = (1024 * 1 + e.val) % 3072
    omega

theorem k1_at (c : Dev nD) (t : Fin cfg0.N) (x y : Fin 1) (r : Fin 1024) (e : Fin 1024) :
    iblk m c 2 t (ix4 x y r e) = V m c main_arg0 (ix4 (gb t) (gd t) (Fin.ofNat 2048 (krow (rb t).val (64 + r.val))) (Fin.ofNat 3072 (1024 * 1 + e.val))) := by
  have h := (rb t).isLt
  have hr := r.isLt
  blk_ext [iblk, V, idx t]
  · rfl
  · rfl
  · show (rb t).val * 1024 + r.val = krow (rb t).val (64 + r.val) % 2048
    unfold krow
    split_ifs <;> omega
  · show 1 * 1024 + e.val = (1024 * 1 + e.val) % 3072
    omega

theorem k2_at (c : Dev nD) (t : Fin cfg0.N) (x y : Fin 1) (r : Fin 64) (e : Fin 1024) :
    iblk m c 3 t (ix4 x y r e) = V m c main_arg0 (ix4 (gb t) (gd t) (Fin.ofNat 2048 (krow (rb t).val (1088 + r.val))) (Fin.ofNat 3072 (1024 * 1 + e.val))) := by
  have h := (rb t).isLt
  have hr := r.isLt
  blk_ext [iblk, V, idx t]
  · rfl
  · rfl
  · show min (16 * ((rb t).val + 1)) 31 * 64 + r.val = krow (rb t).val (1088 + r.val) % 2048
    unfold krow
    split_ifs <;> omega
  · show 1 * 1024 + e.val = (1024 * 1 + e.val) % 3072
    omega

theorem v0_at (c : Dev nD) (t : Fin cfg0.N) (x y : Fin 1) (r : Fin 64) (e : Fin 1024) :
    iblk m c 4 t (ix4 x y r e) = V m c main_arg0 (ix4 (gb t) (gd t) (Fin.ofNat 2048 (krow (rb t).val (0 + r.val))) (Fin.ofNat 3072 (1024 * 2 + e.val))) := by
  have h := (rb t).isLt
  have hr := r.isLt
  blk_ext [iblk, V, idx t]
  · rfl
  · rfl
  · show (16 * (rb t).val - 1) * 64 + r.val = krow (rb t).val r.val % 2048
    unfold krow
    split_ifs <;> omega
  · show 2 * 1024 + e.val = (1024 * 2 + e.val) % 3072
    omega

theorem v1_at (c : Dev nD) (t : Fin cfg0.N) (x y : Fin 1) (r : Fin 1024) (e : Fin 1024) :
    iblk m c 5 t (ix4 x y r e) = V m c main_arg0 (ix4 (gb t) (gd t) (Fin.ofNat 2048 (krow (rb t).val (64 + r.val))) (Fin.ofNat 3072 (1024 * 2 + e.val))) := by
  have h := (rb t).isLt
  have hr := r.isLt
  blk_ext [iblk, V, idx t]
  · rfl
  · rfl
  · show (rb t).val * 1024 + r.val = krow (rb t).val (64 + r.val) % 2048
    unfold krow
    split_ifs <;> omega
  · show 2 * 1024 + e.val = (1024 * 2 + e.val) % 3072
    omega

theorem v2_at (c : Dev nD) (t : Fin cfg0.N) (x y : Fin 1) (r : Fin 64) (e : Fin 1024) :
    iblk m c 6 t (ix4 x y r e) = V m c main_arg0 (ix4 (gb t) (gd t) (Fin.ofNat 2048 (krow (rb t).val (1088 + r.val))) (Fin.ofNat 3072 (1024 * 2 + e.val))) := by
  have h := (rb t).isLt
  have hr := r.isLt
  blk_ext [iblk, V, idx t]
  · rfl
  · rfl
  · show min (16 * ((rb t).val + 1)) 31 * 64 + r.val = krow (rb t).val (1088 + r.val) % 2048
    unfold krow
    split_ifs <;> omega
  · show 2 * 1024 + e.val = (1024 * 2 + e.val) % 3072
    omega

theorem cover (w3 : Vec Ideal S1x64x1024 .bf16) (w2 : Vec Ideal S1x1024x1024 .bf16) (w1 : Vec Ideal S1x64x1024 .bf16) (y : S1x1152x1024.Idx) :
    ∃ p ∈ ([⟨Rect.unit ![0, 1088, 0] ![1, 64, 1024] inb_S1x1152x1024_S1x64x1024_0_1088_0, w3⟩,
     ⟨Rect.unit ![0, 64, 0] ![1, 1024, 1024] inb_S1x1152x1024_S1x1024x1024_0_64_0, w2⟩,
     ⟨Rect.unit ![0, 0, 0] ![1, 64, 1024] inb_S1x1152x1024_S1x64x1024_0_0_0, w1⟩] :
     List (View.Piece (Elt Ideal) S1x1152x1024 .bf16)), y ∈ p.1.set := by
  have h0 : (y 0).val < 1 := (y 0).isLt
  have h1 : (y 1).val < 1152 := (y 1).isLt
  have h2 : (y 2).val < 1024 := (y 2).isLt
  by_cases ha : (y 1).val < 64
  · have h : y ∈ (Rect.unit (s := S1x1152x1024) ![0, 0, 0] ![1, 64, 1024] inb_S1x1152x1024_S1x64x1024_0_0_0).set :=
      Rect.mem_set_unit.mpr fun a => by fin_cases a <;> simp <;> omega
    exact ⟨_, List.mem_cons_of_mem _ (List.mem_cons_of_mem _ List.mem_cons_self), h⟩
  · by_cases hb : (y 1).val < 1088
    · have h : y ∈ (Rect.unit (s := S1x1152x1024) ![0, 64, 0] ![1, 1024, 1024] inb_S1x1152x1024_S1x1024x1024_0_64_0).set :=
        Rect.mem_set_unit.mpr fun a => by fin_cases a <;> simp <;> omega
      exact ⟨_, List.mem_cons_of_mem _ List.mem_cons_self, h⟩
    · have h : y ∈ (Rect.unit (s := S1x1152x1024) ![0, 1088, 0] ![1, 64, 1024] inb_S1x1152x1024_S1x64x1024_0_1088_0).set :=
        Rect.mem_set_unit.mpr fun a => by fin_cases a <;> simp <;> omega
      exact ⟨_, List.mem_cons_self, h⟩

theorem span_emb (c : Dev nD) (t : Fin cfg0.N) (p off n : ℕ)
    (h : ∀ a, (![0, off, 0] : Fin 3 → ℕ) a + (![1, n, 1024] : Fin 3 → ℕ) a ≤ S1x1152x1024.size a)
    (x : Fin 1) (r : Fin n) (e : Fin 1024) :
    span m c t p (Rect.emb (Rect.unit (s := S1x1152x1024) ![0, off, 0] ![1, n, 1024] h) (ix3 x r e : (⟨3, ![1, n, 1024]⟩ : Shape).Idx))
      = V m c main_arg0 (ix4 (gb t) (gd t) (Fin.ofNat 2048 (krow (rb t).val (off + r.val))) (Fin.ofNat 3072 (1024 * p + e.val))) := by
  unfold span
  congr 3
  · simp
  · simp

theorem keys_eq (c : Dev nD) (t : Fin cfg0.N) : keys m c t = span m c t 1 := by
  funext y
  refine View.canon_apply_of_pieces (Val := Elt Ideal) (e := .bf16) (span m c t 1) _ (View.PiecesOf.mem ?_) y (cover _ _ _ y)
  refine ⟨fun (x : S1x64x1024.Idx) => ?_, fun (x : S1x1024x1024.Idx) => ?_, fun (x : S1x64x1024.Idx) => ?_, trivial⟩
  · idx_vars x
    refine Eq.trans ?_ (span_emb m c t 1 1088 64 inb_S1x1152x1024_S1x64x1024_0_1088_0 _ _ _).symm
    rw [← k2_at m c t 0 0]
    pointwise [k0_pay4]
  · idx_vars x
    refine Eq.trans ?_ (span_emb m c t 1 64 1024 inb_S1x1152x1024_S1x1024x1024_0_64_0 _ _ _).symm
    rw [← k1_at m c t 0 0]
    pointwise [k0_pay3]
  · idx_vars x
    refine Eq.trans ?_ (span_emb m c t 1 0 64 inb_S1x1152x1024_S1x64x1024_0_0_0 _ _ _).symm
    rw [← k0_at m c t 0 0]
    pointwise [k0_pay2]

theorem vals_eq (c : Dev nD) (t : Fin cfg0.N) : vals m c t = span m c t 2 := by
  funext y
  refine View.canon_apply_of_pieces (Val := Elt Ideal) (e := .bf16) (span m c t 2) _ (View.PiecesOf.mem ?_) y (cover _ _ _ y)
  refine ⟨fun (x : S1x64x1024.Idx) => ?_, fun (x : S1x1024x1024.Idx) => ?_, fun (x : S1x64x1024.Idx) => ?_, trivial⟩
  · idx_vars x
    refine Eq.trans ?_ (span_emb m c t 2 1088 64 inb_S1x1152x1024_S1x64x1024_0_1088_0 _ _ _).symm
    rw [← v2_at m c t 0 0]
    pointwise [k0_pay7]
  · idx_vars x
    refine Eq.trans ?_ (span_emb m c t 2 64 1024 inb_S1x1152x1024_S1x1024x1024_0_64_0 _ _ _).symm
    rw [← v1_at m c t 0 0]
    pointwise [k0_pay6]
  · idx_vars x
    refine Eq.trans ?_ (span_emb m c t 2 0 64 inb_S1x1152x1024_S1x64x1024_0_0_0 _ _ _).symm
    rw [← v0_at m c t 0 0]
    pointwise [k0_pay5]

theorem valid_iff (i S k : ℕ) : Valid i S k ↔ 64 ≤ 128 * (8 * i + S) + k ∧ 128 * (8 * i + S) + k < 2112 := by
  unfold Valid
  omega

theorem krow_eq {i S k : ℕ} (hi : i < 2) (hS : S < 8) (hk : k < 256)
    (h : 64 ≤ 128 * (8 * i + S) + k ∧ 128 * (8 * i + S) + k < 2112) :
    krow i ((128 * S + k) % 1152) = 128 * (8 * i + S) + k - 64 := by
  unfold krow
  split_ifs <;> omega

theorem logits_eq (c : Dev nD) (t : Fin cfg0.N) {S H r : ℕ} (hS : S < 8) (hH : H < 8) (hr : r < 128) :
    Row.logits (rb t) (iblk m c 0 t) (keys m c t) (iblk m c 7 t) S H r
      = logits (V m c main_arg0) (V m c main_v12) (gb t) (gd t) H ((rb t).val * 1024 + (128 * S + r)) := by
  have hi := (rb t).isLt
  have hR : ((rb t).val * 1024 + (128 * S + r)) / 128 = 8 * (rb t).val + S := by omega
  funext k
  have hk := k.isLt
  unfold Row.logits logits
  rw [hR]
  by_cases hv : Valid (rb t).val S k.val
  · rw [if_pos hv]
    have hw : 64 ≤ 128 * (8 * (rb t).val + S) + k.val ∧ 128 * (8 * (rb t).val + S) + k.val < 2112 :=
      (valid_iff _ _ _).mp hv
    rw [if_pos hw]
    refine congrArg₂ (· + ·) (congrArg (· * Tile.scale) (Finset.sum_congr rfl fun e _ => ?_)) ?_
    · have he := e.isLt
      rw [q_at, keys_eq]
      unfold span
      generalize V m c main_arg0 = z
      congr 3
      · simp [Fin.ext_iff, Fin.ofNat]; omega
      · simp [Fin.ext_iff, Fin.ofNat]; omega
      · have := krow_eq hi hS hk hw
        simp [Fin.ext_iff, Fin.ofNat, this]
      · simp [Fin.ext_iff, Fin.ofNat]; omega
    · rw [b_at]
      generalize V m c main_v12 = z
      congr 2
      simp [Fin.ext_iff, Fin.ofNat]; omega
  · rw [if_neg hv, if_neg (mt (valid_iff _ _ _).mpr hv)]

theorem out_at (c : Dev nD) (t : Fin cfg0.N) {S H r e : ℕ} (hS : S < 8) (hH : H < 8) (hr : r < 128) (he : e < 128) :
    Row.outAt (rb t) (iblk m c 0 t) (keys m c t) (vals m c t) (iblk m c 7 t) S H r e
      = out (V m c main_arg0) (V m c main_v12) (gb t) (gd t) H ((rb t).val * 1024 + (128 * S + r)) e := by
  have hi := (rb t).isLt
  unfold outAt out
  rw [logits_eq m c t hS hH hr]
  refine rowOut_eq (φ := id) Function.injective_id (fun _ => rfl) (fun i h => absurd rfl (h i)) fun k hk => ?_
  have hkl := k.isLt
  have hR : ((rb t).val * 1024 + (128 * S + r)) / 128 = 8 * (rb t).val + S := by omega
  rw [vals_eq, hR]
  have hv : 64 ≤ 128 * (8 * (rb t).val + S) + k.val ∧ 128 * (8 * (rb t).val + S) + k.val < 2112 := by
    by_contra hn
    exact hk (by unfold logits; rw [hR]; exact if_neg hn)
  unfold span
  simp only [id]
  generalize V m c main_arg0 = z
  congr 3
  · have := krow_eq hi hS hkl hv
    simp [Fin.ext_iff, Fin.ofNat, this]
  · simp [Fin.ext_iff, Fin.ofNat]; omega

/-- The log-sum-exp array: lane `h` below eight holds head `h`, the other lanes zero. -/
def lse (x : Vec Ideal S2x4x2048x3072 .bf16) (B : Vec Ideal S8x128x256 .f32) (b : Fin 2) (d : Fin 4)
    (R l : ℕ) : EReal :=
  if l < 8 then rowLse (logits x B b d l R) else 0

theorem o_eq (c : Dev nD) : (dats m 0 c).arrAt 8 cfg0.N = fun y : S2x4x2048x1024.Idx =>
    out (V m c main_arg0) (V m c main_v12) (y 0) (y 1) ((y 3).val / 128) (y 2).val ((y 3).val % 128) := by
  refine (dats m 0 c).arrAt_eq_of_covers 8 _ (by decide +kernel) fun t hf y => ?_
  have hi := (idx t).2.2.2.2.2.2.2.2.1
  have hr := (rb t).isLt
  have e0 : (win0_8.blk t).view.emb y 0 = gb t := by
    apply Fin.ext
    blk_simp
    rw [hi]
    rfl
  have e1 : (win0_8.blk t).view.emb y 1 = gd t := by
    apply Fin.ext
    blk_simp
    rw [hi]
    rfl
  blk_simp
  rw [after0_8]
  change (outsAt0 m c t).1 y = _
  have h2 : (y 2).val < 1024 := (y 2).isLt
  have h3 : (y 3).val < 1024 := (y 3).isLt
  rw [out_eq, e0, e1, hi]
  unfold outBlk
  rw [out_at m c t (by omega) (by omega) (by omega) (by omega), Nat.div_add_mod]
  simp
  rfl

theorem lse_eq (c : Dev nD) : (dats m 0 c).arrAt 9 cfg0.N = fun y : S2x4x2048x128.Idx =>
    lse (V m c main_arg0) (V m c main_v12) (y 0) (y 1) (y 2).val (y 3).val := by
  refine (dats m 0 c).arrAt_eq_of_covers 9 _ (by decide +kernel) fun t hf y => ?_
  have hi := (idx t).2.2.2.2.2.2.2.2.2
  have hr := (rb t).isLt
  have e0 : (win0_9.blk t).view.emb y 0 = gb t := by
    apply Fin.ext
    blk_simp
    rw [hi]
    rfl
  have e1 : (win0_9.blk t).view.emb y 1 = gd t := by
    apply Fin.ext
    blk_simp
    rw [hi]
    rfl
  blk_simp
  rw [after0_9]
  change (outsAt0 m c t).2 y = _
  have h2 : (y 2).val < 1024 := (y 2).isLt
  have h3 : (y 3).val < 128 := (y 3).isLt
  rw [Block.lse_eq, e0, e1, hi]
  unfold lseBlk lse
  by_cases hl : (y 3).val < 8
  · rw [if_pos hl, if_pos (by simpa using hl)]
    unfold lseAt
    rw [logits_eq m c t (by omega) hl (by omega), Nat.div_add_mod]
    simp
    rfl
  · rw [if_neg hl, if_neg (by simpa using hl)]

end Cert.AttnIdeal.Arrays

end
-- ==== Proof.RefIn.lean ====
/- The reference's queries, keys and values, entry by entry, as entries of the packed argument. -/
module

public import proofs.«01_k».proof.Proof.Gen.AttnRefIdeal.Read
public import proofs.«01_k».proof.Proof.Window
public import Idealize.ShloMosaic.Lib.Pointwise

@[expose] public section

set_option maxRecDepth 16384

noncomputable section

namespace Cert.AttnRefIdeal.RefAt

open Cert.AttnRefIdeal Cert.AttnRefIdeal.Read Idealize.ShloMosaic Cert.Window

variable (x : (⟨S2x4x2048x3072, .bf16⟩ : BufTy).Contents (Elt Ideal)) (w : (⟨S32x24, .f32⟩ : BufTy).Contents (Elt Ideal))

theorem q_at (b : Fin 2) (n : Fin 32) (qi : Fin 64) (d : Fin 4) (h : Fin 8) (e : Fin 128) :
    val_main_v10 (F := Ideal) x (ix6 b n qi d h e)
      = x (ix4 b d (Fin.ofNat 2048 (64 * n + qi)) (Fin.ofNat 3072 (128 * h + e))) := by
  pointwise [val_main_v10, val_main_v4, val_main_v3, val_main_v2, val_main_v1, val_main_v0]
  congr 2 <;> simp [Fin.ext_iff, Fin.ofNat] <;> omega

theorem k_at (b : Fin 2) (n : Fin 32) (kj : Fin 192) (d : Fin 4) (h : Fin 8) (e : Fin 128)
    (hv : 64 ≤ 64 * n.val + kj.val ∧ 64 * n.val + kj.val < 2112) :
    val_main_v16 (F := Ideal) x (ix6 b n kj d h e)
      = x (ix4 b d (Fin.ofNat 2048 (64 * n + kj - 64)) (Fin.ofNat 3072 (1024 + 128 * h + e))) := by
  pointwise [val_main_v16, val_main_v15, val_main_v14, val_main_v13, val_main_v12, val_main_v11, val_main_v6, val_main_v5, val_main_v2, val_main_v1, val_main_v0]
  split_ifs <;> first
    | omega
    | (congr 2 <;> simp [Fin.ext_iff, Fin.ofNat] <;> omega)

theorem v_at (b : Fin 2) (n : Fin 32) (kj : Fin 192) (d : Fin 4) (h : Fin 8) (e : Fin 128)
    (hv : 64 ≤ 64 * n.val + kj.val ∧ 64 * n.val + kj.val < 2112) :
    val_main_v22 (F := Ideal) x (ix6 b n kj d h e)
      = x (ix4 b d (Fin.ofNat 2048 (64 * n + kj - 64)) (Fin.ofNat 3072 (2048 + 128 * h + e))) := by
  pointwise [val_main_v22, val_main_v21, val_main_v20, val_main_v19, val_main_v18, val_main_v17, val_main_v8, val_main_v7, val_main_v2, val_main_v1, val_main_v0]
  split_ifs <;> first
    | omega
    | (congr 2 <;> simp [Fin.ext_iff, Fin.ofNat] <;> omega)

end Cert.AttnRefIdeal.RefAt

end
-- ==== Proof.RefRow.lean ====
/- The reference's rows of logits and its two results, entry by entry. -/
module

public import proofs.«01_k».proof.Proof.Gen.AttnRefIdeal.Read
public import proofs.«01_k».proof.Proof.Window
public import Idealize.ShloMosaic.Lib.Pointwise
public import proofs.«01_k».proof.Proof.Tile

@[expose] public section

set_option maxRecDepth 16384

noncomputable section

namespace Cert.AttnRefIdeal.RefAt

open Cert.AttnRefIdeal Cert.AttnRefIdeal.Read Idealize.ShloMosaic Cert.Window

variable (x : (⟨S2x4x2048x3072, .bf16⟩ : BufTy).Contents (Elt Ideal)) (w : (⟨S32x24, .f32⟩ : BufTy).Contents (Elt Ideal))

theorem fiber_at (j : S2x32x4x8x64.Idx) (i : S2x32x4x8x64x192.Idx) :
    Gen.reducesTo_S2x32x4x8x64x192_S2x32x4x8x64_d5.drop i = j
      ↔ ∃ k : Fin 192, (ix6 (j 0) (j 1) (j 2) (j 3) (j 4) k : S2x32x4x8x64x192.Idx) = i := by
  constructor
  · rintro rfl
    refine ⟨i 5, ?_⟩
    funext a; apply Fin.ext
    match a with
    | ⟨0, _⟩ => rfl
    | ⟨1, _⟩ => rfl
    | ⟨2, _⟩ => rfl
    | ⟨3, _⟩ => rfl
    | ⟨4, _⟩ => rfl
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

theorem max_at (b : Fin 2) (n : Fin 32) (d : Fin 4) (h : Fin 8) (qi : Fin 64) :
    val_main_v113 (F := Ideal) x w (ix5 b n d h qi)
      = rowMax fun k : Fin 192 => val_main_v112 (F := Ideal) x w (ix6 b n d h qi k) := by
  unfold val_main_v113
  generalize val_main_v112 (F := Ideal) x w = y
  rw [Host.reduce_eq_fold, Finset.fold_filter_eq_fold_of_fiber _ _ (fun k : Fin 192 => (ix6 b n d h qi k : S2x32x4x8x64x192.Idx)) (fun _ _ e => congrFun e 5) (fiber_at (ix5 b n d h qi)),
    val_main_cst_22_apply]
  exact (congrArg (fun z => Finset.fold max z (fun k => y (ix6 b n d h qi k)) Finset.univ) Cert.AttnIdeal.Tile.ofBits_bot).trans (fold_max_eq _)

theorem exp_at (b : Fin 2) (n : Fin 32) (d : Fin 4) (h : Fin 8) (qi : Fin 64) (kj : Fin 192) :
    val_main_v117 (F := Ideal) x w (ix6 b n d h qi kj)
      = Ideal.exp (val_main_v112 (F := Ideal) x w (ix6 b n d h qi kj) - val_main_v113 (F := Ideal) x w (ix5 b n d h qi)) := by
  rw [val_main_v117_apply, val_main_v116_apply, val_main_v115_apply, val_main_v114_apply,
    show idx_main_v114 (idx_main_v115 (ix6 b n d h qi kj)) = ix5 b n d h qi from (by funext a; fin_cases a <;> rfl)]
  rfl

theorem sum_at (b : Fin 2) (n : Fin 32) (d : Fin 4) (h : Fin 8) (qi : Fin 64) :
    val_main_v118 (F := Ideal) x w (ix5 b n d h qi)
      = rowSum fun k : Fin 192 => val_main_v112 (F := Ideal) x w (ix6 b n d h qi k) := by
  rw [val_main_v118_apply, val_main_cst_23_apply]
  refine (congrArg₂ (· + ·) (Ideal.ofBits_zero .f32) (Finset.sum_congr rfl fun k _ => ?_)).trans (zero_add _)
  rw [show idx_main_v118 (ix5 b n d h qi) k = ix6 b n d h qi k from (by funext a; fin_cases a <;> rfl), exp_at, max_at]

theorem prob_at (b : Fin 2) (n : Fin 32) (d : Fin 4) (h : Fin 8) (qi : Fin 64) (kj : Fin 192) :
    val_main_v125 (F := Ideal) x w (ix6 b n d h qi kj)
      = val_main_v117 (F := Ideal) x w (ix6 b n d h qi kj) * Ideal.div 1 (val_main_v118 (F := Ideal) x w (ix5 b n d h qi)) := by
  rw [val_main_v125_apply, val_main_v124_apply, val_main_v123_apply, val_main_v122_apply, val_main_v121_apply, val_main_cst_24_apply,
    show idx_main_v121 (idx_main_v124 (ix6 b n d h qi kj)) = ix5 b n d h qi from (by funext a; fin_cases a <;> rfl)]
  exact congrArg (fun z => _ * Ideal.div z _) Ideal.ofBits_one_f32

theorem mix_at (b : Fin 2) (n : Fin 32) (d : Fin 4) (h : Fin 8) (e : Fin 128) (qi : Fin 64) :
    val_main_v126 (F := Ideal) x w (ix6 b n d h e qi)
      = rowOut (fun k : Fin 192 => val_main_v112 (F := Ideal) x w (ix6 b n d h qi k)) fun k => val_main_v22 (F := Ideal) x (ix6 b n k d h e) := by
  rw [val_main_v126_apply, rowOut]
  refine Finset.sum_congr rfl fun k _ => ?_
  rw [show lidx_main_v126 (ix6 b n d h e qi) k = ix6 b n k d h e from (by funext a; fin_cases a <;> rfl),
    show ridx_main_v126 (ix6 b n d h e qi) k = ix6 b n d h qi k from (by funext a; fin_cases a <;> rfl), prob_at, exp_at, sum_at, max_at, mul_comm]

theorem root : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee]
    rw [← EReal.coe_mul]
    norm_num
  rw [h, Ideal.sqrt_coe, if_neg (by norm_num)]

theorem logit_read (b : Fin 2) (n : Fin 32) (d : Fin 4) (h : Fin 8) (qi : Fin 64) (kj : Fin 192) :
    val_main_v112 (F := Ideal) x w (ix6 b n d h qi kj)
      = Scalar.select (val_main_v54 (F := Ideal) (ix3 n qi kj))
          ((∑ e : Fin 128, val_main_v10 (F := Ideal) x (ix6 b n qi d h e) * val_main_v16 (F := Ideal) x (ix6 b n kj d h e)) * Cert.AttnIdeal.Tile.scale
            + val_main_v103 (F := Ideal) w (ix3 h qi kj))
          ⊥ := by
  rw [val_main_v112_apply, val_main_call3_v1_apply, val_main_call3_v2_apply, val_main_call3_v0_apply, val_main_v111_apply, val_main_v110_apply, val_main_v109_apply, val_main_v108_apply, val_main_v107_apply, val_main_v106_apply, val_main_v105_apply, val_main_v104_apply, val_main_cst_21_apply, val_main_cst_apply,
    show idx_main_v108 (idx_main_call3_v1 (ix6 b n d h qi kj)) = ix3 n qi kj from (by funext a; fin_cases a <;> rfl),
    show idx_main_v109 (idx_main_v110 (ix6 b n d h qi kj)) = ix3 h qi kj from (by funext a; fin_cases a <;> rfl)]
  refine congrArg₂ (Scalar.select _) (congrArg (· + _) ?_) Cert.AttnIdeal.Tile.ofBits_bot
  refine (congrArg₂ Ideal.div (Finset.sum_congr rfl fun e _ => ?_) root).trans ((Ideal.div_coe (by positivity) _).trans (by rw [one_div]; rfl))
  rw [show lidx_main_v104 (ix6 b n d h qi kj) e = ix6 b n qi d h e from (by funext a; fin_cases a <;> rfl),
    show ridx_main_v104 (ix6 b n d h qi kj) e = ix6 b n kj d h e from (by funext a; fin_cases a <;> rfl)]
end Cert.AttnRefIdeal.RefAt

end
-- ==== Proof.RefOut.lean ====
/- The reference's two results, entry by entry. -/
module

public import proofs.«01_k».proof.Proof.Gen.AttnRefIdeal.Read
public import proofs.«01_k».proof.Proof.Window
public import Idealize.ShloMosaic.Lib.Pointwise
public import proofs.«01_k».proof.Proof.RefRow

@[expose] public section

set_option maxRecDepth 16384

noncomputable section

namespace Cert.AttnRefIdeal.RefAt

open Cert.AttnRefIdeal Cert.AttnRefIdeal.Read Idealize.ShloMosaic Cert.Window

variable (x : (⟨S2x4x2048x3072, .bf16⟩ : BufTy).Contents (Elt Ideal)) (w : (⟨S32x24, .f32⟩ : BufTy).Contents (Elt Ideal))

theorem out_at (b : Fin 2) (d : Fin 4) (R : Fin 2048) (l : Fin 1024) :
    val_main_v131 (F := Ideal) x w (ix4 b d R l)
      = rowOut (fun k : Fin 192 => val_main_v112 (F := Ideal) x w (ix6 b (Fin.ofNat 32 (R / 64)) d (Fin.ofNat 8 (l / 128)) (Fin.ofNat 64 R) k))
          fun k => val_main_v22 (F := Ideal) x (ix6 b (Fin.ofNat 32 (R / 64)) k d (Fin.ofNat 8 (l / 128)) (Fin.ofNat 128 l)) := by
  rw [← mix_at, val_main_v131_apply, show idx_main_v131 (ix4 b d R l) = ix4 b R d l from (by funext a; fin_cases a <;> rfl)]
  unfold val_main_v128
  refine Eq.trans (b := val_main_v127 (F := Ideal) x w (ix6 b (Fin.ofNat 32 (R / 64)) (Fin.ofNat 64 R) d (Fin.ofNat 8 (l / 128)) (Fin.ofNat 128 l))) ?_ ?_
  · generalize val_main_v127 (F := Ideal) x w = y
    pointwise
    refine congrArg y ?_
    congr 1 <;> simp [Fin.ext_iff, Fin.ofNat] <;> omega
  · rw [val_main_v127_apply]
    exact congrArg _ (by funext a; fin_cases a <;> rfl)

theorem lse_at (b : Fin 2) (d : Fin 4) (R : Fin 2048) (l : Fin 128) :
    val_main_v133 (F := Ideal) x w (ix4 b d R l)
      = if l.val < 8 then rowLse (fun k : Fin 192 => val_main_v112 (F := Ideal) x w (ix6 b (Fin.ofNat 32 (R / 64)) d (Fin.ofNat 8 l) (Fin.ofNat 64 R) k)) else 0 := by
  unfold val_main_v133
  have h0 : ∀ i, val_main_call4_v0 (F := Ideal) i = 0 := by
    intro i
    rw [val_main_call4_v0_apply, val_main_c_25_apply]
    show (((0#32 : BitVec 32).toInt : ℝ) : EReal) = 0
    norm_num
  generalize val_main_call4_v0 (F := Ideal) = u at h0
  have h1 : ∀ (hl : l.val < 8), val_main_v132 (F := Ideal) x w (ix4 b d R ⟨l.val, hl⟩)
      = rowLse (fun k : Fin 192 => val_main_v112 (F := Ideal) x w (ix6 b (Fin.ofNat 32 (R / 64)) d (Fin.ofNat 8 l) (Fin.ofNat 64 R) k)) := by
    intro hl
    rw [val_main_v132_apply, show idx_main_v132 (ix4 b d R ⟨l.val, hl⟩) = ix4 b R d ⟨l.val, hl⟩ from (by funext a; fin_cases a <;> rfl), rowLse, ← sum_at, ← max_at]
    unfold val_main_v130
    refine Eq.trans (b := val_main_v129 (F := Ideal) x w (ix5 b (Fin.ofNat 32 (R / 64)) (Fin.ofNat 64 R) d (Fin.ofNat 8 l))) ?_ ?_
    · generalize val_main_v129 (F := Ideal) x w = y
      pointwise
      refine congrArg y ?_
      congr 1 <;> simp [Fin.ext_iff, Fin.ofNat] <;> omega
    · rw [val_main_v129_apply, show idx_main_v129 (ix5 b (Fin.ofNat 32 (R / 64)) (Fin.ofNat 64 R) d (Fin.ofNat 8 l)) = ix5 b (Fin.ofNat 32 (R / 64)) d (Fin.ofNat 8 l) (Fin.ofNat 64 R) from (by funext a; fin_cases a <;> rfl), val_main_v120_apply, val_main_v119_apply]
      rfl
  generalize val_main_v132 (F := Ideal) x w = y at h1
  pointwise
  split_ifs with hl
  · exact h1 hl
  · exact h0 _

end Cert.AttnRefIdeal.RefAt

end
-- ==== Proof.RefTable.lean ====
/- The reference's bias lookup and its validity mask, entry by entry. -/
module

public import proofs.«01_k».proof.Proof.Gen.AttnRefIdeal.Read
public import proofs.«01_k».proof.Proof.Window
public import Idealize.ShloMosaic.Lib.Pointwise

@[expose] public section

set_option maxRecDepth 16384

noncomputable section

namespace Cert.AttnRefIdeal.RefAt

open Cert.AttnRefIdeal Cert.AttnRefIdeal.Read Idealize.ShloMosaic Cert.Window

variable (x : (⟨S2x4x2048x3072, .bf16⟩ : BufTy).Contents (Elt Ideal)) (w : (⟨S32x24, .f32⟩ : BufTy).Contents (Elt Ideal))

theorem gather_at (y : (⟨S32x8, .f32⟩ : BufTy).Contents (Elt Ideal)) (i : IVec S64x192x1 32) (h : Fin 8) (qi : Fin 64) (kj : Fin 192) :
    Host.gather gather_S32x8_S64x192x1_S64x192x8_2_0_n_n_0_2_18 y i (ix3 qi kj h)
      = y (ix2 (Fin.ofNat 32 (min (i (ix3 qi kj 0)).toInt.toNat 31)) h) := by
  refine congrArg y (funext fun a => Fin.ext ?_)
  fin_cases a
  · have hs : gather_S32x8_S64x192x1_S64x192x8_2_0_n_n_0_2_18.siIdx (ix3 qi kj h) ⟨0, by decide⟩ = ix3 qi kj 0 := by
      funext b; fin_cases b <;> rfl
    show min (i (gather_S32x8_S64x192x1_S64x192x8_2_0_n_n_0_2_18.siIdx (ix3 qi kj h) ⟨0, _⟩)).toInt.toNat 31 + 0 + 0
      = min (i (ix3 qi kj 0)).toInt.toNat 31 % 32
    rw [hs]
    omega
  · show 0 + 0 + h.val = h.val
    omega

/-- The bucket of a distance of `r` places in the sequence cut into four. -/
def bucket (r : BitVec 32) : BitVec 32 :=
  let a := IntOp.muli r 4#32
  let n := IntOp.absi a
  let up th := BitVec.setWidth 32 (IntOp.cmpi CmpIPredicate.sge n th)
  let big := IntOp.addi (IntOp.addi (IntOp.addi (IntOp.addi (IntOp.addi (IntOp.addi (IntOp.addi 8#32 (up 15#32)) (up 27#32)) (up 50#32)) (up 91#32)) (up 166#32)) (up 305#32)) (up 559#32)
  let z := IntOp.addi (IntOp.muli (BitVec.setWidth 32 (IntOp.cmpi CmpIPredicate.sgt a 0#32)) 16#32)
    (Scalar.select (IntOp.cmpi CmpIPredicate.slt n 8#32) n big)
  Scalar.select (IntOp.cmpi CmpIPredicate.slt z 0#32) (IntOp.addi z 32#32) z

/-- The distance of window place `kj` from query `qi` of a block. -/
def rel (qi : Fin 64) (kj : Fin 192) : BitVec 32 :=
  IntOp.subi (IntOp.subi (BitVec.ofNat 32 kj) 64#32) (BitVec.ofNat 32 qi)

/-- The sequence position of window place `kj` of block `n`. -/
def pos (n : Fin 32) (kj : Fin 192) : BitVec 32 :=
  IntOp.subi (IntOp.addi (IntOp.muli (BitVec.ofNat 32 n) 64#32) (BitVec.ofNat 32 kj)) 64#32

theorem rel_at (qi : Fin 64) (kj : Fin 192) : val_main_v31 (F := Ideal) (ix2 qi kj) = rel qi kj := by
  pointwise [val_main_v31, val_main_v30, val_main_v29, val_main_v28, val_main_v27, val_main_v26, val_main_v25, val_main_v24, val_main_v23, val_main_c_1, val_main_c_2]
  rfl

theorem bucket_at (qi : Fin 64) (kj : Fin 192) : val_main_v100 (F := Ideal) (ix2 qi kj) = bucket (rel qi kj) := by
  simp only [val_main_v100_apply, val_main_v99_apply, val_main_v98_apply, val_main_v97_apply, val_main_v96_apply, val_main_v95_apply, val_main_v94_apply, val_main_v93_apply, val_main_v92_apply, val_main_v91_apply, val_main_v90_apply, val_main_v89_apply, val_main_v88_apply, val_main_v87_apply, val_main_v86_apply, val_main_v85_apply, val_main_v84_apply, val_main_v83_apply, val_main_v82_apply, val_main_v81_apply, val_main_v80_apply, val_main_v79_apply, val_main_v78_apply, val_main_v77_apply, val_main_v76_apply, val_main_v75_apply, val_main_v74_apply, val_main_v73_apply, val_main_v72_apply, val_main_v71_apply, val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v57_apply, val_main_v56_apply, val_main_v55_apply, val_main_c_1_apply, val_main_c_2_apply, val_main_c_3_apply, val_main_c_4_apply, val_main_c_5_apply, val_main_c_6_apply, val_main_c_7_apply, val_main_c_8_apply, val_main_c_9_apply, val_main_c_10_apply, val_main_c_11_apply, val_main_c_12_apply, val_main_c_13_apply, val_main_c_14_apply, val_main_c_15_apply, val_main_c_16_apply, val_main_c_17_apply, val_main_c_18_apply, val_main_c_19_apply, val_main_c_20_apply]
  rw [rel_at]
  rfl

theorem bias_at (h : Fin 8) (qi : Fin 64) (kj : Fin 192) :
    val_main_v103 (F := Ideal) w (ix3 h qi kj)
      = w (ix2 (Fin.ofNat 32 (min (bucket (rel qi kj)).toInt.toNat 31)) (Fin.ofNat 24 (8 + h))) := by
  rw [val_main_v103_apply, show idx_main_v103 (ix3 h qi kj) = ix3 qi kj h from (by funext a; fin_cases a <;> rfl), val_main_v102, gather_at,
    val_main_v101_apply, show idx_main_v101 (ix3 qi kj 0) = ix2 qi kj from (by funext a; fin_cases a <;> rfl), bucket_at]
  generalize Fin.ofNat 32 (min (bucket (rel qi kj)).toInt.toNat 31) = t
  pointwise [val_main_v9]
  congr 2
  simp [Fin.ext_iff, Fin.ofNat]
  omega

theorem place_at (kj : Fin 192) : val_main_v26 (F := Ideal) (ix2 0 kj) = BitVec.ofNat 32 kj := by
  pointwise [val_main_v26, val_main_v25, val_main_v24, val_main_v23]

theorem valid_read (n : Fin 32) (qi : Fin 64) (kj : Fin 192) :
    val_main_v54 (F := Ideal) (ix3 n qi kj)
      = IntOp.andi (IntOp.andi (IntOp.cmpi CmpIPredicate.sle (IntOp.absi (rel qi kj)) 64#32)
          (IntOp.cmpi CmpIPredicate.sge (pos n kj) 0#32)) (IntOp.cmpi CmpIPredicate.slt (pos n kj) 2048#32) := by
  obtain ⟨z, hz⟩ : ∃ z, z = IntOp.andi (IntOp.andi (IntOp.cmpi CmpIPredicate.sle (IntOp.absi (rel qi kj)) 64#32)
      (IntOp.cmpi CmpIPredicate.sge (pos n kj) 0#32)) (IntOp.cmpi CmpIPredicate.slt (pos n kj) 2048#32) := ⟨_, rfl⟩
  rw [← hz]
  pointwise [val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_c_1, val_main_c_2, val_main_c_3, val_main_c_4, val_main_c_5, val_main_c_6]
  rw [hz, rel_at, place_at]
  rfl

theorem near_iff : ∀ (qi : Fin 64) (kj : Fin 192),
    IntOp.cmpi CmpIPredicate.sle (IntOp.absi (rel qi kj)) 64#32 = if qi.val ≤ kj.val ∧ kj.val ≤ qi.val + 128 then 1#1 else 0#1 := by
  decide +kernel

theorem pos_iff : ∀ (n : Fin 32) (kj : Fin 192),
    IntOp.andi (IntOp.cmpi CmpIPredicate.sge (pos n kj) 0#32) (IntOp.cmpi CmpIPredicate.slt (pos n kj) 2048#32)
      = if 64 ≤ 64 * n.val + kj.val ∧ 64 * n.val + kj.val < 2112 then 1#1 else 0#1 := by
  decide +kernel

theorem valid_at (n : Fin 32) (qi : Fin 64) (kj : Fin 192) :
    val_main_v54 (F := Ideal) (ix3 n qi kj)
      = if (qi.val ≤ kj.val ∧ kj.val ≤ qi.val + 128) ∧ (64 ≤ 64 * n.val + kj.val ∧ 64 * n.val + kj.val < 2112) then 1#1 else 0#1 := by
  have ha : ∀ a b c : BitVec 1, IntOp.andi (IntOp.andi a b) c = IntOp.andi a (IntOp.andi b c) := by decide
  rw [valid_read, ha, pos_iff, near_iff]
  split_ifs <;> first | rfl | (exfalso; tauto)

end Cert.AttnRefIdeal.RefAt

end
-- ==== Proof.Equal.lean ====
/- The kernel's rows against the reference's: the same logits on the block's window of 192 keys, −∞ on the rest of the
   tile's 256. -/
module

public import proofs.«01_k».proof.Proof.Arrays
public import proofs.«01_k».proof.Proof.RefIn
public import proofs.«01_k».proof.Proof.RefOut
public import proofs.«01_k».proof.Proof.RefTable

@[expose] public section

set_option maxRecDepth 16384
set_option backward.proofsInPublic true

noncomputable section

namespace Cert.Equal

open Cert.AttnIdeal.Arrays (logits out lse)
open Cert.AttnRefIdeal.RefAt Cert.AttnRefIdeal Cert.AttnRefIdeal.Read Idealize.ShloMosaic Cert.Window

variable (x : (⟨S2x4x2048x3072, .bf16⟩ : BufTy).Contents (Elt Ideal)) (w : (⟨S32x24, .f32⟩ : BufTy).Contents (Elt Ideal))

/-- The relative bias of a query and a window place. -/
def relBias (h : Fin 8) (qi : Fin 64) (kj : Fin 192) : EReal :=
  w (ix2 (Fin.ofNat 32 (min (bucket (rel qi kj)).toInt.toNat 31)) (Fin.ofNat 24 (8 + h)))

/-- A logit of the reference. -/
def refLogit (b : Fin 2) (n : Fin 32) (d : Fin 4) (h : Fin 8) (qi : Fin 64) (kj : Fin 192) : EReal :=
  if (qi.val ≤ kj.val ∧ kj.val ≤ qi.val + 128) ∧ (64 ≤ 64 * n.val + kj.val ∧ 64 * n.val + kj.val < 2112) then
    (∑ e : Fin 128, x (ix4 b d (Fin.ofNat 2048 (64 * n + qi)) (Fin.ofNat 3072 (128 * h + e)))
        * x (ix4 b d (Fin.ofNat 2048 (64 * n + kj - 64)) (Fin.ofNat 3072 (1024 + 128 * h + e)))) * Cert.AttnIdeal.Tile.scale
      + relBias w h qi kj
  else ⊥

theorem ref_logit (b : Fin 2) (n : Fin 32) (d : Fin 4) (h : Fin 8) (qi : Fin 64) (kj : Fin 192) :
    val_main_v112 (F := Ideal) x w (ix6 b n d h qi kj) = refLogit x w b n d h qi kj := by
  rw [logit_read, valid_at, refLogit]
  split_ifs with hv
  · refine congrArg₂ (fun s t => s * Cert.AttnIdeal.Tile.scale + t) (Finset.sum_congr rfl fun e _ => ?_) (bias_at w h qi kj)
    rw [q_at, k_at x b n kj d h e hv.2]
  · rfl

/-- The place of a block's window in the window of its tile. -/
def place (n : Fin 32) (kj : Fin 192) : Fin 256 := ⟨kj.val + 64 * (n.val % 2), by omega⟩

theorem place_inj (n : Fin 32) : Function.Injective (place n) := fun a b e => by
  have := congrArg Fin.val e
  simp only [place] at this
  exact Fin.ext (by omega)

variable (B : Vec Ideal Cert.AttnIdeal.S8x128x256 .f32)
  (hon : ∀ (H : Fin 8) (g : Fin 2) (qi : Fin 64) (kj : Fin 192), qi.val ≤ kj.val ∧ kj.val ≤ qi.val + 128 →
    B (ix3 H ⟨qi + 64 * g, by omega⟩ ⟨kj + 64 * g, by omega⟩) = relBias w H qi kj)
  (hoff : ∀ (H : Fin 8) (q : Fin 128) (k : Fin 256), ¬(q.val ≤ k.val ∧ k.val ≤ q.val + 128) → B (ix3 H q k) = (⊥ : EReal))

include hon hoff in
theorem logits_on (b : Fin 2) (d : Fin 4) (h : Fin 8) (n : Fin 32) (qi : Fin 64) (R : ℕ) (hR : R = 64 * n + qi) (kj : Fin 192) :
    logits x B b d h R (place n kj) = refLogit x w b n d h qi kj := by
  subst hR
  have hp : 128 * ((64 * n.val + qi.val) / 128) + (place n kj).val = 64 * n.val + kj.val := by simp only [place]; omega
  have hq : (Fin.ofNat 128 (64 * n.val + qi.val)) = ⟨qi.val + 64 * ((⟨n.val % 2, by omega⟩ : Fin 2)).val, by dsimp only; omega⟩ := by
    simp [Fin.ext_iff, Fin.ofNat]; omega
  have hh : Fin.ofNat 8 h.val = h := by simp
  rw [logits, refLogit, hp, hq, hh]
  by_cases hn : qi.val ≤ kj.val ∧ kj.val ≤ qi.val + 128
  · have hb := hon h ⟨n.val % 2, by omega⟩ qi kj hn
    by_cases hr : 64 ≤ 64 * n.val + kj.val ∧ 64 * n.val + kj.val < 2112
    · rw [if_pos hr, if_pos ⟨hn, hr⟩]
      exact congrArg (_ + ·) hb
    · rw [if_neg hr, if_neg (fun h => hr h.2)]
  · refine Eq.trans ?_ (if_neg (fun h => hn h.1)).symm
    have hb := hoff h ⟨qi.val + 64 * ((⟨n.val % 2, by omega⟩ : Fin 2)).val, by dsimp only; omega⟩ (place n kj) (by simp only [place]; omega)
    split_ifs
    · exact (congrArg (_ + ·) hb).trans (EReal.add_bot _)
    · rfl

include hoff in
theorem logits_off (b : Fin 2) (d : Fin 4) (h : Fin 8) (n : Fin 32) (qi : Fin 64) (R : ℕ) (hR : R = 64 * n + qi) (k : Fin 256)
    (hk : ∀ kj, place n kj ≠ k) : logits x B b d h R k = ⊥ := by
  subst hR
  have hh : Fin.ofNat 8 h.val = h := by simp
  have hb := hoff h (Fin.ofNat 128 (64 * n.val + qi.val)) k (by
    intro hc
    have hv : (Fin.ofNat 128 (64 * n.val + qi.val)).val = qi.val + 64 * (n.val % 2) := by simp [Fin.ofNat]; omega
    rw [hv] at hc
    exact hk ⟨k.val - 64 * (n.val % 2), by omega⟩ (Fin.ext (by simp only [place]; omega)))
  rw [logits, hh]
  split_ifs
  · exact (congrArg (_ + ·) hb).trans (EReal.add_bot _)
  · rfl

include hon hoff in
theorem lse_same (b : Fin 2) (d : Fin 4) (R : Fin 2048) (l : Fin 128) :
    lse x B b d R l = val_main_v133 (F := Ideal) x w (ix4 b d R l) := by
  rw [lse_at, lse]
  split_ifs with hl
  · have hR : R.val = 64 * (Fin.ofNat 32 (R.val / 64)).val + (Fin.ofNat 64 R.val).val := by simp [Fin.ofNat]; omega
    have hlv : (Fin.ofNat 8 l.val).val = l.val := by simp [Fin.ofNat]; omega
    have hon' := logits_on x w B hon hoff b d (Fin.ofNat 8 l.val) _ _ R hR
    have hoff' := logits_off x B hoff b d (Fin.ofNat 8 l.val) _ _ R hR
    rw [hlv] at hon' hoff'
    simp only [ref_logit]
    exact rowLse_eq (place_inj _) hon' hoff'
  · rfl

include hon hoff in
theorem out_same (b : Fin 2) (d : Fin 4) (R : Fin 2048) (l : Fin 1024) :
    out x B b d (l.val / 128) R (l.val % 128) = val_main_v131 (F := Ideal) x w (ix4 b d R l) := by
  rw [out_at, out]
  have hR : R.val = 64 * (Fin.ofNat 32 (R.val / 64)).val + (Fin.ofNat 64 R.val).val := by simp [Fin.ofNat]; omega
  have hlv : (Fin.ofNat 8 (l.val / 128)).val = l.val / 128 := by simp [Fin.ofNat]; omega
  have hon' := logits_on x w B hon hoff b d (Fin.ofNat 8 (l.val / 128)) _ _ R hR
  have hoff' := logits_off x B hoff b d (Fin.ofNat 8 (l.val / 128)) _ _ R hR
  rw [hlv] at hon' hoff'
  simp only [ref_logit]
  refine rowOut_eq (place_inj _) hon' hoff' fun kj hkj => ?_
  rw [refLogit] at hkj
  split_ifs at hkj with hv
  · rw [v_at x b _ kj d _ _ hv.2]
    have hp : 128 * (R.val / 128) + (place (Fin.ofNat 32 (R.val / 64)) kj).val = 64 * (Fin.ofNat 32 (R.val / 64)).val + kj.val := by
      simp only [place]; omega
    rw [hp, hlv]
    rfl
  · exact absurd rfl hkj

end Cert.Equal

end
-- ==== Proof.Flat.lean ====
/- Where an entry of the kernel's tables of 128 queries by 256 keys lies. -/
module

public import Idealize.ShloMosaic.Lib.Pointwise

@[expose] public section

set_option maxRecDepth 16384

noncomputable section

namespace Cert.AttnIdeal.Bias

/-- The flat position of an entry of the table. -/
def flat (q : Fin 128) (k : Fin 256) : Fin 32768 := ⟨q.val * 256 + k.val, by omega⟩

end Cert.AttnIdeal.Bias

end
-- ==== Proof.Band.lean ====
/- The kernel's table of the band, read entry by entry: a row at a time. -/
module

public import proofs.«01_k».proof.Proof.Gen.AttnIdeal.Frame
public import Idealize.ShloMosaic.Lib.Pointwise
public import proofs.«01_k».proof.Proof.Flat

@[expose] public section

set_option maxRecDepth 16384

noncomputable section

namespace Cert.AttnIdeal.Bias

open Cert.AttnIdeal Cert.AttnIdeal.Gen Idealize.ShloMosaic Idealize.ShloMosaic.TcCoe Idealize.SL.Sem

set_option maxHeartbeats 0 in
/-- The second table marks the band: the keys from the query's own place to 128 after it. -/
theorem band_table (q : Fin 128) : ∀ k : Fin 256,
    lit1 (flat q k) = if q.val ≤ k.val ∧ k.val ≤ q.val + 128 then 1#1 else 0#1 := by
  fin_cases q <;> decide +kernel

end Cert.AttnIdeal.Bias

end
-- ==== Proof.Table.lean ====
/- The two constant tables of the kernel's host part against the reference's bucket. -/
module

public import proofs.«01_k».proof.Proof.Gen.AttnIdeal.Frame
public import Idealize.ShloMosaic.Lib.Pointwise
public import proofs.«01_k».proof.Proof.Flat
public import proofs.«01_k».proof.Proof.RefTable
public import Idealize.ShloMosaic.Lib.Pipeline.ValueKit

@[expose] public section

set_option maxRecDepth 16384

noncomputable section

namespace Cert.AttnIdeal.Bias

open Cert.AttnIdeal Cert.AttnIdeal.Gen Idealize.ShloMosaic Idealize.ShloMosaic.TcCoe Idealize.SL.Sem

set_option maxHeartbeats 0 in
open Cert.AttnRefIdeal.RefAt in
/-- Where the band is, the kernel's table holds the reference's bucket of the distance, cut to the 32 there are. -/
theorem bucket_table (qi : Fin 64) : ∀ (g : Fin 2) (kj : Fin 192), qi.val ≤ kj.val ∧ kj.val ≤ qi.val + 128 →
    lit0 (flat ⟨qi + 64 * g, by omega⟩ ⟨kj + 64 * g, by omega⟩) = BitVec.ofNat 32 (min (bucket (rel qi kj)).toInt.toNat 31) := by
  fin_cases qi <;> decide +kernel

end Cert.AttnIdeal.Bias

end
-- ==== Proof.Bias.lean ====
/- The bias table the kernel's host part builds, entry by entry. -/
module

public import proofs.«01_k».proof.Proof.Gen.AttnIdeal.Frame
public import Idealize.ShloMosaic.Lib.Pointwise
public import proofs.«01_k».proof.Proof.Tile
public import proofs.«01_k».proof.Proof.Band
public import proofs.«01_k».proof.Proof.Table
public import Idealize.ShloMosaic.Lib.Pipeline.ValueKit

@[expose] public section

set_option maxRecDepth 16384

noncomputable section

namespace Cert.AttnIdeal.Bias

open Cert.AttnIdeal Cert.AttnIdeal.Gen Idealize.ShloMosaic Idealize.ShloMosaic.TcCoe Idealize.SL.Sem

variable (m : (ℓ : Loc nD τ sig) → Buf (Elt Ideal) ℓ)

theorem bias_read (c : Dev nD) (H : Fin 8) (q : Fin 128) (k : Fin 256) :
    V m c main_v12 (ix3 H q k)
      = Scalar.select (lit1 (S128x256.rowMajor (ix2 q k)))
          (∑ x : Fin 32, Scalar.select (IntOp.cmpi .eq (lit0 (S128x256.rowMajor (ix2 q k))) (BitVec.ofNat 32 x))
            (show EReal from m ((c : Thread nD τ).loc main_arg1) (ix2 x (Fin.ofNat 24 (8 + H)))) (0 : EReal))
          (⊥ : EReal) := by
  have hH : (⟨8 + H.val, by omega⟩ : Fin 24) = Fin.ofNat 24 (8 + H) := by simp [Fin.ext_iff, Fin.ofNat]; omega
  rw [← hH, ← Cert.AttnIdeal.Tile.ofBits_bot]
  unfold V
  simp only [hostOps0, hostOps0_1, hostOps0_2, hostOps0_3, List.flatten_cons, List.flatten_nil, List.append_nil, List.cons_append, List.nil_append]
  after_results
  simp only [StableHlo.TRef.toBuf, StableHlo.TRef.ofBuf, StableHlo.TRef.of, cast_eq, id]
  pointwise

theorem rowMajor_flat (q : Fin 128) (k : Fin 256) : S128x256.rowMajor (ix2 q k) = flat q k :=
  Fin.ext (Shape.rowMajor_val_two _)

theorem word_eq : ∀ n x : Fin 32, IntOp.cmpi .eq (BitVec.ofNat 32 n) (BitVec.ofNat 32 x) = if n = x then 1#1 else 0#1 := by
  decide +kernel

/-- The product with a one-hot row is the entry it picks. -/
theorem pick (f : Fin 32 → EReal) (n : ℕ) (hn : n < 32) :
    ∑ x : Fin 32, Scalar.select (IntOp.cmpi .eq (BitVec.ofNat 32 n) (BitVec.ofNat 32 x)) (f x) (0 : EReal) = f (Fin.ofNat 32 n) := by
  have hf : (⟨n, hn⟩ : Fin 32) = Fin.ofNat 32 n := Fin.ext (Nat.mod_eq_of_lt hn).symm
  rw [← hf, Finset.sum_eq_single ⟨n, hn⟩]
  · have := word_eq ⟨n, hn⟩ ⟨n, hn⟩
    rw [this, if_pos rfl]
    rfl
  · intro x _ hx
    have := word_eq ⟨n, hn⟩ x
    rw [this, if_neg (Ne.symm hx)]
    rfl
  · intro h
    exact absurd (Finset.mem_univ _) h

/-- Outside the band an entry is −∞. -/
theorem bias_off (c : Dev nD) (H : Fin 8) (q : Fin 128) (k : Fin 256) (h : ¬(q.val ≤ k.val ∧ k.val ≤ q.val + 128)) :
    V m c main_v12 (ix3 H q k) = (⊥ : EReal) := by
  rw [bias_read, rowMajor_flat, band_table, if_neg h]
  rfl

open Cert.AttnRefIdeal.RefAt in
/-- Inside the band an entry is the relative bias of the distance's bucket. -/
theorem bias_on (c : Dev nD) (H : Fin 8) (g : Fin 2) (qi : Fin 64) (kj : Fin 192) (h : qi.val ≤ kj.val ∧ kj.val ≤ qi.val + 128) :
    V m c main_v12 (ix3 H ⟨qi + 64 * g, by omega⟩ ⟨kj + 64 * g, by omega⟩)
      = m ((c : Thread nD τ).loc main_arg1) (ix2 (Fin.ofNat 32 (min (bucket (rel qi kj)).toInt.toNat 31)) (Fin.ofNat 24 (8 + H))) := by
  rw [bias_read, rowMajor_flat, band_table, if_pos (by simp only; omega), bucket_table qi g kj h]
  exact pick (fun x => m ((c : Thread nD τ).loc main_arg1) (ix2 x (Fin.ofNat 24 (8 + H)))) _ (by omega)

end Cert.AttnIdeal.Bias

end
-- ==== Proof.GluTile.lean ====
/- The gated projection's block: one entry, from the blocks a point reads. -/
module

public import proofs.«01_k».proof.Proof.Gen.GluIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GluIdeal.Tile

open Cert.GluIdeal Cert.GluIdeal.Gen Idealize.ShloMosaic Idealize.ShloMosaic.TcCoe Idealize.SL.Sem

/-- The first argument times the logistic function of the second. -/
def gated (u z : EReal) : EReal := u * Ideal.div 1 (1 + Ideal.exp (-z))

theorem one_eq : Ideal.ofBits .f32 0x3F800000#32 = 1 := by
  simp [Ideal.ofBits, Ideal.ieee]
  rw [← EReal.coe_mul]
  norm_num

/-- One entry of the stored value. -/
theorem pay_at (x : Vec Ideal S1024x4096 .bf16) (w : Vec Ideal S4096x512 .bf16) (b : Vec Ideal S1x512 .f32) (w' : Vec Ideal S4096x512 .bf16)
    (b' : Vec Ideal S1x512 .f32) (r : Fin 1024) (k : Fin 512) :
    k0_pay1 (F := Ideal) x w b w' b' (ix2 r k)
      = gated ((∑ e : Fin 4096, x (ix2 r e) * w (ix2 e k)) + b (ix2 0 k)) ((∑ e : Fin 4096, x (ix2 r e) * w' (ix2 e k)) + b' (ix2 0 k)) := by
  unfold gated
  pointwise [k0_pay1]
  simp only [zero_sub]

/-- One entry of what a point leaves in the result's block. -/
theorem out_at (x0 : Vec Ideal S1024x4096 .bf16) (x1 x2 : Vec Ideal S4096x512 .bf16) (x3 x4 : Vec Ideal S1x512 .f32) (r : Fin 1024) (k : Fin 512) :
    out0_5 (F := Ideal) x0 x1 x2 x3 x4 (ix2 r k)
      = gated ((∑ e : Fin 4096, x0 (ix2 r e) * x1 (ix2 e k)) + x3 (ix2 0 k)) ((∑ e : Fin 4096, x0 (ix2 r e) * x2 (ix2 e k)) + x4 (ix2 0 k)) := by
  have hz : ∀ a : Fin 2, (![0, 0] : Fin 2 → ℕ) a = 0 := by decide
  refine Eq.trans ?_ (pay_at x0 x1 x3 x2 x4 r k)
  unfold out0_5
  rw [View.canon_cons_unit_lit inb_S1024x512_S1024x512_0_0 _ [] hz, View.ld_unit_lit inb_S1024x4096_S1024x4096_0_0 x0 hz, View.ld_unit_lit inb_S4096x512_S4096x512_0_0 x1 hz,
    View.ld_unit_lit inb_S4096x512_S4096x512_0_0 x2 hz, View.ld_unit_lit inb_S1x512_S1x512_0_0 x3 hz, View.ld_unit_lit inb_S1x512_S1x512_0_0 x4 hz]

end Cert.GluIdeal.Tile

end
-- ==== Proof.GluRef.lean ====
/- The gated projection's reference read at an index. -/
module

public import proofs.«01_k».proof.Proof.Gen.GluRefIdeal.Run
public import proofs.«01_k».proof.Proof.Gen.GluRefIdeal.Read
public import proofs.«01_k».proof.Proof.GluTile

@[expose] public section

set_option maxRecDepth 16384

noncomputable section

namespace Cert.GluRefIdeal.Row

open Cert.GluRefIdeal Cert.GluRefIdeal.Read Idealize.ShloMosaic Cert.GluIdeal.Tile

variable (x : (⟨S16384x4096, .bf16⟩ : BufTy).Contents (Elt Ideal)) (w : (⟨S4096x21504, .bf16⟩ : BufTy).Contents (Elt Ideal))
  (b : (⟨S1x21504, .f32⟩ : BufTy).Contents (Elt Ideal))

/-- Column `n` of the projection of row `R`. -/
def proj (R : Fin 16384) (n : Fin 21504) : EReal := (∑ e : Fin 4096, x (ix2 R e) * w (ix2 e n)) + b (ix2 0 n)

theorem proj_at (R : Fin 16384) (k : Fin 4096) : val_main_v6 (F := Ideal) x w b (ix2 R k) = proj x w b R ⟨k.val, by omega⟩ := by
  rw [val_main_v6_apply, val_main_v5_apply, val_main_v4_apply, val_main_v3_apply]
  have hs : (∑ e : Fin 4096, val_main_v0 (F := Ideal) x (lidx_main_v3 (ix2 R k) e) * val_main_v2 (F := Ideal) w (ridx_main_v3 (ix2 R k) e))
      = ∑ e : Fin 4096, x (ix2 R e) * w (ix2 e (⟨k.val, by omega⟩ : Fin 21504)) := by
    refine Finset.sum_congr rfl fun e _ => ?_
    rw [val_main_v2_apply, val_main_v1_apply, val_main_v0_apply]
    refine congrArg₂ (· * ·) (congrArg x ?_) (congrArg w ?_) <;> (funext i; fin_cases i <;> rfl)
  have hb : b (idx_main_v4 (idx_main_v5 (ix2 R k))) = b (ix2 0 (⟨k.val, by omega⟩ : Fin 21504)) :=
    congrArg b (by funext i; fin_cases i <;> rfl)
  unfold proj
  rw [← hs, ← hb]
  rfl

/-- The reference's result at row `R` and column `d`. -/
def val (R : Fin 16384) (d : Fin 2048) : EReal := gated (proj x w b R ⟨d.val, by omega⟩) (proj x w b R ⟨2048 + d.val, by omega⟩)

theorem out_at (R : Fin 16384) (d : Fin 2048) : val_main_v15 (F := Ideal) x w b (ix2 R d) = val x w b R d := by
  rw [val_main_v15_apply, val_main_v14_apply, val_main_v13_apply, val_main_v12_apply, val_main_v11_apply, val_main_v10_apply, val_main_v9_apply,
    val_main_v8_apply, val_main_v7_apply, val_main_cst_apply, val_main_cst_0_apply]
  have e0 : idx_main_v7 (ix2 R d) = ix2 R (⟨d.val, by omega⟩ : Fin 4096) := by funext i; fin_cases i <;> rfl
  have e1 : idx_main_v8 (ix2 R d) = ix2 R (⟨2048 + d.val, by omega⟩ : Fin 4096) := by funext i; fin_cases i <;> rfl
  rw [e0, e1, proj_at, proj_at]
  unfold val gated
  rw [← one_eq]
  rfl

end Cert.GluRefIdeal.Row

end
-- ==== Proof.GluEqual.lean ====
/- The gated projection's kernel and its reference leave equal results. -/
module

public import proofs.«01_k».proof.Proof.GluTile
public import proofs.«01_k».proof.Proof.GluRef

@[expose] public section

set_option maxRecDepth 16384

noncomputable section

namespace Cert.GluEqual

open Cert.GluIdeal Cert.GluIdeal.Gen Cert.GluIdeal.Tile Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N,
    win0_0.index t = ![(grid0.coords t 0).val, 0]
    ∧ win0_1.index t = ![0, (grid0.coords t 1).val]
    ∧ win0_2.index t = ![0, (grid0.coords t 1).val + 4]
    ∧ win0_3.index t = ![0, (grid0.coords t 1).val]
    ∧ win0_4.index t = ![0, (grid0.coords t 1).val + 4]
    ∧ win0_5.index t = ![(grid0.coords t 0).val, (grid0.coords t 1).val] :=
  (by decide +kernel : ∀ t : Fin grid0.N, _)

/-- The row block of a point. -/
def rb (t : Fin cfg0.N) : Fin 16 := grid0.coords t 0
/-- The column block of a point. -/
def cb (t : Fin cfg0.N) : Fin 4 := grid0.coords t 1

/-- The array row of row `r` of a point's block. -/
def rowAt (t : Fin cfg0.N) (r : Fin 1024) : Fin 16384 := ⟨(rb t).val * 1024 + r.val, by have := (rb t).isLt; omega⟩
/-- The array column of column `k` of a point's block. -/
def colAt (t : Fin cfg0.N) (k : Fin 512) : Fin 2048 := ⟨(cb t).val * 512 + k.val, by have := (cb t).isLt; omega⟩

abbrev aX (c : Dev nD) : (⟨2, ![16384, 4096]⟩ : Shape).Idx → EReal := m ((c : Thread nD τ).loc main_arg0)
abbrev aW (c : Dev nD) : (⟨2, ![4096, 21504]⟩ : Shape).Idx → EReal := m ((c : Thread nD τ).loc main_arg1)
abbrev aB (c : Dev nD) : (⟨2, ![1, 21504]⟩ : Shape).Idx → EReal := m ((c : Thread nD τ).loc main_arg2)

theorem x0_at (c : Dev nD) (t : Fin cfg0.N) (r : Fin 1024) (e : Fin 4096) : iblk m c 0 t (ix2 r e) = aX m c (ix2 (rowAt t r) e) := by
  blk_ext [iblk, V, idx t]
  rfl

theorem x1_at (c : Dev nD) (t : Fin cfg0.N) (e : Fin 4096) (k : Fin 512) :
    iblk m c 1 t (ix2 e k) = aW m c (ix2 e ⟨(colAt t k).val, by omega⟩) := by
  blk_ext [iblk, V, idx t]
  rfl

theorem x2_at (c : Dev nD) (t : Fin cfg0.N) (e : Fin 4096) (k : Fin 512) :
    iblk m c 2 t (ix2 e k) = aW m c (ix2 e ⟨2048 + (colAt t k).val, by omega⟩) := by
  blk_ext [iblk, V, idx t]
  show ((cb t).val + 4) * 512 + k.val = 2048 + ((cb t).val * 512 + k.val)
  omega

theorem x3_at (c : Dev nD) (t : Fin cfg0.N) (k : Fin 512) :
    iblk m c 3 t (ix2 0 k) = aB m c (ix2 0 ⟨(colAt t k).val, by omega⟩) := by
  blk_ext [iblk, V, idx t]
  rfl

theorem x4_at (c : Dev nD) (t : Fin cfg0.N) (k : Fin 512) :
    iblk m c 4 t (ix2 0 k) = aB m c (ix2 0 ⟨2048 + (colAt t k).val, by omega⟩) := by
  blk_ext [iblk, V, idx t]
  show ((cb t).val + 4) * 512 + k.val = 2048 + ((cb t).val * 512 + k.val)
  omega

/-- The result's value at row `R` and column `d`. -/
def val (c : Dev nD) (R : Fin 16384) (d : Fin 2048) : EReal := Cert.GluRefIdeal.Row.val (aX m c) (aW m c) (aB m c) R d

theorem blk_eq (c : Dev nD) (t : Fin cfg0.N) (r : Fin 1024) (k : Fin 512) :
    out0_5 (iblk m c 0 t) (iblk m c 1 t) (iblk m c 2 t) (iblk m c 3 t) (iblk m c 4 t) (ix2 r k) = val m c (rowAt t r) (colAt t k) := by
  rw [out_at]
  simp only [x0_at, x1_at, x2_at, x3_at, x4_at]
  rfl

theorem arr (c : Dev nD) : (dats m 0 c).arrAt 5 cfg0.N = fun y : S16384x2048.Idx => val m c (y 0) (y 1) := by
  refine (dats m 0 c).arrAt_eq_of_covers 5 _ (by decide +kernel) fun t hf y => ?_
  have hi := (idx t).2.2.2.2.2
  have e0 : (win0_5.blk t).view.emb y 0 = rowAt t (y 0) := by
    apply Fin.ext
    blk_simp
    rw [hi]
    rfl
  have e1 : (win0_5.blk t).view.emb y 1 = colAt t (y 1) := by
    apply Fin.ext
    blk_simp
    rw [hi]
    rfl
  blk_simp
  rw [after0_5]
  have hy : y = ix2 (y 0) (y 1) := by funext i; fin_cases i <;> rfl
  refine Eq.trans (congrArg _ hy) ((blk_eq m c t (y 0) (y 1)).trans ?_)
  exact congrArg₂ (val m c) e0.symm e1.symm

theorem out_eq (c : Dev nD) :
    (dats m 0 c).arrAt 5 cfg0.N = Cert.GluRefIdeal.Read.val_main_v15 (F := Ideal) (aX m c) (aW m c) (aB m c) := by
  rw [arr]
  funext y
  idx_vars y
  exact (Cert.GluRefIdeal.Row.out_at _ _ _ y0 y1).symm

end Cert.GluEqual

end
-- ==== Proof.MergeTile.lean ====
/- The merging kernel's block: one entry, from the blocks a point reads. -/
module

public import proofs.«01_k».proof.Proof.Gen.MergeIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.MergeIdeal.Tile

open Cert.MergeIdeal Cert.MergeIdeal.Gen Idealize.ShloMosaic Idealize.ShloMosaic.TcCoe Idealize.SL.Sem

/-- The logistic function. -/
def sigm (z : EReal) : EReal := Ideal.div 1 (1 + Ideal.exp (-z))

theorem one_eq : Ideal.ofBits .f32 0x3F800000#32 = 1 := by
  simp [Ideal.ofBits, Ideal.ieee]
  rw [← EReal.coe_mul]
  norm_num

/-- The first gate of one entry. -/
theorem gate0 (x : Vec Ideal S1024x4096 .bf16) (w : Vec Ideal S4096x256 .bf16) (b : Vec Ideal S1x256 .f32) (r : Fin 1024) (k : Fin 256) :
    k0_pay2 (F := Ideal) x w b (ix2 r k) = sigm ((∑ e : Fin 4096, x (ix2 r e) * w (ix2 e k)) + b (ix2 0 k)) := by
  unfold sigm
  pointwise [k0_pay2]
  simp only [zero_sub]

/-- The second gate of one entry. -/
theorem gate1 (x : Vec Ideal S1024x4096 .bf16) (w : Vec Ideal S4096x256 .bf16) (b : Vec Ideal S1x256 .f32) (r : Fin 1024) (k : Fin 256) :
    k0_pay3 (F := Ideal) x w b (ix2 r k) = sigm ((∑ e : Fin 4096, x (ix2 r e) * w (ix2 e k)) + b (ix2 0 k)) := by
  unfold sigm
  pointwise [k0_pay3]
  simp only [zero_sub]

/-- The convolution's product of one entry. -/
theorem conv (h : Vec Ideal S1024x2048 .bf16) (w : Vec Ideal S2048x256 .bf16) (r : Fin 1024) (k : Fin 256) :
    k0_pay4 (F := Ideal) h w (ix2 r k) = ∑ e : Fin 2048, h (ix2 r e) * w (ix2 e k) := by
  pointwise [k0_pay4]

/-- One entry of the block, from its two gates and the convolution's product. -/
theorem sum_at (g0 g1 p : FVec Ideal S1024x256 .f32) (a : Vec Ideal S1024x1024 .bf16) (w : Vec Ideal S1024x256 .bf16) (r : Fin 1024) (k : Fin 256) :
    k0_pay1 (F := Ideal) g0 g1 p a w (constant S1024x256 .f32 0x00000000#32) (ix2 r k)
      = g0 (ix2 r k) * p (ix2 r k) + g1 (ix2 r k) * ∑ e : Fin 1024, a (ix2 r e) * w (ix2 e k) := by
  pointwise [k0_pay1]

/-- One entry of what a point leaves in the result's block. -/
theorem out_at (x0 : Vec Ideal S1024x4096 .bf16) (x1 : Vec Ideal S1024x2048 .bf16) (x2 : Vec Ideal S1024x1024 .bf16) (x3 x4 : Vec Ideal S4096x256 .bf16)
    (x5 : Vec Ideal S2048x256 .bf16) (x6 : Vec Ideal S1024x256 .bf16) (x7 x8 : Vec Ideal S1x256 .f32) (r : Fin 1024) (k : Fin 256) :
    out0_9 (F := Ideal) x0 x1 x2 x3 x4 x5 x6 x7 x8 (ix2 r k)
      = sigm ((∑ e : Fin 4096, x0 (ix2 r e) * x3 (ix2 e k)) + x7 (ix2 0 k)) * (∑ e : Fin 2048, x1 (ix2 r e) * x5 (ix2 e k))
        + sigm ((∑ e : Fin 4096, x0 (ix2 r e) * x4 (ix2 e k)) + x8 (ix2 0 k)) * ∑ e : Fin 1024, x2 (ix2 r e) * x6 (ix2 e k) := by
  rw [← gate0, ← gate1, ← conv]
  refine Eq.trans ?_ (sum_at _ _ _ x2 x6 r k)
  have hz : ∀ a : Fin 2, (![0, 0] : Fin 2 → ℕ) a = 0 := by decide
  unfold out0_9
  rw [View.canon_cons_unit_lit inb_S1024x256_S1024x256_0_0 _ [] hz, View.ld_unit_lit inb_S1024x4096_S1024x4096_0_0 x0 hz, View.ld_unit_lit inb_S4096x256_S4096x256_0_0 x3 hz,
    View.ld_unit_lit inb_S4096x256_S4096x256_0_0 x4 hz, View.ld_unit_lit inb_S1x256_S1x256_0_0 x7 hz, View.ld_unit_lit inb_S1x256_S1x256_0_0 x8 hz,
    View.ld_unit_lit inb_S1024x2048_S1024x2048_0_0 x1 hz, View.ld_unit_lit inb_S2048x256_S2048x256_0_0 x5 hz, View.ld_unit_lit inb_S1024x1024_S1024x1024_0_0 x2 hz,
    View.ld_unit_lit inb_S1024x256_S1024x256_0_0 x6 hz]

end Cert.MergeIdeal.Tile

end
-- ==== Proof.MergeRef.lean ====
/- The merging reference's result read at an index. -/
module

public import proofs.«01_k».proof.Proof.Gen.MergeRefIdeal.Run
public import proofs.«01_k».proof.Proof.Gen.MergeRefIdeal.Read
public import proofs.«01_k».proof.Proof.MergeTile

@[expose] public section

set_option maxRecDepth 16384

noncomputable section

namespace Cert.MergeRefIdeal.Row

open Cert.MergeRefIdeal Cert.MergeRefIdeal.Read Idealize.ShloMosaic Cert.MergeIdeal.Tile

variable (x : (⟨S16384x4096, .bf16⟩ : BufTy).Contents (Elt Ideal)) (h : (⟨S16384x2048, .bf16⟩ : BufTy).Contents (Elt Ideal))
  (a : (⟨S16384x1024, .bf16⟩ : BufTy).Contents (Elt Ideal)) (w : (⟨S4096x21504, .bf16⟩ : BufTy).Contents (Elt Ideal))
  (b : (⟨S1x21504, .f32⟩ : BufTy).Contents (Elt Ideal)) (wc : (⟨S2048x4096, .bf16⟩ : BufTy).Contents (Elt Ideal))
  (wa : (⟨S1024x4096, .bf16⟩ : BufTy).Contents (Elt Ideal))

/-- The gate of row `R` at column `n` of the input weights. -/
def gate (R : Fin 16384) (n : Fin 21504) : EReal := sigm ((∑ e : Fin 4096, x (ix2 R e) * w (ix2 e n)) + b (ix2 0 n))

theorem gate_at (R : Fin 16384) (k : Fin 8192) :
    val_main_v16 (F := Ideal) x w b (ix2 R k) = gate x w b R ⟨13312 + k.val, by omega⟩ := by
  rw [val_main_v16_apply, val_main_v15_apply, val_main_v14_apply, val_main_v13_apply, val_main_v12_apply, val_main_v11_apply, val_main_v10_apply,
    val_main_v9_apply, val_main_v8_apply, val_main_v7_apply, val_main_cst_apply, val_main_cst_0_apply]
  unfold gate sigm
  rw [← one_eq]
  have hs : (∑ e : Fin 4096, val_main_v0 (F := Ideal) x (lidx_main_v7 (ix2 R k) e) * val_main_v6 (F := Ideal) w (ridx_main_v7 (ix2 R k) e))
      = ∑ e : Fin 4096, x (ix2 R e) * w (ix2 e (⟨13312 + k.val, by omega⟩ : Fin 21504)) := by
    refine Finset.sum_congr rfl fun e _ => ?_
    rw [val_main_v6_apply, val_main_v3_apply, val_main_v0_apply]
    refine congrArg₂ (· * ·) (congrArg x ?_) (congrArg w ?_) <;> (funext i; fin_cases i <;> rfl)
  have hb : b (idx_main_v8 (idx_main_v9 (ix2 R k))) = b (ix2 0 (⟨13312 + k.val, by omega⟩ : Fin 21504)) :=
    congrArg b (by funext i; fin_cases i <;> rfl)
  rw [← hs, ← hb]
  rfl

theorem conv_at (R : Fin 16384) (d : Fin 4096) : val_main_v19 (F := Ideal) h wc (ix2 R d) = ∑ e : Fin 2048, h (ix2 R e) * wc (ix2 e d) := by
  rw [val_main_v19_apply]
  refine Finset.sum_congr rfl fun e _ => ?_
  rw [val_main_v1_apply, val_main_v4_apply]
  refine congrArg₂ (· * ·) (congrArg h ?_) (congrArg wc ?_) <;> (funext i; fin_cases i <;> rfl)

theorem attn_at (R : Fin 16384) (d : Fin 4096) : val_main_v21 (F := Ideal) a wa (ix2 R d) = ∑ e : Fin 1024, a (ix2 R e) * wa (ix2 e d) := by
  rw [val_main_v21_apply]
  refine Finset.sum_congr rfl fun e _ => ?_
  rw [val_main_v2_apply, val_main_v5_apply]
  refine congrArg₂ (· * ·) (congrArg a ?_) (congrArg wa ?_) <;> (funext i; fin_cases i <;> rfl)

/-- The reference's result at row `R` and column `d`. -/
def val (R : Fin 16384) (d : Fin 4096) : EReal :=
  gate x w b R ⟨13312 + d.val, by omega⟩ * (∑ e : Fin 2048, h (ix2 R e) * wc (ix2 e d))
    + gate x w b R ⟨17408 + d.val, by omega⟩ * ∑ e : Fin 1024, a (ix2 R e) * wa (ix2 e d)

theorem out_at (R : Fin 16384) (d : Fin 4096) : val_main_v24 (F := Ideal) x h a w b wc wa (ix2 R d) = val x h a w b wc wa R d := by
  rw [val_main_v24_apply, val_main_v23_apply, val_main_v22_apply, val_main_v20_apply, val_main_v18_apply, val_main_v17_apply, conv_at, attn_at]
  have e0 : idx_main_v17 (ix2 R d) = ix2 R (⟨d.val, by omega⟩ : Fin 8192) := by funext i; fin_cases i <;> rfl
  have e1 : idx_main_v18 (ix2 R d) = ix2 R (⟨4096 + d.val, by omega⟩ : Fin 8192) := by funext i; fin_cases i <;> rfl
  rw [e0, e1, gate_at, gate_at]
  have e2 : (⟨13312 + (4096 + d.val), by omega⟩ : Fin 21504) = ⟨17408 + d.val, by omega⟩ := Fin.ext (by show 13312 + (4096 + d.val) = 17408 + d.val; omega)
  unfold val
  rw [← e2]
  rfl

end Cert.MergeRefIdeal.Row

end
-- ==== Proof.MergeEqual.lean ====
/- The merging kernel and its reference leave equal results. -/
module

public import proofs.«01_k».proof.Proof.MergeTile
public import proofs.«01_k».proof.Proof.MergeRef

@[expose] public section

set_option maxRecDepth 16384

noncomputable section

namespace Cert.MergeEqual

open Cert.MergeIdeal Cert.MergeIdeal.Gen Cert.MergeIdeal.Tile Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N,
    win0_0.index t = ![(grid0.coords t 0).val, 0]
    ∧ win0_1.index t = ![(grid0.coords t 0).val, 0]
    ∧ win0_2.index t = ![(grid0.coords t 0).val, 0]
    ∧ win0_3.index t = ![0, (grid0.coords t 1).val + 52]
    ∧ win0_4.index t = ![0, (grid0.coords t 1).val + 68]
    ∧ win0_5.index t = ![0, (grid0.coords t 1).val]
    ∧ win0_6.index t = ![0, (grid0.coords t 1).val]
    ∧ win0_7.index t = ![0, (grid0.coords t 1).val + 52]
    ∧ win0_8.index t = ![0, (grid0.coords t 1).val + 68]
    ∧ win0_9.index t = ![(grid0.coords t 0).val, (grid0.coords t 1).val] :=
  (by decide +kernel : ∀ t : Fin grid0.N, _)

/-- The row block of a point. -/
def rb (t : Fin cfg0.N) : Fin 16 := grid0.coords t 0
/-- The column block of a point. -/
def cb (t : Fin cfg0.N) : Fin 16 := grid0.coords t 1

/-- The array row of row `r` of a point's block. -/
def rowAt (t : Fin cfg0.N) (r : Fin 1024) : Fin 16384 := ⟨(rb t).val * 1024 + r.val, by have := (rb t).isLt; omega⟩
/-- The array column of column `k` of a point's block. -/
def colAt (t : Fin cfg0.N) (k : Fin 256) : Fin 4096 := ⟨(cb t).val * 256 + k.val, by have := (cb t).isLt; omega⟩

abbrev aX (c : Dev nD) : (⟨2, ![16384, 4096]⟩ : Shape).Idx → EReal := m ((c : Thread nD τ).loc main_arg0)
abbrev aH (c : Dev nD) : (⟨2, ![16384, 2048]⟩ : Shape).Idx → EReal := m ((c : Thread nD τ).loc main_arg1)
abbrev aA (c : Dev nD) : (⟨2, ![16384, 1024]⟩ : Shape).Idx → EReal := m ((c : Thread nD τ).loc main_arg2)
abbrev aW (c : Dev nD) : (⟨2, ![4096, 21504]⟩ : Shape).Idx → EReal := m ((c : Thread nD τ).loc main_arg3)
abbrev aB (c : Dev nD) : (⟨2, ![1, 21504]⟩ : Shape).Idx → EReal := m ((c : Thread nD τ).loc main_arg4)
abbrev aC (c : Dev nD) : (⟨2, ![2048, 4096]⟩ : Shape).Idx → EReal := m ((c : Thread nD τ).loc main_arg5)
abbrev aO (c : Dev nD) : (⟨2, ![1024, 4096]⟩ : Shape).Idx → EReal := m ((c : Thread nD τ).loc main_arg6)

theorem x0_at (c : Dev nD) (t : Fin cfg0.N) (r : Fin 1024) (e : Fin 4096) : iblk m c 0 t (ix2 r e) = aX m c (ix2 (rowAt t r) e) := by
  blk_ext [iblk, V, idx t]
  rfl

theorem x1_at (c : Dev nD) (t : Fin cfg0.N) (r : Fin 1024) (e : Fin 2048) : iblk m c 1 t (ix2 r e) = aH m c (ix2 (rowAt t r) e) := by
  blk_ext [iblk, V, idx t]
  rfl

theorem x2_at (c : Dev nD) (t : Fin cfg0.N) (r : Fin 1024) (e : Fin 1024) : iblk m c 2 t (ix2 r e) = aA m c (ix2 (rowAt t r) e) := by
  blk_ext [iblk, V, idx t]
  rfl

theorem x3_at (c : Dev nD) (t : Fin cfg0.N) (e : Fin 4096) (k : Fin 256) :
    iblk m c 3 t (ix2 e k) = aW m c (ix2 e ⟨13312 + (colAt t k).val, by omega⟩) := by
  blk_ext [iblk, V, idx t]
  show ((cb t).val + 52) * 256 + k.val = 13312 + ((cb t).val * 256 + k.val)
  omega

theorem x4_at (c : Dev nD) (t : Fin cfg0.N) (e : Fin 4096) (k : Fin 256) :
    iblk m c 4 t (ix2 e k) = aW m c (ix2 e ⟨17408 + (colAt t k).val, by omega⟩) := by
  blk_ext [iblk, V, idx t]
  show ((cb t).val + 68) * 256 + k.val = 17408 + ((cb t).val * 256 + k.val)
  omega

theorem x5_at (c : Dev nD) (t : Fin cfg0.N) (e : Fin 2048) (k : Fin 256) : iblk m c 5 t (ix2 e k) = aC m c (ix2 e (colAt t k)) := by
  blk_ext [iblk, V, idx t]
  rfl

theorem x6_at (c : Dev nD) (t : Fin cfg0.N) (e : Fin 1024) (k : Fin 256) : iblk m c 6 t (ix2 e k) = aO m c (ix2 e (colAt t k)) := by
  blk_ext [iblk, V, idx t]
  rfl

theorem x7_at (c : Dev nD) (t : Fin cfg0.N) (k : Fin 256) :
    iblk m c 7 t (ix2 0 k) = aB m c (ix2 0 ⟨13312 + (colAt t k).val, by omega⟩) := by
  blk_ext [iblk, V, idx t]
  show ((cb t).val + 52) * 256 + k.val = 13312 + ((cb t).val * 256 + k.val)
  omega

theorem x8_at (c : Dev nD) (t : Fin cfg0.N) (k : Fin 256) :
    iblk m c 8 t (ix2 0 k) = aB m c (ix2 0 ⟨17408 + (colAt t k).val, by omega⟩) := by
  blk_ext [iblk, V, idx t]
  show ((cb t).val + 68) * 256 + k.val = 17408 + ((cb t).val * 256 + k.val)
  omega

/-- The result's value at row `R` and column `d`. -/
def val (c : Dev nD) (R : Fin 16384) (d : Fin 4096) : EReal :=
  Cert.MergeRefIdeal.Row.val (aX m c) (aH m c) (aA m c) (aW m c) (aB m c) (aC m c) (aO m c) R d

theorem blk_eq (c : Dev nD) (t : Fin cfg0.N) (r : Fin 1024) (k : Fin 256) :
    out0_9 (iblk m c 0 t) (iblk m c 1 t) (iblk m c 2 t) (iblk m c 3 t) (iblk m c 4 t) (iblk m c 5 t) (iblk m c 6 t) (iblk m c 7 t) (iblk m c 8 t) (ix2 r k)
      = val m c (rowAt t r) (colAt t k) := by
  rw [out_at]
  simp only [x0_at, x1_at, x2_at, x3_at, x4_at, x5_at, x6_at, x7_at, x8_at]
  rfl

theorem arr (c : Dev nD) : (dats m 0 c).arrAt 9 cfg0.N = fun y : S16384x4096.Idx => val m c (y 0) (y 1) := by
  refine (dats m 0 c).arrAt_eq_of_covers 9 _ (by decide +kernel) fun t hf y => ?_
  have hi := (idx t).2.2.2.2.2.2.2.2.2
  have e0 : (win0_9.blk t).view.emb y 0 = rowAt t (y 0) := by
    apply Fin.ext
    blk_simp
    rw [hi]
    rfl
  have e1 : (win0_9.blk t).view.emb y 1 = colAt t (y 1) := by
    apply Fin.ext
    blk_simp
    rw [hi]
    rfl
  blk_simp
  rw [after0_9]
  have hy : y = ix2 (y 0) (y 1) := by funext i; fin_cases i <;> rfl
  refine Eq.trans (congrArg _ hy) ((blk_eq m c t (y 0) (y 1)).trans ?_)
  exact congrArg₂ (val m c) e0.symm e1.symm

theorem out_eq (c : Dev nD) :
    (dats m 0 c).arrAt 9 cfg0.N = Cert.MergeRefIdeal.Read.val_main_v24 (F := Ideal) (aX m c) (aH m c) (aA m c) (aW m c) (aB m c) (aC m c) (aO m c) := by
  rw [arr]
  funext y
  idx_vars y
  exact (Cert.MergeRefIdeal.Row.out_at _ _ _ _ _ _ _ y0 y1).symm

end Cert.MergeEqual

end
-- ==== Proof.QkvTile.lean ====
/- The projection's block: one entry, from the blocks a point reads. -/
module

public import proofs.«01_k».proof.Proof.Gen.QkvIdeal.Value
public import proofs.«01_k».proof.Proof.Gen.QkvRefIdeal.Run
public import proofs.«01_k».proof.Proof.Gen.QkvRefIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.QkvIdeal.Tile

open Cert.QkvIdeal Cert.QkvIdeal.Gen Idealize.ShloMosaic Idealize.ShloMosaic.TcCoe Idealize.SL.Sem

/-- One entry of the stored value. -/
theorem pay_at (x : Vec Ideal S1024x4096 .bf16) (w : Vec Ideal S4096x1024 .bf16) (b : Vec Ideal S1x1024 .f32) (p q : Fin 1) (r : Fin 1024) (k : Fin 1024) :
    k0_pay1 (F := Ideal) x w b (ix4 p q r k) = (∑ e : Fin 4096, x (ix2 r e) * w (ix2 e k)) + b (ix2 0 k) := by
  pointwise [k0_pay1]

/-- One entry of what a point leaves in the result's block. -/
theorem out_at (x0 : Vec Ideal S1024x4096 .bf16) (x1 : Vec Ideal S4096x1024 .bf16) (x2 : Vec Ideal S1x1024 .f32) (p q : Fin 1) (r : Fin 1024) (k : Fin 1024) :
    out0_3 (F := Ideal) x0 x1 x2 (ix4 p q r k) = (∑ e : Fin 4096, x0 (ix2 r e) * x1 (ix2 e k)) + x2 (ix2 0 k) := by
  have hz : ∀ a : Fin 2, (![0, 0] : Fin 2 → ℕ) a = 0 := by decide
  have hz4 : ∀ a : Fin 4, (![0, 0, 0, 0] : Fin 4 → ℕ) a = 0 := by decide
  refine Eq.trans ?_ (pay_at x0 x1 x2 p q r k)
  unfold out0_3
  rw [View.canon_cons_unit_lit inb_S1x1x1024x1024_S1x1x1024x1024_0_0_0_0 _ [] hz4, View.ld_unit_lit inb_S1024x4096_S1024x4096_0_0 x0 hz,
    View.ld_unit_lit inb_S4096x1024_S4096x1024_0_0 x1 hz, View.ld_unit_lit inb_S1x1024_S1x1024_0_0 x2 hz]

end Cert.QkvIdeal.Tile

end
-- ==== Proof.QkvSpec.lean ====
/- One column of one row of the input projection. -/
module

public import Idealize.ShloMosaic.Lib.Pointwise

@[expose] public section

set_option maxRecDepth 16384

noncomputable section

namespace Cert.QkvSpec

open Idealize.ShloMosaic

/-- Column `n` of the projection of row `R`. -/
def proj (x : (⟨2, ![16384, 4096]⟩ : Shape).Idx → EReal) (w : (⟨2, ![4096, 21504]⟩ : Shape).Idx → EReal) (b : (⟨2, ![1, 21504]⟩ : Shape).Idx → EReal)
    (R : Fin 16384) (n : Fin 21504) : EReal :=
  (∑ e : Fin 4096, x (ix2 R e) * w (ix2 e n)) + b (ix2 0 n)

/-- The column of the projection that is column `n` of a group's queries, keys and values. -/
def col (g : Fin 3) (n : Fin 3072) : Fin 21504 := ⟨4096 + n.val / 1024 * 3072 + g.val * 1024 + n.val % 1024, by omega⟩

end Cert.QkvSpec

end
-- ==== Proof.QkvRef.lean ====
/- The first group's projection in the reference, read at an index. -/
module

public import proofs.«01_k».proof.Proof.Gen.QkvRefIdeal.Run
public import proofs.«01_k».proof.Proof.Gen.QkvRefIdeal.Read
public import proofs.«01_k».proof.Proof.QkvSpec

@[expose] public section

set_option maxRecDepth 16384

noncomputable section

namespace Cert.QkvRefIdeal.Row

open Cert.QkvRefIdeal Cert.QkvRefIdeal.Read Idealize.ShloMosaic Cert.QkvSpec

variable (x : (⟨S16384x4096, .bf16⟩ : BufTy).Contents (Elt Ideal)) (w : (⟨S4096x21504, .bf16⟩ : BufTy).Contents (Elt Ideal))
  (b : (⟨S1x21504, .f32⟩ : BufTy).Contents (Elt Ideal))

theorem proj_at (R : Fin 16384) (k : Fin 9216) : val_main_v6 (F := Ideal) x w b (ix2 R k) = proj x w b R ⟨4096 + k.val, by omega⟩ := by
  rw [val_main_v6_apply, val_main_v5_apply, val_main_v4_apply, val_main_v3_apply]
  have hs : (∑ e : Fin 4096, val_main_v0 (F := Ideal) x (lidx_main_v3 (ix2 R k) e) * val_main_v2 (F := Ideal) w (ridx_main_v3 (ix2 R k) e))
      = ∑ e : Fin 4096, x (ix2 R e) * w (ix2 e (⟨4096 + k.val, by omega⟩ : Fin 21504)) := by
    refine Finset.sum_congr rfl fun e _ => ?_
    rw [val_main_v2_apply, val_main_v1_apply, val_main_v0_apply]
    refine congrArg₂ (· * ·) (congrArg x ?_) (congrArg w ?_) <;> (funext i; fin_cases i <;> rfl)
  have hb : b (idx_main_v4 (idx_main_v5 (ix2 R k))) = b (ix2 0 (⟨4096 + k.val, by omega⟩ : Fin 21504)) :=
    congrArg b (by funext i; fin_cases i <;> rfl)
  unfold proj
  rw [← hs, ← hb]
  rfl

theorem out_at (B : Fin 2) (D : Fin 1) (l : Fin 8192) (n : Fin 3072) :
    val_main_v11 (F := Ideal) x w b (ix4 B D l n) = proj x w b ⟨B.val * 8192 + l.val * 1 + D.val, by omega⟩ (col 0 n) := by
  rw [val_main_v11_apply, val_main_v10_apply, val_main_v9_apply, val_main_v8_apply, val_main_v7_apply]
  have hB := B.isLt
  have hD := D.isLt
  have hl := l.isLt
  have hn := n.isLt
  have e0 : idx_main_v10 (ix4 B D l n) = ix5 B D l (⟨n.val / 1024, by omega⟩ : Fin 3) (⟨n.val % 1024, by omega⟩ : Fin 1024) := by
    funext i
    apply Fin.ext
    fin_cases i
    · show (((B.val * 1 + D.val) * 8192 + l.val) * 3072 + n.val) / 25165824 = B.val
      omega
    · show 0 = D.val
      omega
    · show (((B.val * 1 + D.val) * 8192 + l.val) * 3072 + n.val) / 3072 % 8192 = l.val
      omega
    · show (((B.val * 1 + D.val) * 8192 + l.val) * 3072 + n.val) / 1024 % 3 = n.val / 1024
      omega
    · show (((B.val * 1 + D.val) * 8192 + l.val) * 3072 + n.val) % 1024 = n.val % 1024
      omega
  have e1 : idx_main_v7 (idx_main_v8 (idx_main_v9 (ix5 B D l (⟨n.val / 1024, by omega⟩ : Fin 3) (⟨n.val % 1024, by omega⟩ : Fin 1024))))
      = ix2 (⟨B.val * 8192 + l.val * 1 + D.val, by omega⟩ : Fin 16384) (⟨n.val / 1024 * 3072 + 0 + n.val % 1024, by omega⟩ : Fin 9216) := by
    funext i
    apply Fin.ext
    fin_cases i
    · show ((((B.val * 8192 + l.val) * 1 + D.val) * 3 + n.val / 1024) * 3072 + n.val % 1024) / 9216 = B.val * 8192 + l.val * 1 + D.val
      omega
    · show ((((B.val * 8192 + l.val) * 1 + D.val) * 3 + n.val / 1024) * 3072 + n.val % 1024) % 9216 = n.val / 1024 * 3072 + 0 + n.val % 1024
      omega
  rw [e0, e1, proj_at]
  refine congrArg (proj x w b _) (Fin.ext ?_)
  show 4096 + (n.val / 1024 * 3072 + 0 + n.val % 1024) = 4096 + n.val / 1024 * 3072 + 0 * 1024 + n.val % 1024
  omega

end Cert.QkvRefIdeal.Row

end
-- ==== Proof.QkvEqual.lean ====
/- The first group's projection and its reference leave equal results. -/
module

public import proofs.«01_k».proof.Proof.QkvTile
public import proofs.«01_k».proof.Proof.QkvRef

@[expose] public section

set_option maxRecDepth 16384

noncomputable section

namespace Cert.QkvEqual

open Cert.QkvIdeal Cert.QkvIdeal.Gen Cert.QkvIdeal.Tile Idealize.ShloMosaic Idealize.ShloMosaic.TcCoe Idealize.SL.Sem Cert.QkvSpec
open Idealize.ShloMosaic.Pipeline (Dat)

variable (m : (ℓ : Loc nD τ sig) → Buf (Elt Ideal) ℓ)

theorem idx : ∀ t : Fin cfg0.N,
    win0_0.index t = ![(grid0.coords t 0).val, 0]
    ∧ win0_1.index t = ![0, 4 + 3 * (grid0.coords t 1).val]
    ∧ win0_2.index t = ![0, 4 + 3 * (grid0.coords t 1).val]
    ∧ win0_3.index t = ![(grid0.coords t 0).val / 8, 0, (grid0.coords t 0).val % 8, (grid0.coords t 1).val] :=
  (by decide +kernel : ∀ t : Fin grid0.N, _)

/-- The row block of a point. -/
def rb (t : Fin cfg0.N) : Fin 16 := grid0.coords t 0
/-- Whether a point is the queries', the keys' or the values'. -/
def cb (t : Fin cfg0.N) : Fin 3 := grid0.coords t 1

/-- The array row of row `r` of a point's block. -/
def rowAt (t : Fin cfg0.N) (r : Fin 1024) : Fin 16384 := ⟨(rb t).val * 1024 + r.val, by have := (rb t).isLt; omega⟩
/-- The array column of column `k` of a point's block. -/
def colAt (t : Fin cfg0.N) (k : Fin 1024) : Fin 21504 := ⟨(4 + 3 * (cb t).val) * 1024 + k.val, by have := (cb t).isLt; omega⟩

abbrev aX (c : Dev nD) : (⟨2, ![16384, 4096]⟩ : Shape).Idx → EReal := m ((c : Thread nD τ).loc main_arg0)
abbrev aW (c : Dev nD) : (⟨2, ![4096, 21504]⟩ : Shape).Idx → EReal := m ((c : Thread nD τ).loc main_arg1)
abbrev aB (c : Dev nD) : (⟨2, ![1, 21504]⟩ : Shape).Idx → EReal := m ((c : Thread nD τ).loc main_arg2)

theorem x0_at (c : Dev nD) (t : Fin cfg0.N) (r : Fin 1024) (e : Fin 4096) : iblk m c 0 t (ix2 r e) = aX m c (ix2 (rowAt t r) e) := by
  blk_ext [iblk, V, idx t]
  rfl

theorem x1_at (c : Dev nD) (t : Fin cfg0.N) (e : Fin 4096) (k : Fin 1024) : iblk m c 1 t (ix2 e k) = aW m c (ix2 e (colAt t k)) := by
  blk_ext [iblk, V, idx t]
  rfl

theorem x2_at (c : Dev nD) (t : Fin cfg0.N) (k : Fin 1024) : iblk m c 2 t (ix2 0 k) = aB m c (ix2 0 (colAt t k)) := by
  blk_ext [iblk, V, idx t]
  rfl

/-- The result's value. -/
def val (c : Dev nD) (B : Fin 2) (l : Fin 8192) (n : Fin 3072) : EReal :=
  proj (aX m c) (aW m c) (aB m c) ⟨B.val * 8192 + l.val * 1 + 0, by omega⟩ (col 0 n)

theorem blk_eq (c : Dev nD) (t : Fin cfg0.N) (p q : Fin 1) (r : Fin 1024) (k : Fin 1024) (B : Fin 2) (l : Fin 8192) (n : Fin 3072)
    (hB : B.val = (rb t).val / 8) (hl : l.val = (rb t).val % 8 * 1024 + r.val) (hn : n.val = (cb t).val * 1024 + k.val) :
    out0_3 (iblk m c 0 t) (iblk m c 1 t) (iblk m c 2 t) (ix4 p q r k) = val m c B l n := by
  rw [out_at]
  simp only [x0_at, x1_at, x2_at]
  unfold val proj
  have hk := k.isLt
  have hr := r.isLt
  have e0 : rowAt t r = ⟨B.val * 8192 + l.val * 1 + 0, by omega⟩ := Fin.ext (by
    show (rb t).val * 1024 + r.val = B.val * 8192 + l.val * 1 + 0
    omega)
  have e1 : colAt t k = col 0 n := Fin.ext (by
    show (4 + 3 * (cb t).val) * 1024 + k.val = 4096 + n.val / 1024 * 3072 + 0 * 1024 + n.val % 1024
    omega)
  rw [e0, e1]

theorem arr (c : Dev nD) : (dats m 0 c).arrAt 3 cfg0.N = fun y : S2x1x8192x3072.Idx => val m c (y 0) (y 2) (y 3) := by
  refine (dats m 0 c).arrAt_eq_of_covers 3 _ (by decide +kernel) fun t hf y => ?_
  have hi := (idx t).2.2.2
  have hy0 : (y 0).val < 1 := (y 0).isLt
  have e0 : ((win0_3.blk t).view.emb y 0).val = (rb t).val / 8 := by
    blk_simp
    rw [hi]
    rfl
  have e2 : ((win0_3.blk t).view.emb y 2).val = (rb t).val % 8 * 1024 + (y 2).val := by
    blk_simp
    rw [hi]
    rfl
  have e3 : ((win0_3.blk t).view.emb y 3).val = (cb t).val * 1024 + (y 3).val := by
    blk_simp
    rw [hi]
    rfl
  have hb := blk_eq m c t (y 0) (y 1) (y 2) (y 3) _ _ _ e0 e2 e3
  blk_simp
  rw [after0_3]
  have hy : y = ix4 (y 0) (y 1) (y 2) (y 3) := by funext i; fin_cases i <;> rfl
  exact Eq.trans (congrArg _ hy) hb

theorem out_eq (c : Dev nD) :
    (dats m 0 c).arrAt 3 cfg0.N = Cert.QkvRefIdeal.Read.val_main_v11 (F := Ideal) (aX m c) (aW m c) (aB m c) := by
  rw [arr]
  funext y
  idx_vars y
  refine Eq.trans ?_ (Cert.QkvRefIdeal.Row.out_at _ _ _ y0 y1 y2 y3).symm
  have h1 : y1.val < 1 := y1.isLt
  refine congrArg (fun R => proj (aX m c) (aW m c) (aB m c) R (col 0 y3)) (Fin.ext ?_)
  show y0.val * 8192 + y2.val * 1 + 0 = y0.val * 8192 + y2.val * 1 + y1.val
  omega

end Cert.QkvEqual

end
-- ==== Proof.lean ====
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Ffn
public import proofs.«01_k».proof.Proof.Gen.FfnIdeal
public import proofs.«01_k».proof.Proof.Gen.FfnRefIdeal
public import proofs.«01_k».proof.Proof.Gen.FfnRefIdeal.Run
public import proofs.«01_k».proof.Proof.Gen.FfnRefIdeal.Read
public import proofs.«01_k».proof.Proof.FfnBits
public import proofs.«01_k».proof.Proof.FfnEqual
public import proofs.«01_k».proof.Proof.Equal
public import proofs.«01_k».proof.Proof.Bias
public import proofs.«01_k».proof.Proof.Gen.Glu
public import proofs.«01_k».proof.Proof.Gen.Glu.Frame
public import proofs.«01_k».proof.Proof.Gen.GluIdeal
public import proofs.«01_k».proof.Proof.Gen.GluIdeal.Value
public import proofs.«01_k».proof.Proof.Gen.GluRefIdeal
public import proofs.«01_k».proof.Proof.Gen.GluRefIdeal.Run
public import proofs.«01_k».proof.Proof.Gen.GluRefIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.GluEqual
public import proofs.«01_k».proof.Proof.MergeEqual
public import proofs.«01_k».proof.Proof.Gen.Qkv
public import proofs.«01_k».proof.Proof.Gen.Qkv.Frame
public import proofs.«01_k».proof.Proof.Gen.QkvIdeal
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.QkvEqual
public import Idealize.ShloMosaic.Lib.Quiescent
public import Idealize.ShloMosaic.Adequacy
public import Idealize.ShloMosaic.Init

@[expose] public section

noncomputable section

namespace Cert.Proof

open Idealize.ShloMosaic Idealize.SL.Sem Cert.Attn

/-- The attention kernel runs at any float values, keeps its arguments and ends quiescent. -/
theorem frame_attn : Cert.quiescent_Attn (hAttn := Cert.Attn.Gen.facts) := fun m ρ _ => Cert.Attn.Gen.frame m ρ

/-- So does its idealization. -/
theorem frame_attnIdeal : Cert.quiescent_AttnIdeal (hAttnIdeal := Cert.AttnIdeal.Gen.facts) := fun m ρ _ => Cert.AttnIdeal.Gen.frame m ρ

/-- So does the reference, which declares no semaphore. -/
theorem frame_attnRef : Cert.quiescent_AttnRefIdeal (hAttnRefIdeal := Cert.AttnRefIdeal.Gen.facts) := fun m ρ _ =>
  (θ_run Cert.AttnRefIdeal.defs _ _).mono (fun r h => ⟨fun c => (h c).2.2, sem_eq_zero_of_no_sems (by decide) r.2⟩)
    (Cert.AttnRefIdeal.Value.run (F := Ideal) m ρ)

/-- The named constants at the kernel's sites: the scale and the mask. -/
theorem preserves_attn : Cert.preserves_Attn_AttnIdeal :=
  ⟨IdealRules.named_const.statement Cert.AttnIdeal.κ "s" .f32 0x3DB504F3#32 (((Real.sqrt 128)⁻¹ : ℝ) : EReal) rfl,
    IdealRules.named_const.statement Cert.AttnIdeal.κ "mask" .f32 0xF149F2CA#32 ⊥ rfl⟩

/-- The kernel's first result is the reference's attention output. -/
theorem out_eq (m : (ℓ : Loc Cert.AttnIdeal.nD Cert.AttnIdeal.τ Cert.AttnIdeal.sig) → Buf (Elt Ideal) ℓ) (c : Dev Cert.AttnIdeal.nD) :
    (Cert.AttnIdeal.Gen.dats m 0 c).arrAt 8 Cert.AttnIdeal.cfg0.N
      = Cert.AttnRefIdeal.Read.val_main_v131 (F := Ideal) (m ((c.tc : Thread Cert.AttnIdeal.nD Cert.AttnIdeal.τ).loc Cert.AttnIdeal.main_arg0))
          (m ((c.tc : Thread Cert.AttnIdeal.nD Cert.AttnIdeal.τ).loc Cert.AttnIdeal.main_arg1)) := by
  rw [Cert.AttnIdeal.Arrays.o_eq]
  funext y
  refine (Cert.Equal.out_same _ (m ((c.tc : Thread Cert.AttnIdeal.nD Cert.AttnIdeal.τ).loc Cert.AttnIdeal.main_arg1)) _
    (Cert.AttnIdeal.Bias.bias_on m c) (Cert.AttnIdeal.Bias.bias_off m c) (y 0) (y 1) (y 2) (y 3)).trans ?_
  rw [Cert.AttnIdeal.Gen.V_main_arg0]
  exact congrArg _ (by funext a; fin_cases a <;> rfl)

/-- The kernel's second result is the reference's log-sum-exp, padded to 128 lanes. -/
theorem lse_eq (m : (ℓ : Loc Cert.AttnIdeal.nD Cert.AttnIdeal.τ Cert.AttnIdeal.sig) → Buf (Elt Ideal) ℓ) (c : Dev Cert.AttnIdeal.nD) :
    (Cert.AttnIdeal.Gen.dats m 0 c).arrAt 9 Cert.AttnIdeal.cfg0.N
      = Cert.AttnRefIdeal.Read.val_main_v133 (F := Ideal) (m ((c.tc : Thread Cert.AttnIdeal.nD Cert.AttnIdeal.τ).loc Cert.AttnIdeal.main_arg0))
          (m ((c.tc : Thread Cert.AttnIdeal.nD Cert.AttnIdeal.τ).loc Cert.AttnIdeal.main_arg1)) := by
  rw [Cert.AttnIdeal.Arrays.lse_eq]
  funext y
  refine (Cert.Equal.lse_same _ (m ((c.tc : Thread Cert.AttnIdeal.nD Cert.AttnIdeal.τ).loc Cert.AttnIdeal.main_arg1)) _
    (Cert.AttnIdeal.Bias.bias_on m c) (Cert.AttnIdeal.Bias.bias_off m c) (y 0) (y 1) (y 2) (y 3)).trans ?_
  rw [Cert.AttnIdeal.Gen.V_main_arg0]
  exact congrArg _ (by funext a; fin_cases a <;> rfl)

/-- The two idealized programs leave equal results. -/
theorem algebraic_attn : Cert.algebraic_AttnIdeal_AttnRefIdeal (hAttnIdeal := Cert.AttnIdeal.Gen.facts) (hAttnRefIdeal := Cert.AttnRefIdeal.Gen.facts) := by
  intro m ρ m' ρ' _ hm
  refine ⟨fun c => (Cert.AttnIdeal.Gen.dats m 0 c).arrAt 8 Cert.AttnIdeal.cfg0.N, fun c => (Cert.AttnIdeal.Gen.dats m 0 c).arrAt 9 Cert.AttnIdeal.cfg0.N,
    Cert.AttnIdeal.Value.run_blocks m ρ, (θ_run Cert.AttnRefIdeal.defs _ _).mono (fun r h c => ?_) (Cert.AttnRefIdeal.Value.run (F := Ideal) m' ρ')⟩
  obtain ⟨h0, h1, h2⟩ := h c
  obtain ⟨e0, e1⟩ := hm c
  refine ⟨h0.trans ((Cert.AttnRefIdeal.Read.val_main_v131_eq m' c).trans ?_), h1.trans ((Cert.AttnRefIdeal.Read.val_main_v133_eq m' c).trans ?_), h2⟩
  · rw [e0, e1]
    exact (out_eq m c).symm
  · rw [e0, e1]
    exact (lse_eq m c).symm

/-- The feed-forward kernel's idealization runs, keeps its arguments and ends quiescent. -/
theorem frame_ffnIdeal : Cert.quiescent_FfnIdeal (hFfnIdeal := Cert.FfnIdeal.Gen.facts) := fun m ρ _ => Cert.FfnIdeal.Body.frame_holds m ρ

/-- So does its reference, which declares no semaphore. -/
theorem frame_ffnRef : Cert.quiescent_FfnRefIdeal (hFfnRefIdeal := Cert.FfnRefIdeal.Gen.facts) := fun m ρ _ =>
  (θ_run Cert.FfnRefIdeal.defs _ _).mono (fun r h => ⟨fun c => (h c).2.2, sem_eq_zero_of_no_sems (by decide) r.2⟩)
    (Cert.FfnRefIdeal.Value.run (F := Ideal) m ρ)

/-- The two idealized feed-forward programs leave equal results. -/
theorem algebraic_ffn : Cert.algebraic_FfnIdeal_FfnRefIdeal (hFfnIdeal := Cert.FfnIdeal.Gen.facts) (hFfnRefIdeal := Cert.FfnRefIdeal.Gen.facts) := by
  intro m ρ m' ρ' _ hm
  refine ⟨fun c => (Cert.FfnIdeal.Body.dats m 0 c).arrAt 10 Cert.FfnIdeal.cfg0.N, fun c => (Cert.FfnIdeal.Body.dats m 0 c).arrAt 11 Cert.FfnIdeal.cfg0.N,
    Cert.FfnIdeal.Body.run_results m ρ, (θ_run Cert.FfnRefIdeal.defs _ _).mono (fun r h c => ?_) (Cert.FfnRefIdeal.Value.run (F := Ideal) m' ρ')⟩
  obtain ⟨h0, h1, h2⟩ := h c
  obtain ⟨e0, e1, e2, e3, e4, e5⟩ := hm c
  refine ⟨h0.trans ((Cert.FfnRefIdeal.Read.val_main_v37_eq m' c).trans ?_), h1.trans ((Cert.FfnRefIdeal.Read.val_main_v38_eq m' c).trans ?_), h2⟩
  · rw [e0, e1, e2, e3, e4, e5]
    exact (Cert.FfnEqual.out_eq m c).symm
  · rw [e0, e1, e2, e3, e4, e5]
    exact (Cert.FfnEqual.out16_eq m c).symm

/-- The gated projection's kernel runs at any float values, keeps its arguments and ends quiescent. -/
theorem frame_glu : Cert.quiescent_Glu (hGlu := Cert.Glu.Gen.facts) := fun m ρ _ => Cert.Glu.Gen.frame m ρ

/-- So does its idealization. -/
theorem frame_gluIdeal : Cert.quiescent_GluIdeal (hGluIdeal := Cert.GluIdeal.Gen.facts) := fun m ρ _ => Cert.GluIdeal.Gen.frame m ρ

/-- So does its reference, which declares no semaphore. -/
theorem frame_gluRef : Cert.quiescent_GluRefIdeal (hGluRefIdeal := Cert.GluRefIdeal.Gen.facts) := fun m ρ _ =>
  (θ_run Cert.GluRefIdeal.defs _ _).mono (fun r h => ⟨fun c => (h c).2, sem_eq_zero_of_no_sems (by decide) r.2⟩)
    (Cert.GluRefIdeal.Value.run (F := Ideal) m ρ)

/-- The two idealized gated projections leave equal results. -/
theorem algebraic_glu : Cert.algebraic_GluIdeal_GluRefIdeal (hGluIdeal := Cert.GluIdeal.Gen.facts) (hGluRefIdeal := Cert.GluRefIdeal.Gen.facts) := by
  intro m ρ m' ρ' _ hm
  refine ⟨fun c => (Cert.GluIdeal.Gen.dats m 0 c).arrAt 5 Cert.GluIdeal.cfg0.N,
    Cert.GluIdeal.Value.run_blocks m ρ, (θ_run Cert.GluRefIdeal.defs _ _).mono (fun r h c => ?_) (Cert.GluRefIdeal.Value.run (F := Ideal) m' ρ')⟩
  obtain ⟨h0, h1⟩ := h c
  obtain ⟨e0, e1, e2⟩ := hm c
  refine ⟨h0.trans ((Cert.GluRefIdeal.Read.val_main_v15_eq _ _ _).trans ?_), h1⟩
  rw [e0, e1, e2]
  exact (Cert.GluEqual.out_eq m c).symm

/-- The merging kernel runs at any float values, keeps its arguments and ends quiescent. -/
theorem frame_merge : Cert.quiescent_Merge (hMerge := Cert.Merge.Gen.facts) := fun m ρ _ => Cert.Merge.Gen.frame m ρ

/-- So does its idealization. -/
theorem frame_mergeIdeal : Cert.quiescent_MergeIdeal (hMergeIdeal := Cert.MergeIdeal.Gen.facts) := fun m ρ _ => Cert.MergeIdeal.Gen.frame m ρ

/-- So does its reference, which declares no semaphore. -/
theorem frame_mergeRef : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The two idealized merging programs leave equal results. -/
theorem algebraic_merge : Cert.algebraic_MergeIdeal_MergeRefIdeal (hMergeIdeal := Cert.MergeIdeal.Gen.facts) (hMergeRefIdeal := Cert.MergeRefIdeal.Gen.facts) := by
  intro m ρ m' ρ' _ hm
  refine ⟨fun c => (Cert.MergeIdeal.Gen.dats m 0 c).arrAt 9 Cert.MergeIdeal.cfg0.N,
    Cert.MergeIdeal.Value.run_blocks m ρ, (θ_run Cert.MergeRefIdeal.defs _ _).mono (fun r h c => ?_) (Cert.MergeRefIdeal.Value.run (F := Ideal) m' ρ')⟩
  obtain ⟨h0, h1⟩ := h c
  obtain ⟨e0, e1, e2, e3, e4, e5, e6⟩ := hm c
  refine ⟨h0.trans ((Cert.MergeRefIdeal.Read.val_main_v24_eq _ _ _ _ _ _ _).trans ?_), h1⟩
  rw [e0, e1, e2, e3, e4, e5, e6]
  exact (Cert.MergeEqual.out_eq m c).symm

/-- The first group's projection runs at any float values, keeps its arguments and ends quiescent. -/
theorem frame_qkv : Cert.quiescent_Qkv (hQkv := Cert.Qkv.Gen.facts) := fun m ρ _ => Cert.Qkv.Gen.frame m ρ

/-- So does its idealization. -/
theorem frame_qkvIdeal : Cert.quiescent_QkvIdeal (hQkvIdeal := Cert.QkvIdeal.Gen.facts) := fun m ρ _ => Cert.QkvIdeal.Gen.frame m ρ

/-- So does its reference, which declares no semaphore. -/
theorem frame_qkvRef : Cert.quiescent_QkvRefIdeal (hQkvRefIdeal := Cert.QkvRefIdeal.Gen.facts) := fun m ρ _ =>
  (θ_run Cert.QkvRefIdeal.defs _ _).mono (fun r h => ⟨fun c => (h c).2, sem_eq_zero_of_no_sems (by decide) r.2⟩)
    (Cert.QkvRefIdeal.Value.run (F := Ideal) m ρ)

/-- The two idealized projections of the first group leave equal results. -/
theorem algebraic_qkv : Cert.algebraic_QkvIdeal_QkvRefIdeal (hQkvIdeal := Cert.QkvIdeal.Gen.facts) (hQkvRefIdeal := Cert.QkvRefIdeal.Gen.facts) := by
  intro m ρ m' ρ' _ hm
  refine ⟨fun c => (Cert.QkvIdeal.Gen.dats m 0 c).arrAt 3 Cert.QkvIdeal.cfg0.N,
    Cert.QkvIdeal.Value.run_blocks m ρ, (θ_run Cert.QkvRefIdeal.defs _ _).mono (fun r h c => ?_) (Cert.QkvRefIdeal.Value.run (F := Ideal) m' ρ')⟩
  obtain ⟨h0, h1⟩ := h c
  obtain ⟨e0, e1, e2⟩ := hm c
  refine ⟨h0.trans ((Cert.QkvRefIdeal.Read.val_main_v11_eq _ _ _).trans ?_), h1⟩
  rw [e0, e1, e2]
  exact (Cert.QkvEqual.out_eq m c).symm

theorem claim : Cert.Claim :=
  ⟨Cert.Attn.Gen.facts, Cert.AttnIdeal.Gen.facts, Cert.AttnRefIdeal.Gen.facts, Cert.Ffn.Gen.facts, Cert.FfnIdeal.Gen.facts, Cert.FfnRefIdeal.Gen.facts,
    Cert.Glu.Gen.facts, Cert.GluIdeal.Gen.facts, Cert.GluRefIdeal.Gen.facts, Cert.Merge.Gen.facts, Cert.MergeIdeal.Gen.facts, Cert.MergeRefIdeal.Gen.facts,
    Cert.Qkv.Gen.facts, Cert.QkvIdeal.Gen.facts, Cert.QkvRefIdeal.Gen.facts,
    frame_attn, frame_attnIdeal, frame_attnRef, Cert.FfnBits.frame_holds, frame_ffnIdeal, frame_ffnRef,
    frame_glu, frame_gluIdeal, frame_gluRef, frame_merge, frame_mergeIdeal, frame_mergeRef,
    frame_qkv, frame_qkvIdeal, frame_qkvRef,
    preserves_attn, algebraic_attn, trivial, algebraic_ffn,
    trivial, algebraic_glu, trivial, algebraic_merge, trivial, algebraic_qkv⟩

end Cert.Proof

end
